-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S96x1x8192 : Shape := ⟨3, ![96, 1, 8192]⟩
abbrev S7424x4096 : Shape := ⟨2, ![7424, 4096]⟩
abbrev S7424x256 : Shape := ⟨2, ![7424, 256]⟩
abbrev S8192x3712 : Shape := ⟨2, ![8192, 3712]⟩
abbrev S8192x232 : Shape := ⟨2, ![8192, 232]⟩
abbrev S96x8192 : Shape := ⟨2, ![96, 8192]⟩
abbrev S96x7424 : Shape := ⟨2, ![96, 7424]⟩
abbrev S256x4096 : Shape := ⟨2, ![256, 4096]⟩
abbrev S256x256 : Shape := ⟨2, ![256, 256]⟩
abbrev S96x256 : Shape := ⟨2, ![96, 256]⟩
abbrev S256x128 : Shape := ⟨2, ![256, 128]⟩
abbrev S128x256 : Shape := ⟨2, ![128, 256]⟩
abbrev S32x256 : Shape := ⟨2, ![32, 256]⟩
abbrev S1x256 : Shape := ⟨2, ![1, 256]⟩
abbrev S16x256 : Shape := ⟨2, ![16, 256]⟩
abbrev S232x8192 : Shape := ⟨2, ![232, 8192]⟩
abbrev S512x3712 : Shape := ⟨2, ![512, 3712]⟩
abbrev S232x512 : Shape := ⟨2, ![232, 512]⟩
abbrev S96x512 : Shape := ⟨2, ![96, 512]⟩
abbrev S512x128 : Shape := ⟨2, ![512, 128]⟩
abbrev S128x512 : Shape := ⟨2, ![128, 512]⟩
abbrev S32x512 : Shape := ⟨2, ![32, 512]⟩
abbrev S1x512 : Shape := ⟨2, ![1, 512]⟩
abbrev S16x512 : Shape := ⟨2, ![16, 512]⟩
abbrev S256x512 : Shape := ⟨2, ![256, 512]⟩

abbrev nBuf : Space → Nat
  | .hbm => 15
  | .vmem => 29
  | .smem => 0
  | _ => 0

abbrev bufTy : (tb : Table) → Fin (tcTables nBuf tb) → BufTy
  | .hbm, ⟨0, _⟩ => ⟨S96x1x8192, .bf16⟩
  | .hbm, ⟨1, _⟩ => ⟨S7424x4096, .i8⟩
  | .hbm, ⟨2, _⟩ => ⟨S7424x256, .f16⟩
  | .hbm, ⟨3, _⟩ => ⟨S7424x256, .f16⟩
  | .hbm, ⟨4, _⟩ => ⟨S7424x4096, .i8⟩
  | .hbm, ⟨5, _⟩ => ⟨S7424x256, .f16⟩
  | .hbm, ⟨6, _⟩ => ⟨S7424x256, .f16⟩
  | .hbm, ⟨7, _⟩ => ⟨S8192x3712, .i8⟩
  | .hbm, ⟨8, _⟩ => ⟨S8192x232, .f16⟩
  | .hbm, ⟨9, _⟩ => ⟨S8192x232, .f16⟩
  | .hbm, ⟨10, _⟩ => ⟨S96x8192, .bf16⟩
  | .hbm, ⟨11, _⟩ => ⟨S96x7424, .bf16⟩
  | .hbm, ⟨12, _⟩ => ⟨S232x8192, .f16⟩
  | .hbm, ⟨13, _⟩ => ⟨S232x8192, .f16⟩
  | .hbm, ⟨14, _⟩ => ⟨S96x8192, .bf16⟩
  | .local _ .vmem, ⟨0, _⟩ => ⟨S96x8192, .bf16⟩
  | .local _ .vmem, ⟨1, _⟩ => ⟨S256x4096, .i8⟩
  | .local _ .vmem, ⟨2, _⟩ => ⟨S256x4096, .i8⟩
  | .local _ .vmem, ⟨3, _⟩ => ⟨S256x256, .f16⟩
  | .local _ .vmem, ⟨4, _⟩ => ⟨S256x256, .f16⟩
  | .local _ .vmem, ⟨5, _⟩ => ⟨S256x256, .f16⟩
  | .local _ .vmem, ⟨6, _⟩ => ⟨S256x256, .f16⟩
  | .local _ .vmem, ⟨7, _⟩ => ⟨S256x4096, .i8⟩
  | .local _ .vmem, ⟨8, _⟩ => ⟨S256x4096, .i8⟩
  | .local _ .vmem, ⟨9, _⟩ => ⟨S256x256, .f16⟩
  | .local _ .vmem, ⟨10, _⟩ => ⟨S256x256, .f16⟩
  | .local _ .vmem, ⟨11, _⟩ => ⟨S256x256, .f16⟩
  | .local _ .vmem, ⟨12, _⟩ => ⟨S256x256, .f16⟩
  | .local _ .vmem, ⟨13, _⟩ => ⟨S96x256, .bf16⟩
  | .local _ .vmem, ⟨14, _⟩ => ⟨S96x256, .bf16⟩
  | .local _ .vmem, ⟨15, _⟩ => ⟨S96x8192, .bf16⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S96x7424, .bf16⟩
  | .local _ .vmem, ⟨21, _⟩ => ⟨S512x3712, .i8⟩
  | .local _ .vmem, ⟨22, _⟩ => ⟨S512x3712, .i8⟩
  | .local _ .vmem, ⟨23, _⟩ => ⟨S232x512, .f16⟩
  | .local _ .vmem, ⟨24, _⟩ => ⟨S232x512, .f16⟩
  | .local _ .vmem, ⟨25, _⟩ => ⟨S232x512, .f16⟩
  | .local _ .vmem, ⟨26, _⟩ => ⟨S232x512, .f16⟩
  | .local _ .vmem, ⟨27, _⟩ => ⟨S96x512, .bf16⟩
  | .local _ .vmem, ⟨28, _⟩ => ⟨S96x512, .bf16⟩
  | _, _ => ⟨S96x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc1_stg0_0 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc1_sem0_0 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨1, ![29], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S96x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S96x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S96x7424 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x3712 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S232x512 .f16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S232x512 .f16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S96x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S96x1x8192 : Shape := ⟨3, ![96, 1, 8192]⟩
abbrev S7424x4096 : Shape := ⟨2, ![7424, 4096]⟩
abbrev S7424x256 : Shape := ⟨2, ![7424, 256]⟩
abbrev S8192x3712 : Shape := ⟨2, ![8192, 3712]⟩
abbrev S8192x232 : Shape := ⟨2, ![8192, 232]⟩
abbrev S96x8192 : Shape := ⟨2, ![96, 8192]⟩
abbrev S7424x256x1 : Shape := ⟨3, ![7424, 256, 1]⟩
abbrev S7424x256x16 : Shape := ⟨3, ![7424, 256, 16]⟩
abbrev S96x256x2x16 : Shape := ⟨4, ![96, 256, 2, 16]⟩
abbrev S96x256x1x16 : Shape := ⟨4, ![96, 256, 1, 16]⟩
abbrev S96x256x16 : Shape := ⟨3, ![96, 256, 16]⟩
abbrev S96x4096 : Shape := ⟨2, ![96, 4096]⟩
abbrev S96x7424 : Shape := ⟨2, ![96, 7424]⟩
abbrev S8192x232x1 : Shape := ⟨3, ![8192, 232, 1]⟩
abbrev S8192x232x16 : Shape := ⟨3, ![8192, 232, 16]⟩
abbrev S96x232x2x16 : Shape := ⟨4, ![96, 232, 2, 16]⟩
abbrev S96x232x1x16 : Shape := ⟨4, ![96, 232, 1, 16]⟩
abbrev S96x232x16 : Shape := ⟨3, ![96, 232, 16]⟩
abbrev S96x3712 : Shape := ⟨2, ![96, 3712]⟩

abbrev nBuf : Space → Nat
  | .hbm => 12
  | .vmem => 11
  | .smem => 0
  | _ => 0

abbrev bufTy : (tb : Table) → Fin (tcTables nBuf tb) → BufTy
  | .hbm, ⟨0, _⟩ => ⟨S96x1x8192, .bf16⟩
  | .hbm, ⟨1, _⟩ => ⟨S7424x4096, .i8⟩
  | .hbm, ⟨2, _⟩ => ⟨S7424x256, .f16⟩
  | .hbm, ⟨3, _⟩ => ⟨S7424x256, .f16⟩
  | .hbm, ⟨4, _⟩ => ⟨S7424x4096, .i8⟩
  | .hbm, ⟨5, _⟩ => ⟨S7424x256, .f16⟩
  | .hbm, ⟨6, _⟩ => ⟨S7424x256, .f16⟩
  | .hbm, ⟨7, _⟩ => ⟨S8192x3712, .i8⟩
  | .hbm, ⟨8, _⟩ => ⟨S8192x232, .f16⟩
  | .hbm, ⟨9, _⟩ => ⟨S8192x232, .f16⟩
  | .hbm, ⟨10, _⟩ => ⟨S96x8192, .bf16⟩
  | .hbm, ⟨11, _⟩ => ⟨S96x8192, .bf16⟩
  | .local _ .vmem, ⟨0, _⟩ => ⟨S96x8192, .bf16⟩
  | .local _ .vmem, ⟨1, _⟩ => ⟨S7424x4096, .i8⟩
  | .local _ .vmem, ⟨2, _⟩ => ⟨S7424x256, .f16⟩
  | .local _ .vmem, ⟨3, _⟩ => ⟨S7424x256, .f16⟩
  | .local _ .vmem, ⟨4, _⟩ => ⟨S7424x4096, .i8⟩
  | .local _ .vmem, ⟨5, _⟩ => ⟨S7424x256, .f16⟩
  | .local _ .vmem, ⟨6, _⟩ => ⟨S7424x256, .f16⟩
  | .local _ .vmem, ⟨7, _⟩ => ⟨S8192x3712, .i8⟩
  | .local _ .vmem, ⟨8, _⟩ => ⟨S8192x232, .f16⟩
  | .local _ .vmem, ⟨9, _⟩ => ⟨S8192x232, .f16⟩
  | .local _ .vmem, ⟨10, _⟩ => ⟨S96x8192, .bf16⟩
  | _, _ => ⟨S96x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S96x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7424x4096 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7424x256 .f16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7424x256 .f16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7424x4096 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7424x256 .f16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7424x256 .f16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x3712 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x232 .f16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x232 .f16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S96x8192 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.RunKernel.UpBlocks.lean ====
/- The first call: its blocks, its one condition, and its buffers. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of long axes recurses once per coordinate
set_option maxRecDepth 16384

noncomputable section

namespace Cert.RunKernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the buffers' contents when the call starts
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 29 = 0 :=
  (fun t => by
    have ht : t.val < 29 := Nat.lt_of_lt_of_eq t.isLt N_0
    have e0 : (grid0.coords t 0).val = t.val / 1 % 29 := Pipeline.Grid.coords_val t 0 (by decide) rfl
    simp only [cond0_0, e0]
    word_cmp
   : ∀ t : Fin grid0.N, cond0_0 (grid0.coords t) ↔ t.val % 29 = 0)

/-! ## The kernel body on any staging memrefs: a subtype the run finds -/

/-- One staging buffer of output window 7, through which its contents are stated (`View.read_writes_of_cover`: the
    choice does not matter). -/
abbrev VO0_7 : View sig .tc .vmem S96x256 .bf16 := (Memref.whole cc0_stg7_0 : Memref sig .tc .vmem S96x256 .bf16).view
/-- Each window's current staging memref at point `t`, spelled as the pipeline passes it (`bodyAt0`), and its wholeness. -/
abbrev ms0_0 (t : Fin cfg0.N) : Memref sig .tc .vmem S96x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x4096 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x256 .f16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x256 .f16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S96x256 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S96x8192 .bf16 := Memref.whole cc0_scratch0
abbrev scM0_1 : Memref sig .tc .vmem S256x256 .f32 := Memref.whole cc0_scratch1
abbrev scM0_2 : Memref sig .tc .vmem S256x256 .f32 := Memref.whole cc0_scratch2
abbrev scM0_3 : Memref sig .tc .vmem S256x256 .f32 := Memref.whole cc0_scratch3
abbrev scM0_4 : Memref sig .tc .vmem S256x256 .f32 := Memref.whole cc0_scratch4
/-- The scratch `arg9` the kernel carries between points, as a view: what it holds is stated through it. -/
abbrev VS0_0 : View sig .tc .vmem S96x8192 .bf16 := scM0_0.view

theorem sep_assoc_eq {M : Type _} [RA M] (P Q R : sProp M) : iprop((P ∗ Q) ∗ R) = iprop(P ∗ Q ∗ R) :=
  Idealize.SL.BI.equiv_iff.mp ⟨Idealize.SL.BI.sep_assoc, Idealize.SL.BI.sep_assoc'⟩

/-- What the first call neither stages nor uses as scratch: the second call's staging buffers, at anything, and the generator register. -/
def rest0 (c : Dev nD) : sProp (MT nD τ sig Unit (Elt F) ℕ (UR sig nD τ) ℕ) :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f)
    ∗ ∃ r, prngReg c r)

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ rest0 c) := by
  unfold Pipeline.ΦA rest0; rw [scopedRest0_eq]
  simp only [scM0_0, scM0_1, scM0_2, scM0_3, scM0_4, owns_whole, sep_assoc_eq]; rfl

end Cert.RunKernel

end
-- ==== Proof.RunKernel.UpFirst.lean ====
/- The first call's body at the first point, where it lays the activations out. -/
module

public import proofs.«01_k».proof.Proof.RunKernel.UpBlocks

@[expose] public section

-- membership in a rectangle of long axes recurses once per coordinate
set_option maxRecDepth 16384

noncomputable section

namespace Cert.RunKernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- (the run's proof term is large: the definition's epilogue — `abstractNestedProofs` — walks it past the default budget)
set_option maxHeartbeats 11156000 in
/-- What the body's stores leave in each output's staging memref, as pieces (last first) WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S96x8192 .bf16) (harg1 : arg1.IsWhole) (arg2 : Memref sig .tc .vmem S256x4096 .i8) (harg2 : arg2.IsWhole) (arg3 : Memref sig .tc .vmem S256x256 .f16) (harg3 : arg3.IsWhole) (arg4 : Memref sig .tc .vmem S256x256 .f16) (harg4 : arg4.IsWhole) (arg5 : Memref sig .tc .vmem S256x4096 .i8) (harg5 : arg5.IsWhole) (arg6 : Memref sig .tc .vmem S256x256 .f16) (harg6 : arg6.IsWhole) (arg7 : Memref sig .tc .vmem S256x256 .f16) (harg7 : arg7.IsWhole) (arg8 : Memref sig .tc .vmem S96x256 .bf16) (harg8 : arg8.IsWhole) (arg9 : Memref sig .tc .vmem S96x8192 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (hc0 : cond0_0 i)
    (x0 : Vec F S96x8192 .bf16) (x1 : Vec F S256x4096 .i8) (x2 : Vec F S256x256 .f16) (x3 : Vec F S256x256 .f16) (x4 : Vec F S256x4096 .i8) (x5 : Vec F S256x256 .f16) (x6 : Vec F S256x256 .f16) :
    Σ' (L7 : List (View.Piece (Elt F) S96x256 .bf16)), Σ' (LS0 : List (View.Piece (Elt F) S96x8192 .bf16)), Σ' (LT1 : List (View.Piece (Elt F) S256x256 .f32)), Σ' (LT2 : List (View.Piece (Elt F) S256x256 .f32)), Σ' (LT3 : List (View.Piece (Elt F) S256x256 .f32)), { LT4 : List (View.Piece (Elt F) S256x256 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LT1) ∗ (∃ f, arg11.view.loc (c : Thread nD τ) ↦[arg11.view.set]{fullShare} arg11.view.writes (Elt F) f LT2) ∗ (∃ f, arg12.view.loc (c : Thread nD τ) ↦[arg12.view.set]{fullShare} arg12.view.writes (Elt F) f LT3) ∗ (∃ f, arg13.view.loc (c : Thread nD τ) ↦[arg13.view.set]{fullShare} arg13.view.writes (Elt F) f LT4)) -∗ K ⟨⟩))
          ⊢ wp frame (wpE (defs₀ (F := F)) Variants.none c none) E (cc0_q4_up i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc0_q4_up_eq_skeleton]; unfold cc0_q4_up_skel
    simp only [k0_part241_eq_skeleton, k0_part8_eq_skeleton, k0_part9_eq_skeleton, k0_part10_eq_skeleton, k0_part7_eq_skeleton, k0_part1_eq_skeleton, k0_part2_eq_skeleton, k0_part3_eq_skeleton, k0_part4_eq_skeleton, k0_part5_eq_skeleton, k0_part6_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part242_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part243_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part244_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexists _; iexact HS0
    isplitl [HS1]; · iexists _; iexact HS1
    isplitl [HS2]; · iexists _; iexact HS2
    isplitl [HS3]; · iexists _; iexact HS3
    iexists _; iexact HS4

end Cert.RunKernel

end
-- ==== Proof.RunKernel.UpLater.lean ====
/- The first call's body at the later points, where it finds the activations laid out. -/
module

public import proofs.«01_k».proof.Proof.RunKernel.UpFirst

@[expose] public section

-- membership in a rectangle of long axes recurses once per coordinate
set_option maxRecDepth 16384

noncomputable section

namespace Cert.RunKernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- (the run's proof term is large: the definition's epilogue — `abstractNestedProofs` — walks it past the default budget)
set_option maxHeartbeats 10588000 in
/-- What the body's stores leave in each output's staging memref, as pieces (last first) WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S96x8192 .bf16) (harg1 : arg1.IsWhole) (arg2 : Memref sig .tc .vmem S256x4096 .i8) (harg2 : arg2.IsWhole) (arg3 : Memref sig .tc .vmem S256x256 .f16) (harg3 : arg3.IsWhole) (arg4 : Memref sig .tc .vmem S256x256 .f16) (harg4 : arg4.IsWhole) (arg5 : Memref sig .tc .vmem S256x4096 .i8) (harg5 : arg5.IsWhole) (arg6 : Memref sig .tc .vmem S256x256 .f16) (harg6 : arg6.IsWhole) (arg7 : Memref sig .tc .vmem S256x256 .f16) (harg7 : arg7.IsWhole) (arg8 : Memref sig .tc .vmem S96x256 .bf16) (harg8 : arg8.IsWhole) (arg9 : Memref sig .tc .vmem S96x8192 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (hc0 : ¬cond0_0 i)
    (x0 : Vec F S96x8192 .bf16) (x1 : Vec F S256x4096 .i8) (x2 : Vec F S256x256 .f16) (x3 : Vec F S256x256 .f16) (x4 : Vec F S256x4096 .i8) (x5 : Vec F S256x256 .f16) (x6 : Vec F S256x256 .f16) (xs0 : Vec F S96x8192 .bf16) :
    Σ' (L7 : List (View.Piece (Elt F) S96x256 .bf16)), Σ' (LS0 : List (View.Piece (Elt F) S96x8192 .bf16)), Σ' (LT1 : List (View.Piece (Elt F) S256x256 .f32)), Σ' (LT2 : List (View.Piece (Elt F) S256x256 .f32)), Σ' (LT3 : List (View.Piece (Elt F) S256x256 .f32)), { LT4 : List (View.Piece (Elt F) S256x256 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xs0 ∗ (∃ f, arg10.view.loc (c : Thread nD τ) ↦[arg10.view.set]{fullShare} arg10.view.writes (Elt F) f LT1) ∗ (∃ f, arg11.view.loc (c : Thread nD τ) ↦[arg11.view.set]{fullShare} arg11.view.writes (Elt F) f LT2) ∗ (∃ f, arg12.view.loc (c : Thread nD τ) ↦[arg12.view.set]{fullShare} arg12.view.writes (Elt F) f LT3) ∗ (∃ f, arg13.view.loc (c : Thread nD τ) ↦[arg13.view.set]{fullShare} arg13.view.writes (Elt F) f LT4)) -∗ K ⟨⟩))
          ⊢ wp frame (wpE (defs₀ (F := F)) Variants.none c none) E (cc0_q4_up i arg1 harg1 arg2 harg2 arg3 harg3 arg4 harg4 arg5 harg5 arg6 harg6 arg7 harg7 arg8 harg8 arg9 harg9 arg10 harg10 arg11 harg11 arg12 harg12 arg13 harg13) K } := by
  refine ⟨?_, [], ?_, ?_, ?_, ?_, fun E K => ?run⟩
  case run =>
    simp only [cc0_q4_up_eq_skeleton]; unfold cc0_q4_up_skel
    simp only [k0_part241_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part242_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part243_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part244_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]
    · iexists _; isplitr; · ipureintro; exact harg9.read_unread _
      iexact HS0
    isplitl [HS1]; · iexists _; iexact HS1
    isplitl [HS2]; · iexists _; iexact HS2
    isplitl [HS3]; · iexists _; iexact HS3
    iexists _; iexact HS4

end Cert.RunKernel

end
-- ==== Proof.RunKernel.Up.lean ====
/- The first call: what its result block and its carried activations hold after each point, and its body at every point. -/
module

public import proofs.«01_k».proof.Proof.RunKernel.UpLater

@[expose] public section

-- membership in a rectangle of long axes recurses once per coordinate
set_option maxRecDepth 16384

noncomputable section

namespace Cert.RunKernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the buffers' contents when the call starts
variable (V : (c : Dev nD) → (b : Ref sig .tc) → Buf (Elt F) ((c : Thread nD τ).loc b))

/-- Case A's pieces for output 7 tile its block (1 store of `S96x256`, checked by the kernel's evaluation: Lib/Ring.lean `Piece.tiledL`, linear in the pieces, through a loop's `@[irreducible]` trip theorem too), so they cover it. -/
theorem cover0_A_7 (c : Dev nD) (i : grid0.Coords) (arg1 : Memref sig .tc .vmem S96x8192 .bf16) (harg1 : arg1.IsWhole) (arg2 : Memref sig .tc .vmem S256x4096 .i8) (harg2 : arg2.IsWhole) (arg3 : Memref sig .tc .vmem S256x256 .f16) (harg3 : arg3.IsWhole) (arg4 : Memref sig .tc .vmem S256x256 .f16) (harg4 : arg4.IsWhole) (arg5 : Memref sig .tc .vmem S256x4096 .i8) (harg5 : arg5.IsWhole) (arg6 : Memref sig .tc .vmem S256x256 .f16) (harg6 : arg6.IsWhole) (arg7 : Memref sig .tc .vmem S256x256 .f16) (harg7 : arg7.IsWhole) (arg8 : Memref sig .tc .vmem S96x256 .bf16) (harg8 : arg8.IsWhole) (arg9 : Memref sig .tc .vmem S96x8192 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (hc0 : cond0_0 i)
    (x0 : Vec F S96x8192 .bf16) (x1 : Vec F S256x4096 .i8) (x2 : Vec F S256x256 .f16) (x3 : Vec F S256x256 .f16) (x4 : Vec F S256x4096 .i8) (x5 : Vec F S256x256 .f16) (x6 : Vec F S256x256 .f16) (y : S96x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).1 S96x256.size (by sl_kernel_rfl) y

/-- What case A leaves in output 7's staging buffer: its pieces read back over junk. -/
def out0_A_7 (c : Dev nD) (i : grid0.Coords) (arg1 : Memref sig .tc .vmem S96x8192 .bf16) (harg1 : arg1.IsWhole) (arg2 : Memref sig .tc .vmem S256x4096 .i8) (harg2 : arg2.IsWhole) (arg3 : Memref sig .tc .vmem S256x256 .f16) (harg3 : arg3.IsWhole) (arg4 : Memref sig .tc .vmem S256x256 .f16) (harg4 : arg4.IsWhole) (arg5 : Memref sig .tc .vmem S256x4096 .i8) (harg5 : arg5.IsWhole) (arg6 : Memref sig .tc .vmem S256x256 .f16) (harg6 : arg6.IsWhole) (arg7 : Memref sig .tc .vmem S256x256 .f16) (harg7 : arg7.IsWhole) (arg8 : Memref sig .tc .vmem S96x256 .bf16) (harg8 : arg8.IsWhole) (arg9 : Memref sig .tc .vmem S96x8192 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (hc0 : cond0_0 i)
    (x0 : Vec F S96x8192 .bf16) (x1 : Vec F S256x4096 .i8) (x2 : Vec F S256x256 .f16) (x3 : Vec F S256x256 .f16) (x4 : Vec F S256x4096 .i8) (x5 : Vec F S256x256 .f16) (x6 : Vec F S256x256 .f16) : Vec F S96x256 .bf16 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).1)

/-- Case A's pieces for scratch `arg9`, which the kernel carries between points, cover it: 32 pieces of `S96x256` tiling it (Lib/Ring.lean `Piece.tiledL`). -/
theorem scover0_A_0 (c : Dev nD) (i : grid0.Coords) (arg1 : Memref sig .tc .vmem S96x8192 .bf16) (harg1 : arg1.IsWhole) (arg2 : Memref sig .tc .vmem S256x4096 .i8) (harg2 : arg2.IsWhole) (arg3 : Memref sig .tc .vmem S256x256 .f16) (harg3 : arg3.IsWhole) (arg4 : Memref sig .tc .vmem S256x256 .f16) (harg4 : arg4.IsWhole) (arg5 : Memref sig .tc .vmem S256x4096 .i8) (harg5 : arg5.IsWhole) (arg6 : Memref sig .tc .vmem S256x256 .f16) (harg6 : arg6.IsWhole) (arg7 : Memref sig .tc .vmem S256x256 .f16) (harg7 : arg7.IsWhole) (arg8 : Memref sig .tc .vmem S96x256 .bf16) (harg8 : arg8.IsWhole) (arg9 : Memref sig .tc .vmem S96x8192 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (hc0 : cond0_0 i)
    (x0 : Vec F S96x8192 .bf16) (x1 : Vec F S256x4096 .i8) (x2 : Vec F S256x256 .f16) (x3 : Vec F S256x256 .f16) (x4 : Vec F S256x4096 .i8) (x5 : Vec F S256x256 .f16) (x6 : Vec F S256x256 .f16) (y : S96x8192.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).2.1 S96x256.size (by sl_kernel_rfl) y

/-- What case A leaves in scratch `arg9`: its pieces read back over junk. -/
def sout0_A_0 (c : Dev nD) (i : grid0.Coords) (arg1 : Memref sig .tc .vmem S96x8192 .bf16) (harg1 : arg1.IsWhole) (arg2 : Memref sig .tc .vmem S256x4096 .i8) (harg2 : arg2.IsWhole) (arg3 : Memref sig .tc .vmem S256x256 .f16) (harg3 : arg3.IsWhole) (arg4 : Memref sig .tc .vmem S256x256 .f16) (harg4 : arg4.IsWhole) (arg5 : Memref sig .tc .vmem S256x4096 .i8) (harg5 : arg5.IsWhole) (arg6 : Memref sig .tc .vmem S256x256 .f16) (harg6 : arg6.IsWhole) (arg7 : Memref sig .tc .vmem S256x256 .f16) (harg7 : arg7.IsWhole) (arg8 : Memref sig .tc .vmem S96x256 .bf16) (harg8 : arg8.IsWhole) (arg9 : Memref sig .tc .vmem S96x8192 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (hc0 : cond0_0 i)
    (x0 : Vec F S96x8192 .bf16) (x1 : Vec F S256x4096 .i8) (x2 : Vec F S256x256 .f16) (x3 : Vec F S256x256 .f16) (x4 : Vec F S256x4096 .i8) (x5 : Vec F S256x256 .f16) (x6 : Vec F S256x256 .f16) : Vec F S96x8192 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).2.1)

/-- Case B's pieces for output 7 tile its block (1 store of `S96x256`, checked by the kernel's evaluation: Lib/Ring.lean `Piece.tiledL`, linear in the pieces, through a loop's `@[irreducible]` trip theorem too), so they cover it. -/
theorem cover0_B_7 (c : Dev nD) (i : grid0.Coords) (arg1 : Memref sig .tc .vmem S96x8192 .bf16) (harg1 : arg1.IsWhole) (arg2 : Memref sig .tc .vmem S256x4096 .i8) (harg2 : arg2.IsWhole) (arg3 : Memref sig .tc .vmem S256x256 .f16) (harg3 : arg3.IsWhole) (arg4 : Memref sig .tc .vmem S256x256 .f16) (harg4 : arg4.IsWhole) (arg5 : Memref sig .tc .vmem S256x4096 .i8) (harg5 : arg5.IsWhole) (arg6 : Memref sig .tc .vmem S256x256 .f16) (harg6 : arg6.IsWhole) (arg7 : Memref sig .tc .vmem S256x256 .f16) (harg7 : arg7.IsWhole) (arg8 : Memref sig .tc .vmem S96x256 .bf16) (harg8 : arg8.IsWhole) (arg9 : Memref sig .tc .vmem S96x8192 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (hc0 : ¬cond0_0 i)
    (x0 : Vec F S96x8192 .bf16) (x1 : Vec F S256x4096 .i8) (x2 : Vec F S256x256 .f16) (x3 : Vec F S256x256 .f16) (x4 : Vec F S256x4096 .i8) (x5 : Vec F S256x256 .f16) (x6 : Vec F S256x256 .f16) (xs0 : Vec F S96x8192 .bf16) (y : S96x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).1 S96x256.size (by sl_kernel_rfl) y

/-- What case B leaves in output 7's staging buffer: its pieces read back over junk. -/
def out0_B_7 (c : Dev nD) (i : grid0.Coords) (arg1 : Memref sig .tc .vmem S96x8192 .bf16) (harg1 : arg1.IsWhole) (arg2 : Memref sig .tc .vmem S256x4096 .i8) (harg2 : arg2.IsWhole) (arg3 : Memref sig .tc .vmem S256x256 .f16) (harg3 : arg3.IsWhole) (arg4 : Memref sig .tc .vmem S256x256 .f16) (harg4 : arg4.IsWhole) (arg5 : Memref sig .tc .vmem S256x4096 .i8) (harg5 : arg5.IsWhole) (arg6 : Memref sig .tc .vmem S256x256 .f16) (harg6 : arg6.IsWhole) (arg7 : Memref sig .tc .vmem S256x256 .f16) (harg7 : arg7.IsWhole) (arg8 : Memref sig .tc .vmem S96x256 .bf16) (harg8 : arg8.IsWhole) (arg9 : Memref sig .tc .vmem S96x8192 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (hc0 : ¬cond0_0 i)
    (x0 : Vec F S96x8192 .bf16) (x1 : Vec F S256x4096 .i8) (x2 : Vec F S256x256 .f16) (x3 : Vec F S256x256 .f16) (x4 : Vec F S256x4096 .i8) (x5 : Vec F S256x256 .f16) (x6 : Vec F S256x256 .f16) (xs0 : Vec F S96x8192 .bf16) : Vec F S96x256 .bf16 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).1)

/-- Case B stores nothing into scratch `arg9`: it holds what the point before left. -/
def sout0_B_0 (c : Dev nD) (i : grid0.Coords) (arg1 : Memref sig .tc .vmem S96x8192 .bf16) (harg1 : arg1.IsWhole) (arg2 : Memref sig .tc .vmem S256x4096 .i8) (harg2 : arg2.IsWhole) (arg3 : Memref sig .tc .vmem S256x256 .f16) (harg3 : arg3.IsWhole) (arg4 : Memref sig .tc .vmem S256x256 .f16) (harg4 : arg4.IsWhole) (arg5 : Memref sig .tc .vmem S256x4096 .i8) (harg5 : arg5.IsWhole) (arg6 : Memref sig .tc .vmem S256x256 .f16) (harg6 : arg6.IsWhole) (arg7 : Memref sig .tc .vmem S256x256 .f16) (harg7 : arg7.IsWhole) (arg8 : Memref sig .tc .vmem S96x256 .bf16) (harg8 : arg8.IsWhole) (arg9 : Memref sig .tc .vmem S96x8192 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (hc0 : ¬cond0_0 i)
    (x0 : Vec F S96x8192 .bf16) (x1 : Vec F S256x4096 .i8) (x2 : Vec F S256x256 .f16) (x3 : Vec F S256x256 .f16) (x4 : Vec F S256x4096 .i8) (x5 : Vec F S256x256 .f16) (x6 : Vec F S256x256 .f16) (xs0 : Vec F S96x8192 .bf16) : Vec F S96x8192 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S96x256 .bf16 × Vec F S96x8192 .bf16
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h0 : (n + 1) % 29 = 0 then
      (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩))
    else
      (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2)

/-- `outsAt0` at a point of case A: that case's contents. -/
theorem outsAt0_A (c : Dev nD) (t : Fin cfg0.N) (h0 : t.val % 29 = 0) :
    outsAt0 V c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk0 V c 0 t) (iblk0 V c 1 t) (iblk0 V c 2 t) (iblk0 V c 3 t) (iblk0 V c 4 t) (iblk0 V c 5 t) (iblk0 V c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 29 = 0) :
    outsAt0 V c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 V c n hn).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ rest0 c)

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ rest0 c) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ rest0 c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (Lib/Pipeline.lean `BodyObligation`'s precondition, the windows one by one), -/
def bodyPre0 (c : Dev nD) (t : Fin cfg0.N) : sProp (MT nD τ sig Unit (Elt F) ℕ (UR sig nD τ) ℕ) :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp (MT nD τ sig Unit (Elt F) ℕ (UR sig nD τ) ℕ) :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl,
    after0_0, after0_1, after0_2, after0_3, after0_4, after0_5, after0_6, after0_7]
  rw [show (dat0 V c).Φ t.succ = PhiS V c (t.val + 1) t.isLt from rfl, PhiS_succ]
  have hN : t.val < 29 := lt_of_lt_of_eq t.isLt (show cfg0.N = 29 from N_0)
  by_cases h0 : t.val % 29 = 0
  · by_cases hz : t.val = 0
    · rw [PhiS_castSucc V c t, PhiS_zero V c _ _ hz, PhiA0_eq]
      rw [outsAt0_A V c t h0]
      unfold out0_A_7 sout0_A_0; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t) (iblk0 V c 6 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, ⟨%e7, H7⟩, ⟨%es0, HS0⟩, ⟨%fT1, HS1⟩, ⟨%fT2, HS2⟩, ⟨%fT3, HS3⟩, ⟨%fT4, HS4⟩⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _)
          isplitl [HS1]
          · iexists _; unfold owns; iexists _; isplitr
            swap; · iexact HS1
            ipureintro; rfl
          isplitl [HS2]
          · iexists _; unfold owns; iexists _; isplitr
            swap; · iexact HS2
            ipureintro; rfl
          isplitl [HS3]
          · iexists _; unfold owns; iexists _; isplitr
            swap; · iexact HS3
            ipureintro; rfl
          iexists _; unfold owns; iexists _; isplitr
          swap; · iexact HS4
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_A_7 c _ _ _ _ _ _ _ _ _ _ _ _ _ _ _ _ _ _ _ _ _ _ _ _ _ _ _ _ _ _ _ _ _ _ _)
    · exfalso; have hN : t.val < 29 := lt_of_lt_of_eq t.isLt (show cfg0.N = 29 from N_0); omega
  · by_cases hz : t.val = 0
    · exfalso; have hN : t.val < 29 := lt_of_lt_of_eq t.isLt (show cfg0.N = 29 from N_0); omega
    · rw [PhiS_castSucc V c t, PhiS_pos V c _ _ hz]
      rw [outsAt0_B V c t h0]
      unfold out0_B_7 sout0_B_0; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) (iblk0 V c 6 t) _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, ⟨%e7, H7⟩, HS0, ⟨%fT1, HS1⟩, ⟨%fT2, HS2⟩, ⟨%fT3, HS3⟩, ⟨%fT4, HS4⟩⟩
      isplitl [HS0 HS1 HS2 HS3 HS4 Hg]
      · isplitl [HS0 HS1 HS2 HS3 HS4]
        · isplitl [HS0]
          · iexact HS0
          isplitl [HS1]
          · iexists _; unfold owns; iexists _; isplitr
            swap; · iexact HS1
            ipureintro; rfl
          isplitl [HS2]
          · iexists _; unfold owns; iexists _; isplitr
            swap; · iexact HS2
            ipureintro; rfl
          isplitl [HS3]
          · iexists _; unfold owns; iexists _; isplitr
            swap; · iexact HS3
            ipureintro; rfl
          iexists _; unfold owns; iexists _; isplitr
          swap; · iexact HS4
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexact HS1
    isplitl [HS2]
    · iexact HS2
    isplitl [HS3]
    · iexact HS3
    iexact HS4
  iexact Hg

/-- The same after the last point. -/
theorem hout0 (c : Dev nD) : (dat0 V c).Φ (Fin.last cfg0.N) ⊢ Pipeline.ΦA spec0 c :=
  Phi_out V c _ (by rw [Fin.val_last]; have : cfg0.N = 29 := N_0; omega)

end Cert.RunKernel

end
-- ==== Proof.RunKernel.Down.lean ====
/- The second call: its blocks, what its result block holds after a point, and its body at every point. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.UnfoldOut

@[expose] public section

-- membership in a rectangle of long axes recurses once per coordinate
set_option maxRecDepth 16384

noncomputable section

namespace Cert.RunKernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the buffers' contents when the call starts
variable (V : (c : Dev nD) → (b : Ref sig .tc) → Buf (Elt F) ((c : Thread nD τ).loc b))

/-! # REGION 1 of @main: custom_call 1, `cc1_q4_down` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S232x512 := Rect.unit (s := S232x512) ![0, 0] S232x512.size inb_S232x512_S232x512_0_0
abbrev r1_1 : Rect S96x7424 := Rect.unit (s := S96x7424) ![0, 0] S96x256.size inb_S96x7424_S96x256_0_0
abbrev r1_2 : Rect S512x3712 := Rect.unit (s := S512x3712) ![0, 0] S512x128.size inb_S512x3712_S512x128_0_0
abbrev r1_3 : Rect S96x7424 := Rect.unit (s := S96x7424) ![0, 256] S96x256.size inb_S96x7424_S96x256_0_256
abbrev r1_4 : Rect S512x3712 := Rect.unit (s := S512x3712) ![0, 128] S512x128.size inb_S512x3712_S512x128_0_128
abbrev r1_5 : Rect S96x7424 := Rect.unit (s := S96x7424) ![0, 512] S96x256.size inb_S96x7424_S96x256_0_512
abbrev r1_6 : Rect S512x3712 := Rect.unit (s := S512x3712) ![0, 256] S512x128.size inb_S512x3712_S512x128_0_256
abbrev r1_7 : Rect S96x7424 := Rect.unit (s := S96x7424) ![0, 768] S96x256.size inb_S96x7424_S96x256_0_768
abbrev r1_8 : Rect S512x3712 := Rect.unit (s := S512x3712) ![0, 384] S512x128.size inb_S512x3712_S512x128_0_384
abbrev r1_9 : Rect S96x7424 := Rect.unit (s := S96x7424) ![0, 1024] S96x256.size inb_S96x7424_S96x256_0_1024
abbrev r1_10 : Rect S512x3712 := Rect.unit (s := S512x3712) ![0, 512] S512x128.size inb_S512x3712_S512x128_0_512
abbrev r1_11 : Rect S96x7424 := Rect.unit (s := S96x7424) ![0, 1280] S96x256.size inb_S96x7424_S96x256_0_1280
abbrev r1_12 : Rect S512x3712 := Rect.unit (s := S512x3712) ![0, 640] S512x128.size inb_S512x3712_S512x128_0_640
abbrev r1_13 : Rect S96x7424 := Rect.unit (s := S96x7424) ![0, 1536] S96x256.size inb_S96x7424_S96x256_0_1536
abbrev r1_14 : Rect S512x3712 := Rect.unit (s := S512x3712) ![0, 768] S512x128.size inb_S512x3712_S512x128_0_768
abbrev r1_15 : Rect S96x7424 := Rect.unit (s := S96x7424) ![0, 1792] S96x256.size inb_S96x7424_S96x256_0_1792
abbrev r1_16 : Rect S512x3712 := Rect.unit (s := S512x3712) ![0, 896] S512x128.size inb_S512x3712_S512x128_0_896
abbrev r1_17 : Rect S96x7424 := Rect.unit (s := S96x7424) ![0, 2048] S96x256.size inb_S96x7424_S96x256_0_2048
abbrev r1_18 : Rect S512x3712 := Rect.unit (s := S512x3712) ![0, 1024] S512x128.size inb_S512x3712_S512x128_0_1024
abbrev r1_19 : Rect S96x7424 := Rect.unit (s := S96x7424) ![0, 2304] S96x256.size inb_S96x7424_S96x256_0_2304
abbrev r1_20 : Rect S512x3712 := Rect.unit (s := S512x3712) ![0, 1152] S512x128.size inb_S512x3712_S512x128_0_1152
abbrev r1_21 : Rect S96x7424 := Rect.unit (s := S96x7424) ![0, 2560] S96x256.size inb_S96x7424_S96x256_0_2560
abbrev r1_22 : Rect S512x3712 := Rect.unit (s := S512x3712) ![0, 1280] S512x128.size inb_S512x3712_S512x128_0_1280
abbrev r1_23 : Rect S96x7424 := Rect.unit (s := S96x7424) ![0, 2816] S96x256.size inb_S96x7424_S96x256_0_2816
abbrev r1_24 : Rect S512x3712 := Rect.unit (s := S512x3712) ![0, 1408] S512x128.size inb_S512x3712_S512x128_0_1408
abbrev r1_25 : Rect S96x7424 := Rect.unit (s := S96x7424) ![0, 3072] S96x256.size inb_S96x7424_S96x256_0_3072
abbrev r1_26 : Rect S512x3712 := Rect.unit (s := S512x3712) ![0, 1536] S512x128.size inb_S512x3712_S512x128_0_1536
abbrev r1_27 : Rect S96x7424 := Rect.unit (s := S96x7424) ![0, 3328] S96x256.size inb_S96x7424_S96x256_0_3328
abbrev r1_28 : Rect S512x3712 := Rect.unit (s := S512x3712) ![0, 1664] S512x128.size inb_S512x3712_S512x128_0_1664
abbrev r1_29 : Rect S96x7424 := Rect.unit (s := S96x7424) ![0, 3584] S96x256.size inb_S96x7424_S96x256_0_3584
abbrev r1_30 : Rect S512x3712 := Rect.unit (s := S512x3712) ![0, 1792] S512x128.size inb_S512x3712_S512x128_0_1792
abbrev r1_31 : Rect S96x7424 := Rect.unit (s := S96x7424) ![0, 3840] S96x256.size inb_S96x7424_S96x256_0_3840
abbrev r1_32 : Rect S512x3712 := Rect.unit (s := S512x3712) ![0, 1920] S512x128.size inb_S512x3712_S512x128_0_1920
abbrev r1_33 : Rect S96x7424 := Rect.unit (s := S96x7424) ![0, 4096] S96x256.size inb_S96x7424_S96x256_0_4096
abbrev r1_34 : Rect S512x3712 := Rect.unit (s := S512x3712) ![0, 2048] S512x128.size inb_S512x3712_S512x128_0_2048
abbrev r1_35 : Rect S96x7424 := Rect.unit (s := S96x7424) ![0, 4352] S96x256.size inb_S96x7424_S96x256_0_4352
abbrev r1_36 : Rect S512x3712 := Rect.unit (s := S512x3712) ![0, 2176] S512x128.size inb_S512x3712_S512x128_0_2176
abbrev r1_37 : Rect S96x7424 := Rect.unit (s := S96x7424) ![0, 4608] S96x256.size inb_S96x7424_S96x256_0_4608
abbrev r1_38 : Rect S512x3712 := Rect.unit (s := S512x3712) ![0, 2304] S512x128.size inb_S512x3712_S512x128_0_2304
abbrev r1_39 : Rect S96x7424 := Rect.unit (s := S96x7424) ![0, 4864] S96x256.size inb_S96x7424_S96x256_0_4864
abbrev r1_40 : Rect S512x3712 := Rect.unit (s := S512x3712) ![0, 2432] S512x128.size inb_S512x3712_S512x128_0_2432
abbrev r1_41 : Rect S96x7424 := Rect.unit (s := S96x7424) ![0, 5120] S96x256.size inb_S96x7424_S96x256_0_5120
abbrev r1_42 : Rect S512x3712 := Rect.unit (s := S512x3712) ![0, 2560] S512x128.size inb_S512x3712_S512x128_0_2560
abbrev r1_43 : Rect S96x7424 := Rect.unit (s := S96x7424) ![0, 5376] S96x256.size inb_S96x7424_S96x256_0_5376
abbrev r1_44 : Rect S512x3712 := Rect.unit (s := S512x3712) ![0, 2688] S512x128.size inb_S512x3712_S512x128_0_2688
abbrev r1_45 : Rect S96x7424 := Rect.unit (s := S96x7424) ![0, 5632] S96x256.size inb_S96x7424_S96x256_0_5632
abbrev r1_46 : Rect S512x3712 := Rect.unit (s := S512x3712) ![0, 2816] S512x128.size inb_S512x3712_S512x128_0_2816
abbrev r1_47 : Rect S96x7424 := Rect.unit (s := S96x7424) ![0, 5888] S96x256.size inb_S96x7424_S96x256_0_5888
abbrev r1_48 : Rect S512x3712 := Rect.unit (s := S512x3712) ![0, 2944] S512x128.size inb_S512x3712_S512x128_0_2944
abbrev r1_49 : Rect S96x7424 := Rect.unit (s := S96x7424) ![0, 6144] S96x256.size inb_S96x7424_S96x256_0_6144
abbrev r1_50 : Rect S512x3712 := Rect.unit (s := S512x3712) ![0, 3072] S512x128.size inb_S512x3712_S512x128_0_3072
abbrev r1_51 : Rect S96x7424 := Rect.unit (s := S96x7424) ![0, 6400] S96x256.size inb_S96x7424_S96x256_0_6400
abbrev r1_52 : Rect S512x3712 := Rect.unit (s := S512x3712) ![0, 3200] S512x128.size inb_S512x3712_S512x128_0_3200
abbrev r1_53 : Rect S96x7424 := Rect.unit (s := S96x7424) ![0, 6656] S96x256.size inb_S96x7424_S96x256_0_6656
abbrev r1_54 : Rect S512x3712 := Rect.unit (s := S512x3712) ![0, 3328] S512x128.size inb_S512x3712_S512x128_0_3328
abbrev r1_55 : Rect S96x7424 := Rect.unit (s := S96x7424) ![0, 6912] S96x256.size inb_S96x7424_S96x256_0_6912
abbrev r1_56 : Rect S512x3712 := Rect.unit (s := S512x3712) ![0, 3456] S512x128.size inb_S512x3712_S512x128_0_3456
abbrev r1_57 : Rect S96x7424 := Rect.unit (s := S96x7424) ![0, 7168] S96x256.size inb_S96x7424_S96x256_0_7168
abbrev r1_58 : Rect S512x3712 := Rect.unit (s := S512x3712) ![0, 3584] S512x128.size inb_S512x3712_S512x128_0_3584
abbrev r1_59 : Rect S96x512 := Rect.unit (s := S96x512) ![0, 0] S96x512.size inb_S96x512_S96x512_0_0

/-! ## What the body leaves in each output window's buffer -/

/-! ### Values of the body that the stores' payloads, spelt out, would write more than once

    Each is a vector the body binds (often a part call's result), stated over the input windows' blocks and
    numbered on from the skeleton's payload functions (`k1_pay607` …, after `k1_pay606`), so that
    `out1_W` and the values after it name it instead of spelling it out (`unfold_out out1_W` opens a canon
    with them, `unfold_payloads` opens them with the payloads); the comment after each is the printed function's
    name for the value (a count appended where that name is bound again). -/

def k1_pay607 (x0 : Vec F S96x7424 .bf16) (x1 : Vec F S512x3712 .i8) (x2 : Vec F S232x512 .f16) (x3 : Vec F S232x512 .f16) : FVec F S232x512 .f32 :=
  k1_pay1 (View.ld x2 r1_0) -- `v4`
def k1_pay608 (x0 : Vec F S96x7424 .bf16) (x1 : Vec F S512x3712 .i8) (x2 : Vec F S232x512 .f16) (x3 : Vec F S232x512 .f16) : FVec F S232x512 .f32 :=
  k1_pay2 (View.ld x3 r1_0) -- `v7`
def k1_pay609 (x0 : Vec F S96x7424 .bf16) (x1 : Vec F S512x3712 .i8) (x2 : Vec F S232x512 .f16) (x3 : Vec F S232x512 .f16) : IVec S32x512 32 :=
  k1_pay5 (View.ld x1 r1_2) -- `v13`
def k1_pay610 (x0 : Vec F S96x7424 .bf16) (x1 : Vec F S512x3712 .i8) (x2 : Vec F S232x512 .f16) (x3 : Vec F S232x512 .f16) : FVec F S128x512 .f32 :=
  k1_pay6 (View.ld x1 r1_2) -- `v17`
def k1_pay611 (x0 : Vec F S96x7424 .bf16) (x1 : Vec F S512x3712 .i8) (x2 : Vec F S232x512 .f16) (x3 : Vec F S232x512 .f16) : IVec S32x512 32 :=
  k1_pay24 (View.ld x1 r1_4) -- `v159`
def k1_pay612 (x0 : Vec F S96x7424 .bf16) (x1 : Vec F S512x3712 .i8) (x2 : Vec F S232x512 .f16) (x3 : Vec F S232x512 .f16) : IVec S32x512 32 :=
  k1_pay45 (View.ld x1 r1_6) -- `v305`
def k1_pay613 (x0 : Vec F S96x7424 .bf16) (x1 : Vec F S512x3712 .i8) (x2 : Vec F S232x512 .f16) (x3 : Vec F S232x512 .f16) : FVec F S128x512 .f32 :=
  k1_pay46 (View.ld x1 r1_6) -- `v309`
def k1_pay614 (x0 : Vec F S96x7424 .bf16) (x1 : Vec F S512x3712 .i8) (x2 : Vec F S232x512 .f16) (x3 : Vec F S232x512 .f16) : IVec S32x512 32 :=
  k1_pay63 (View.ld x1 r1_8) -- `v451`
def k1_pay615 (x0 : Vec F S96x7424 .bf16) (x1 : Vec F S512x3712 .i8) (x2 : Vec F S232x512 .f16) (x3 : Vec F S232x512 .f16) : FVec F S128x512 .f32 :=
  k1_pay64 (View.ld x1 r1_8) -- `v455`
def k1_pay616 (x0 : Vec F S96x7424 .bf16) (x1 : Vec F S512x3712 .i8) (x2 : Vec F S232x512 .f16) (x3 : Vec F S232x512 .f16) : FVec F S128x512 .f32 :=
  k1_pay84 (View.ld x1 r1_10) -- `v601`
def k1_pay617 (x0 : Vec F S96x7424 .bf16) (x1 : Vec F S512x3712 .i8) (x2 : Vec F S232x512 .f16) (x3 : Vec F S232x512 .f16) : FVec F S128x512 .f32 :=
  k1_pay95 (F := F) (k1_pay83 (View.ld x1 r1_10)) -- `v671`
def k1_pay618 (x0 : Vec F S96x7424 .bf16) (x1 : Vec F S512x3712 .i8) (x2 : Vec F S232x512 .f16) (x3 : Vec F S232x512 .f16) : IVec S32x512 32 :=
  k1_pay109 (View.ld x1 r1_12) -- `v743`
def k1_pay619 (x0 : Vec F S96x7424 .bf16) (x1 : Vec F S512x3712 .i8) (x2 : Vec F S232x512 .f16) (x3 : Vec F S232x512 .f16) : FVec F S128x512 .f32 :=
  k1_pay110 (View.ld x1 r1_12) -- `v747`
def k1_pay620 (x0 : Vec F S96x7424 .bf16) (x1 : Vec F S512x3712 .i8) (x2 : Vec F S232x512 .f16) (x3 : Vec F S232x512 .f16) : IVec S32x512 32 :=
  k1_pay128 (View.ld x1 r1_14) -- `v889`
def k1_pay621 (x0 : Vec F S96x7424 .bf16) (x1 : Vec F S512x3712 .i8) (x2 : Vec F S232x512 .f16) (x3 : Vec F S232x512 .f16) : FVec F S128x512 .f32 :=
  k1_pay129 (View.ld x1 r1_14) -- `v893`
def k1_pay622 (x0 : Vec F S96x7424 .bf16) (x1 : Vec F S512x3712 .i8) (x2 : Vec F S232x512 .f16) (x3 : Vec F S232x512 .f16) : IVec S32x512 32 :=
  k1_pay140 -- `v958`
def k1_pay623 (x0 : Vec F S96x7424 .bf16) (x1 : Vec F S512x3712 .i8) (x2 : Vec F S232x512 .f16) (x3 : Vec F S232x512 .f16) : IVec S32x512 32 :=
  k1_pay152 (View.ld x1 r1_16) -- `v1035`
def k1_pay624 (x0 : Vec F S96x7424 .bf16) (x1 : Vec F S512x3712 .i8) (x2 : Vec F S232x512 .f16) (x3 : Vec F S232x512 .f16) : FVec F S128x512 .f32 :=
  k1_pay153 (View.ld x1 r1_16) -- `v1039`
def k1_pay625 (x0 : Vec F S96x7424 .bf16) (x1 : Vec F S512x3712 .i8) (x2 : Vec F S232x512 .f16) (x3 : Vec F S232x512 .f16) : IVec S32x512 32 :=
  k1_pay170 (View.ld x1 r1_18) -- `v1181`
def k1_pay626 (x0 : Vec F S96x7424 .bf16) (x1 : Vec F S512x3712 .i8) (x2 : Vec F S232x512 .f16) (x3 : Vec F S232x512 .f16) : IVec S32x512 32 :=
  k1_pay171 (View.ld x1 r1_18) -- `v1183`
def k1_pay627 (x0 : Vec F S96x7424 .bf16) (x1 : Vec F S512x3712 .i8) (x2 : Vec F S232x512 .f16) (x3 : Vec F S232x512 .f16) : IVec S32x512 32 :=
  k1_pay193 (View.ld x1 r1_20) -- `v1327`
def k1_pay628 (x0 : Vec F S96x7424 .bf16) (x1 : Vec F S512x3712 .i8) (x2 : Vec F S232x512 .f16) (x3 : Vec F S232x512 .f16) : FVec F S128x512 .f32 :=
  k1_pay194 (View.ld x1 r1_20) -- `v1331`
def k1_pay629 (x0 : Vec F S96x7424 .bf16) (x1 : Vec F S512x3712 .i8) (x2 : Vec F S232x512 .f16) (x3 : Vec F S232x512 .f16) : IVec S32x512 32 :=
  k1_pay210 (View.ld x1 r1_22) -- `v1473`
def k1_pay630 (x0 : Vec F S96x7424 .bf16) (x1 : Vec F S512x3712 .i8) (x2 : Vec F S232x512 .f16) (x3 : Vec F S232x512 .f16) : FVec F S128x512 .f32 :=
  k1_pay211 (View.ld x1 r1_22) -- `v1477`
def k1_pay631 (x0 : Vec F S96x7424 .bf16) (x1 : Vec F S512x3712 .i8) (x2 : Vec F S232x512 .f16) (x3 : Vec F S232x512 .f16) : IVec S32x512 32 :=
  k1_pay231 (View.ld x1 r1_24) -- `v1619`
def k1_pay632 (x0 : Vec F S96x7424 .bf16) (x1 : Vec F S512x3712 .i8) (x2 : Vec F S232x512 .f16) (x3 : Vec F S232x512 .f16) : FVec F S128x512 .f32 :=
  k1_pay232 (View.ld x1 r1_24) -- `v1623`
def k1_pay633 (x0 : Vec F S96x7424 .bf16) (x1 : Vec F S512x3712 .i8) (x2 : Vec F S232x512 .f16) (x3 : Vec F S232x512 .f16) : FVec F S128x512 .f32 :=
  k1_pay241 (F := F) (k1_pay631 x0 x1 x2 x3) -- `v1693`
def k1_pay634 (x0 : Vec F S96x7424 .bf16) (x1 : Vec F S512x3712 .i8) (x2 : Vec F S232x512 .f16) (x3 : Vec F S232x512 .f16) : IVec S32x512 32 :=
  k1_pay255 (View.ld x1 r1_26) -- `v1765`
def k1_pay635 (x0 : Vec F S96x7424 .bf16) (x1 : Vec F S512x3712 .i8) (x2 : Vec F S232x512 .f16) (x3 : Vec F S232x512 .f16) : FVec F S128x512 .f32 :=
  k1_pay256 (View.ld x1 r1_26) -- `v1769`
def k1_pay636 (x0 : Vec F S96x7424 .bf16) (x1 : Vec F S512x3712 .i8) (x2 : Vec F S232x512 .f16) (x3 : Vec F S232x512 .f16) : FVec F S128x512 .f32 :=
  k1_pay276 (View.ld x1 r1_28) -- `v1915`
def k1_pay637 (x0 : Vec F S96x7424 .bf16) (x1 : Vec F S512x3712 .i8) (x2 : Vec F S232x512 .f16) (x3 : Vec F S232x512 .f16) : IVec S32x512 32 :=
  k1_pay285 (k1_pay275 (View.ld x1 r1_28)) -- `v1981`
def k1_pay638 (x0 : Vec F S96x7424 .bf16) (x1 : Vec F S512x3712 .i8) (x2 : Vec F S232x512 .f16) (x3 : Vec F S232x512 .f16) : IVec S32x512 32 :=
  k1_pay296 (View.ld x1 r1_30) -- `v2057`
def k1_pay639 (x0 : Vec F S96x7424 .bf16) (x1 : Vec F S512x3712 .i8) (x2 : Vec F S232x512 .f16) (x3 : Vec F S232x512 .f16) : FVec F S128x512 .f32 :=
  k1_pay297 (View.ld x1 r1_30) -- `v2061`
def k1_pay640 (x0 : Vec F S96x7424 .bf16) (x1 : Vec F S512x3712 .i8) (x2 : Vec F S232x512 .f16) (x3 : Vec F S232x512 .f16) : IVec S32x512 32 :=
  k1_pay315 (View.ld x1 r1_32) -- `v2203`
def k1_pay641 (x0 : Vec F S96x7424 .bf16) (x1 : Vec F S512x3712 .i8) (x2 : Vec F S232x512 .f16) (x3 : Vec F S232x512 .f16) : FVec F S128x512 .f32 :=
  k1_pay316 (View.ld x1 r1_32) -- `v2207`
def k1_pay642 (x0 : Vec F S96x7424 .bf16) (x1 : Vec F S512x3712 .i8) (x2 : Vec F S232x512 .f16) (x3 : Vec F S232x512 .f16) : IVec S32x512 32 :=
  k1_pay337 (View.ld x1 r1_34) -- `v2349`
def k1_pay643 (x0 : Vec F S96x7424 .bf16) (x1 : Vec F S512x3712 .i8) (x2 : Vec F S232x512 .f16) (x3 : Vec F S232x512 .f16) : FVec F S128x512 .f32 :=
  k1_pay338 (View.ld x1 r1_34) -- `v2353`
def k1_pay644 (x0 : Vec F S96x7424 .bf16) (x1 : Vec F S512x3712 .i8) (x2 : Vec F S232x512 .f16) (x3 : Vec F S232x512 .f16) : IVec S32x512 32 :=
  k1_pay355 (View.ld x1 r1_36) -- `v2495`
def k1_pay645 (x0 : Vec F S96x7424 .bf16) (x1 : Vec F S512x3712 .i8) (x2 : Vec F S232x512 .f16) (x3 : Vec F S232x512 .f16) : IVec S32x512 32 :=
  k1_pay376 (View.ld x1 r1_38) -- `v2641`
def k1_pay646 (x0 : Vec F S96x7424 .bf16) (x1 : Vec F S512x3712 .i8) (x2 : Vec F S232x512 .f16) (x3 : Vec F S232x512 .f16) : FVec F S128x512 .f32 :=
  k1_pay377 (View.ld x1 r1_38) -- `v2645`
def k1_pay647 (x0 : Vec F S96x7424 .bf16) (x1 : Vec F S512x3712 .i8) (x2 : Vec F S232x512 .f16) (x3 : Vec F S232x512 .f16) : IVec S32x512 32 :=
  k1_pay394 (View.ld x1 r1_40) -- `v2787`
def k1_pay648 (x0 : Vec F S96x7424 .bf16) (x1 : Vec F S512x3712 .i8) (x2 : Vec F S232x512 .f16) (x3 : Vec F S232x512 .f16) : FVec F S128x512 .f32 :=
  k1_pay395 (View.ld x1 r1_40) -- `v2791`
def k1_pay649 (x0 : Vec F S96x7424 .bf16) (x1 : Vec F S512x3712 .i8) (x2 : Vec F S232x512 .f16) (x3 : Vec F S232x512 .f16) : FVec F S128x512 .f32 :=
  k1_pay415 (View.ld x1 r1_42) -- `v2937`
def k1_pay650 (x0 : Vec F S96x7424 .bf16) (x1 : Vec F S512x3712 .i8) (x2 : Vec F S232x512 .f16) (x3 : Vec F S232x512 .f16) : IVec S32x512 32 :=
  k1_pay426 (k1_pay414 (View.ld x1 r1_42)) -- `v3005`
def k1_pay651 (x0 : Vec F S96x7424 .bf16) (x1 : Vec F S512x3712 .i8) (x2 : Vec F S232x512 .f16) (x3 : Vec F S232x512 .f16) : IVec S32x512 32 :=
  k1_pay439 (View.ld x1 r1_44) -- `v3079`
def k1_pay652 (x0 : Vec F S96x7424 .bf16) (x1 : Vec F S512x3712 .i8) (x2 : Vec F S232x512 .f16) (x3 : Vec F S232x512 .f16) : FVec F S128x512 .f32 :=
  k1_pay440 (View.ld x1 r1_44) -- `v3083`
def k1_pay653 (x0 : Vec F S96x7424 .bf16) (x1 : Vec F S512x3712 .i8) (x2 : Vec F S232x512 .f16) (x3 : Vec F S232x512 .f16) : IVec S32x512 32 :=
  k1_pay458 (View.ld x1 r1_46) -- `v3225`
def k1_pay654 (x0 : Vec F S96x7424 .bf16) (x1 : Vec F S512x3712 .i8) (x2 : Vec F S232x512 .f16) (x3 : Vec F S232x512 .f16) : FVec F S128x512 .f32 :=
  k1_pay459 (View.ld x1 r1_46) -- `v3229`
def k1_pay655 (x0 : Vec F S96x7424 .bf16) (x1 : Vec F S512x3712 .i8) (x2 : Vec F S232x512 .f16) (x3 : Vec F S232x512 .f16) : IVec S32x512 32 :=
  k1_pay483 (View.ld x1 r1_48) -- `v3371`
def k1_pay656 (x0 : Vec F S96x7424 .bf16) (x1 : Vec F S512x3712 .i8) (x2 : Vec F S232x512 .f16) (x3 : Vec F S232x512 .f16) : FVec F S128x512 .f32 :=
  k1_pay484 (View.ld x1 r1_48) -- `v3375`
def k1_pay657 (x0 : Vec F S96x7424 .bf16) (x1 : Vec F S512x3712 .i8) (x2 : Vec F S232x512 .f16) (x3 : Vec F S232x512 .f16) : IVec S128x512 8 :=
  k1_pay501 (View.ld x1 r1_50) -- `v3516`
def k1_pay658 (x0 : Vec F S96x7424 .bf16) (x1 : Vec F S512x3712 .i8) (x2 : Vec F S232x512 .f16) (x3 : Vec F S232x512 .f16) : IVec S32x512 32 :=
  k1_pay502 (k1_pay657 x0 x1 x2 x3) -- `v3517`
def k1_pay659 (x0 : Vec F S96x7424 .bf16) (x1 : Vec F S512x3712 .i8) (x2 : Vec F S232x512 .f16) (x3 : Vec F S232x512 .f16) : IVec S32x512 32 :=
  k1_pay524 (View.ld x1 r1_52) -- `v3663`
def k1_pay660 (x0 : Vec F S96x7424 .bf16) (x1 : Vec F S512x3712 .i8) (x2 : Vec F S232x512 .f16) (x3 : Vec F S232x512 .f16) : FVec F S128x512 .f32 :=
  k1_pay525 (View.ld x1 r1_52) -- `v3667`
def k1_pay661 (x0 : Vec F S96x7424 .bf16) (x1 : Vec F S512x3712 .i8) (x2 : Vec F S232x512 .f16) (x3 : Vec F S232x512 .f16) : IVec S32x512 32 :=
  k1_pay541 (View.ld x1 r1_54) -- `v3809`
def k1_pay662 (x0 : Vec F S96x7424 .bf16) (x1 : Vec F S512x3712 .i8) (x2 : Vec F S232x512 .f16) (x3 : Vec F S232x512 .f16) : FVec F S128x512 .f32 :=
  k1_pay542 (View.ld x1 r1_54) -- `v3813`
def k1_pay663 (x0 : Vec F S96x7424 .bf16) (x1 : Vec F S512x3712 .i8) (x2 : Vec F S232x512 .f16) (x3 : Vec F S232x512 .f16) : FVec F S128x512 .f32 :=
  k1_pay563 (View.ld x1 r1_56) -- `v3959`
def k1_pay664 (x0 : Vec F S96x7424 .bf16) (x1 : Vec F S512x3712 .i8) (x2 : Vec F S232x512 .f16) (x3 : Vec F S232x512 .f16) : FVec F S128x512 .f32 :=
  k1_pay575 (F := F) (k1_pay562 (View.ld x1 r1_56)) -- `v4029`
def k1_pay665 (x0 : Vec F S96x7424 .bf16) (x1 : Vec F S512x3712 .i8) (x2 : Vec F S232x512 .f16) (x3 : Vec F S232x512 .f16) : IVec S32x512 32 :=
  k1_pay588 (View.ld x1 r1_58) -- `v4101`
def k1_pay666 (x0 : Vec F S96x7424 .bf16) (x1 : Vec F S512x3712 .i8) (x2 : Vec F S232x512 .f16) (x3 : Vec F S232x512 .f16) : FVec F S128x512 .f32 :=
  k1_pay589 (View.ld x1 r1_58) -- `v4105`

/-- Window 4's staging buffer after the body, from the input windows' blocks: its 1 store as pieces, LAST
    FIRST (Lib/Pipeline/FrameBody.lean `View.canon`; the payloads are the skeleton's and the values stated above). -/
def out1_4 (x0 : Vec F S96x7424 .bf16) (x1 : Vec F S512x3712 .i8) (x2 : Vec F S232x512 .f16) (x3 : Vec F S232x512 .f16) : Vec F S96x512 .bf16 :=
  View.canon [⟨r1_59, k1_pay606 (k1_pay607 x0 x1 x2 x3) (k1_pay608 x0 x1 x2 x3) (k1_pay586 (k1_pay560 (k1_pay607 x0 x1 x2 x3) (k1_pay608 x0 x1 x2 x3) (k1_pay539 (k1_pay607 x0 x1 x2 x3) (k1_pay608 x0 x1 x2 x3) (k1_pay522 (k1_pay607 x0 x1 x2 x3) (k1_pay608 x0 x1 x2 x3) (k1_pay499 (k1_pay607 x0 x1 x2 x3) (k1_pay608 x0 x1 x2 x3) (k1_pay481 (k1_pay607 x0 x1 x2 x3) (k1_pay608 x0 x1 x2 x3) (k1_pay456 (k1_pay607 x0 x1 x2 x3) (k1_pay608 x0 x1 x2 x3) (k1_pay437 (k1_pay412 (k1_pay607 x0 x1 x2 x3) (k1_pay608 x0 x1 x2 x3) (k1_pay392 (k1_pay374 (k1_pay607 x0 x1 x2 x3) (k1_pay608 x0 x1 x2 x3) (k1_pay353 (k1_pay607 x0 x1 x2 x3) (k1_pay608 x0 x1 x2 x3) (k1_pay335 (k1_pay607 x0 x1 x2 x3) (k1_pay608 x0 x1 x2 x3) (k1_pay313 (k1_pay607 x0 x1 x2 x3) (k1_pay608 x0 x1 x2 x3) (k1_pay294 (k1_pay607 x0 x1 x2 x3) (k1_pay608 x0 x1 x2 x3) (k1_pay273 (k1_pay607 x0 x1 x2 x3) (k1_pay608 x0 x1 x2 x3) (k1_pay253 (k1_pay229 (k1_pay607 x0 x1 x2 x3) (k1_pay608 x0 x1 x2 x3) (k1_pay208 (k1_pay607 x0 x1 x2 x3) (k1_pay608 x0 x1 x2 x3) (k1_pay191 (k1_pay607 x0 x1 x2 x3) (k1_pay608 x0 x1 x2 x3) (k1_pay168 (k1_pay607 x0 x1 x2 x3) (k1_pay608 x0 x1 x2 x3) (k1_pay150 (k1_pay607 x0 x1 x2 x3) (k1_pay608 x0 x1 x2 x3) (k1_pay126 (k1_pay607 x0 x1 x2 x3) (k1_pay608 x0 x1 x2 x3) (k1_pay107 (k1_pay81 (k1_pay607 x0 x1 x2 x3) (k1_pay608 x0 x1 x2 x3) (k1_pay61 (k1_pay607 x0 x1 x2 x3) (k1_pay608 x0 x1 x2 x3) (k1_pay43 (k1_pay607 x0 x1 x2 x3) (k1_pay608 x0 x1 x2 x3) (k1_pay22 (k1_pay607 x0 x1 x2 x3) (k1_pay608 x0 x1 x2 x3) (k1_pay3 (F := F)) (k1_pay4 (View.ld x0 r1_1)) (k1_pay7 (View.ld x2 r1_0) (View.ld x3 r1_0) (View.ld x1 r1_2)) (k1_pay8 (View.ld x2 r1_0) (View.ld x3 r1_0) (View.ld x1 r1_2)) (k1_pay9 (View.ld x2 r1_0) (View.ld x3 r1_0) (View.ld x1 r1_2)) (k1_pay12 (k1_pay10 (View.ld x2 r1_0) (View.ld x1 r1_2)) (k1_pay11 (View.ld x3 r1_0))) (k1_pay13 (k1_pay607 x0 x1 x2 x3) (k1_pay608 x0 x1 x2 x3) (k1_pay610 x0 x1 x2 x3)) (k1_pay14 (k1_pay607 x0 x1 x2 x3) (k1_pay608 x0 x1 x2 x3) (k1_pay610 x0 x1 x2 x3)) (k1_pay15 (k1_pay607 x0 x1 x2 x3) (k1_pay608 x0 x1 x2 x3) (k1_pay610 x0 x1 x2 x3)) (k1_pay16 (k1_pay607 x0 x1 x2 x3) (k1_pay608 x0 x1 x2 x3) (k1_pay610 x0 x1 x2 x3)) (k1_pay17 (F := F) (k1_pay609 x0 x1 x2 x3)) (k1_pay18 (k1_pay607 x0 x1 x2 x3) (k1_pay608 x0 x1 x2 x3) (k1_pay609 x0 x1 x2 x3)) (k1_pay19 (k1_pay607 x0 x1 x2 x3) (k1_pay608 x0 x1 x2 x3) (k1_pay609 x0 x1 x2 x3)) (k1_pay20 (k1_pay607 x0 x1 x2 x3)) (k1_pay21 (k1_pay608 x0 x1 x2 x3))) (k1_pay23 (View.ld x0 r1_3)) (k1_pay26 (k1_pay607 x0 x1 x2 x3) (k1_pay608 x0 x1 x2 x3) (k1_pay611 x0 x1 x2 x3) 252645135#32) (k1_pay27 (k1_pay607 x0 x1 x2 x3) (k1_pay608 x0 x1 x2 x3) (k1_pay611 x0 x1 x2 x3) 252645135#32) (k1_pay28 (k1_pay607 x0 x1 x2 x3) (k1_pay608 x0 x1 x2 x3) (k1_pay611 x0 x1 x2 x3) 252645135#32) (k1_pay29 (k1_pay607 x0 x1 x2 x3) (k1_pay608 x0 x1 x2 x3) (k1_pay611 x0 x1 x2 x3) 252645135#32) (k1_pay30 (k1_pay607 x0 x1 x2 x3) (k1_pay608 x0 x1 x2 x3) (k1_pay611 x0 x1 x2 x3) 252645135#32) (k1_pay31 (k1_pay607 x0 x1 x2 x3) (k1_pay608 x0 x1 x2 x3) (k1_pay611 x0 x1 x2 x3) 252645135#32) (k1_pay32 (k1_pay607 x0 x1 x2 x3) (k1_pay608 x0 x1 x2 x3) (k1_pay611 x0 x1 x2 x3) 252645135#32) (k1_pay33 (k1_pay607 x0 x1 x2 x3) (k1_pay608 x0 x1 x2 x3) (k1_pay25 (F := F) (k1_pay611 x0 x1 x2 x3) 252645135#32)) (k1_pay34 (F := F) (k1_pay611 x0 x1 x2 x3)) (k1_pay35 (k1_pay607 x0 x1 x2 x3) (k1_pay608 x0 x1 x2 x3) (k1_pay611 x0 x1 x2 x3)) (k1_pay36 (k1_pay607 x0 x1 x2 x3) (k1_pay608 x0 x1 x2 x3) (k1_pay611 x0 x1 x2 x3)) (k1_pay37 (k1_pay607 x0 x1 x2 x3) (k1_pay608 x0 x1 x2 x3) (k1_pay611 x0 x1 x2 x3)) (k1_pay38 (k1_pay607 x0 x1 x2 x3) (k1_pay608 x0 x1 x2 x3) (k1_pay611 x0 x1 x2 x3)) (k1_pay39 (k1_pay607 x0 x1 x2 x3) (k1_pay608 x0 x1 x2 x3) (k1_pay611 x0 x1 x2 x3)) (k1_pay40 (k1_pay608 x0 x1 x2 x3)) (k1_pay41 (F := F) (k1_pay611 x0 x1 x2 x3)) (k1_pay42 (k1_pay607 x0 x1 x2 x3))) (k1_pay44 (View.ld x0 r1_5)) (k1_pay47 (k1_pay607 x0 x1 x2 x3) (k1_pay608 x0 x1 x2 x3) (View.ld x1 r1_6)) (k1_pay48 (k1_pay607 x0 x1 x2 x3) (k1_pay608 x0 x1 x2 x3) (View.ld x1 r1_6)) (k1_pay51 (k1_pay49 (k1_pay607 x0 x1 x2 x3) (View.ld x1 r1_6)) (k1_pay50 (k1_pay608 x0 x1 x2 x3))) (k1_pay52 (k1_pay607 x0 x1 x2 x3) (k1_pay608 x0 x1 x2 x3) (k1_pay613 x0 x1 x2 x3)) (k1_pay53 (k1_pay607 x0 x1 x2 x3) (k1_pay608 x0 x1 x2 x3) (k1_pay613 x0 x1 x2 x3)) (k1_pay54 (k1_pay607 x0 x1 x2 x3) (k1_pay608 x0 x1 x2 x3) (k1_pay613 x0 x1 x2 x3)) (k1_pay55 (k1_pay607 x0 x1 x2 x3) (k1_pay608 x0 x1 x2 x3) (k1_pay613 x0 x1 x2 x3)) (k1_pay56 (k1_pay607 x0 x1 x2 x3) (k1_pay608 x0 x1 x2 x3) (k1_pay613 x0 x1 x2 x3)) (k1_pay57 (F := F) (k1_pay612 x0 x1 x2 x3)) (k1_pay58 (k1_pay607 x0 x1 x2 x3) (k1_pay608 x0 x1 x2 x3) (k1_pay612 x0 x1 x2 x3)) (k1_pay59 (k1_pay607 x0 x1 x2 x3)) (k1_pay60 (k1_pay608 x0 x1 x2 x3))) (k1_pay62 (View.ld x0 r1_7)) (k1_pay65 (k1_pay607 x0 x1 x2 x3) (k1_pay608 x0 x1 x2 x3) (View.ld x1 r1_8)) (k1_pay66 (k1_pay607 x0 x1 x2 x3) (k1_pay608 x0 x1 x2 x3) (View.ld x1 r1_8)) (k1_pay67 (k1_pay607 x0 x1 x2 x3) (k1_pay608 x0 x1 x2 x3) (View.ld x1 r1_8)) (k1_pay68 (k1_pay607 x0 x1 x2 x3) (k1_pay608 x0 x1 x2 x3) (View.ld x1 r1_8)) (k1_pay69 (k1_pay607 x0 x1 x2 x3) (k1_pay608 x0 x1 x2 x3) (View.ld x1 r1_8)) (k1_pay70 (k1_pay607 x0 x1 x2 x3) (k1_pay608 x0 x1 x2 x3) (View.ld x1 r1_8)) (k1_pay71 (k1_pay607 x0 x1 x2 x3) (k1_pay608 x0 x1 x2 x3) (k1_pay615 x0 x1 x2 x3)) (k1_pay72 (k1_pay607 x0 x1 x2 x3) (k1_pay608 x0 x1 x2 x3) (k1_pay615 x0 x1 x2 x3)) (k1_pay73 (F := F) (k1_pay614 x0 x1 x2 x3)) (k1_pay74 (k1_pay607 x0 x1 x2 x3) (k1_pay608 x0 x1 x2 x3) (k1_pay614 x0 x1 x2 x3)) (k1_pay75 (k1_pay607 x0 x1 x2 x3) (k1_pay608 x0 x1 x2 x3) (k1_pay614 x0 x1 x2 x3)) (k1_pay76 (k1_pay607 x0 x1 x2 x3) (k1_pay608 x0 x1 x2 x3) (k1_pay614 x0 x1 x2 x3)) (k1_pay77 (k1_pay607 x0 x1 x2 x3) (k1_pay608 x0 x1 x2 x3) (k1_pay614 x0 x1 x2 x3)) (k1_pay78 (k1_pay608 x0 x1 x2 x3)) (k1_pay79 (F := F) (k1_pay614 x0 x1 x2 x3)) (k1_pay80 (k1_pay607 x0 x1 x2 x3))) (k1_pay82 (View.ld x0 r1_9)) (k1_pay85 (k1_pay607 x0 x1 x2 x3) (k1_pay608 x0 x1 x2 x3) (View.ld x1 r1_10)) (k1_pay88 (k1_pay86 (k1_pay607 x0 x1 x2 x3) (View.ld x1 r1_10)) (k1_pay87 (k1_pay608 x0 x1 x2 x3))) (k1_pay89 (k1_pay607 x0 x1 x2 x3) (k1_pay608 x0 x1 x2 x3) (k1_pay616 x0 x1 x2 x3)) (k1_pay90 (k1_pay607 x0 x1 x2 x3) (k1_pay608 x0 x1 x2 x3) (k1_pay616 x0 x1 x2 x3)) (k1_pay91 (k1_pay607 x0 x1 x2 x3) (k1_pay608 x0 x1 x2 x3) (k1_pay616 x0 x1 x2 x3)) (k1_pay92 (k1_pay607 x0 x1 x2 x3) (k1_pay608 x0 x1 x2 x3) (k1_pay616 x0 x1 x2 x3)) (k1_pay93 (k1_pay607 x0 x1 x2 x3) (k1_pay608 x0 x1 x2 x3) (k1_pay616 x0 x1 x2 x3)) (k1_pay94 (k1_pay607 x0 x1 x2 x3) (k1_pay608 x0 x1 x2 x3) (k1_pay616 x0 x1 x2 x3)) (k1_pay98 (k1_pay617 x0 x1 x2 x3) (k1_pay96 (k1_pay607 x0 x1 x2 x3)) (k1_pay97 (k1_pay608 x0 x1 x2 x3))) (k1_pay99 (k1_pay607 x0 x1 x2 x3) (k1_pay608 x0 x1 x2 x3) (k1_pay617 x0 x1 x2 x3)) (k1_pay100 (k1_pay607 x0 x1 x2 x3) (k1_pay608 x0 x1 x2 x3) (k1_pay617 x0 x1 x2 x3)) (k1_pay101 (k1_pay607 x0 x1 x2 x3) (k1_pay608 x0 x1 x2 x3) (k1_pay617 x0 x1 x2 x3)) (k1_pay102 (k1_pay607 x0 x1 x2 x3) (k1_pay608 x0 x1 x2 x3) (k1_pay617 x0 x1 x2 x3)) (k1_pay103 (k1_pay607 x0 x1 x2 x3) (k1_pay608 x0 x1 x2 x3) (k1_pay617 x0 x1 x2 x3)) (k1_pay104 (k1_pay607 x0 x1 x2 x3) (k1_pay608 x0 x1 x2 x3) (k1_pay617 x0 x1 x2 x3)) (k1_pay105 (k1_pay607 x0 x1 x2 x3) (k1_pay617 x0 x1 x2 x3)) (k1_pay106 (k1_pay608 x0 x1 x2 x3))) (k1_pay108 (View.ld x0 r1_11)) (k1_pay111 (k1_pay607 x0 x1 x2 x3) (k1_pay608 x0 x1 x2 x3) (View.ld x1 r1_12)) (k1_pay112 (k1_pay607 x0 x1 x2 x3) (k1_pay608 x0 x1 x2 x3) (View.ld x1 r1_12)) (k1_pay113 (k1_pay607 x0 x1 x2 x3) (k1_pay608 x0 x1 x2 x3) (View.ld x1 r1_12)) (k1_pay114 (k1_pay607 x0 x1 x2 x3) (k1_pay608 x0 x1 x2 x3) (View.ld x1 r1_12)) (k1_pay115 (k1_pay607 x0 x1 x2 x3) (k1_pay608 x0 x1 x2 x3) (View.ld x1 r1_12)) (k1_pay116 (k1_pay607 x0 x1 x2 x3) (k1_pay608 x0 x1 x2 x3) (k1_pay619 x0 x1 x2 x3)) (k1_pay117 (k1_pay607 x0 x1 x2 x3) (k1_pay608 x0 x1 x2 x3) (k1_pay619 x0 x1 x2 x3)) (k1_pay118 (k1_pay607 x0 x1 x2 x3) (k1_pay608 x0 x1 x2 x3) (k1_pay619 x0 x1 x2 x3)) (k1_pay119 (F := F) (k1_pay618 x0 x1 x2 x3)) (k1_pay120 (k1_pay607 x0 x1 x2 x3) (k1_pay608 x0 x1 x2 x3) (k1_pay618 x0 x1 x2 x3)) (k1_pay121 (k1_pay607 x0 x1 x2 x3) (k1_pay608 x0 x1 x2 x3) (k1_pay618 x0 x1 x2 x3)) (k1_pay122 (k1_pay607 x0 x1 x2 x3) (k1_pay608 x0 x1 x2 x3) (k1_pay618 x0 x1 x2 x3)) (k1_pay123 (k1_pay608 x0 x1 x2 x3)) (k1_pay124 (F := F) (k1_pay618 x0 x1 x2 x3)) (k1_pay125 (k1_pay607 x0 x1 x2 x3))) (k1_pay127 (View.ld x0 r1_13)) (k1_pay132 (k1_pay130 (k1_pay607 x0 x1 x2 x3) (View.ld x1 r1_14)) (k1_pay131 (k1_pay608 x0 x1 x2 x3))) (k1_pay133 (k1_pay607 x0 x1 x2 x3) (k1_pay608 x0 x1 x2 x3) (k1_pay621 x0 x1 x2 x3)) (k1_pay134 (k1_pay607 x0 x1 x2 x3) (k1_pay608 x0 x1 x2 x3) (k1_pay621 x0 x1 x2 x3)) (k1_pay135 (k1_pay607 x0 x1 x2 x3) (k1_pay608 x0 x1 x2 x3) (k1_pay621 x0 x1 x2 x3)) (k1_pay136 (k1_pay607 x0 x1 x2 x3) (k1_pay608 x0 x1 x2 x3) (k1_pay621 x0 x1 x2 x3)) (k1_pay137 (k1_pay607 x0 x1 x2 x3) (k1_pay608 x0 x1 x2 x3) (k1_pay621 x0 x1 x2 x3)) (k1_pay138 (k1_pay607 x0 x1 x2 x3) (k1_pay608 x0 x1 x2 x3) (k1_pay621 x0 x1 x2 x3)) (k1_pay139 (k1_pay607 x0 x1 x2 x3) (k1_pay608 x0 x1 x2 x3) (k1_pay621 x0 x1 x2 x3)) (k1_pay141 (F := F) (k1_pay620 x0 x1 x2 x3) (k1_pay622 x0 x1 x2 x3)) (k1_pay142 (k1_pay607 x0 x1 x2 x3) (k1_pay608 x0 x1 x2 x3) (k1_pay620 x0 x1 x2 x3) (k1_pay622 x0 x1 x2 x3)) (k1_pay143 (k1_pay607 x0 x1 x2 x3) (k1_pay608 x0 x1 x2 x3) (k1_pay620 x0 x1 x2 x3) (k1_pay622 x0 x1 x2 x3)) (k1_pay144 (k1_pay607 x0 x1 x2 x3) (k1_pay608 x0 x1 x2 x3) (k1_pay620 x0 x1 x2 x3) (k1_pay622 x0 x1 x2 x3)) (k1_pay145 (k1_pay607 x0 x1 x2 x3) (k1_pay608 x0 x1 x2 x3) (k1_pay620 x0 x1 x2 x3) (k1_pay622 x0 x1 x2 x3)) (k1_pay146 (k1_pay607 x0 x1 x2 x3) (k1_pay608 x0 x1 x2 x3) (k1_pay620 x0 x1 x2 x3) (k1_pay622 x0 x1 x2 x3)) (k1_pay147 (k1_pay607 x0 x1 x2 x3) (k1_pay608 x0 x1 x2 x3) (k1_pay620 x0 x1 x2 x3) (k1_pay622 x0 x1 x2 x3)) (k1_pay148 (k1_pay607 x0 x1 x2 x3) (k1_pay620 x0 x1 x2 x3) (k1_pay622 x0 x1 x2 x3)) (k1_pay149 (k1_pay608 x0 x1 x2 x3))) (k1_pay151 (View.ld x0 r1_15)) (k1_pay154 (k1_pay607 x0 x1 x2 x3) (k1_pay608 x0 x1 x2 x3) (View.ld x1 r1_16)) (k1_pay155 (k1_pay607 x0 x1 x2 x3) (k1_pay608 x0 x1 x2 x3) (View.ld x1 r1_16)) (k1_pay156 (k1_pay607 x0 x1 x2 x3) (k1_pay608 x0 x1 x2 x3) (View.ld x1 r1_16)) (k1_pay157 (k1_pay607 x0 x1 x2 x3) (k1_pay608 x0 x1 x2 x3) (View.ld x1 r1_16)) (k1_pay158 (k1_pay607 x0 x1 x2 x3) (k1_pay608 x0 x1 x2 x3) (k1_pay624 x0 x1 x2 x3)) (k1_pay159 (k1_pay607 x0 x1 x2 x3) (k1_pay608 x0 x1 x2 x3) (k1_pay624 x0 x1 x2 x3)) (k1_pay160 (k1_pay607 x0 x1 x2 x3) (k1_pay608 x0 x1 x2 x3) (k1_pay624 x0 x1 x2 x3)) (k1_pay161 (k1_pay607 x0 x1 x2 x3) (k1_pay608 x0 x1 x2 x3) (k1_pay624 x0 x1 x2 x3)) (k1_pay162 (F := F) (k1_pay623 x0 x1 x2 x3)) (k1_pay163 (k1_pay607 x0 x1 x2 x3) (k1_pay608 x0 x1 x2 x3) (k1_pay623 x0 x1 x2 x3)) (k1_pay164 (k1_pay607 x0 x1 x2 x3) (k1_pay608 x0 x1 x2 x3) (k1_pay623 x0 x1 x2 x3)) (k1_pay165 (k1_pay608 x0 x1 x2 x3)) (k1_pay166 (F := F) (k1_pay623 x0 x1 x2 x3)) (k1_pay167 (k1_pay607 x0 x1 x2 x3))) (k1_pay169 (View.ld x0 r1_17)) (k1_pay173 (k1_pay607 x0 x1 x2 x3) (k1_pay608 x0 x1 x2 x3) (k1_pay626 x0 x1 x2 x3)) (k1_pay174 (k1_pay607 x0 x1 x2 x3) (k1_pay608 x0 x1 x2 x3) (k1_pay626 x0 x1 x2 x3)) (k1_pay175 (k1_pay607 x0 x1 x2 x3) (k1_pay608 x0 x1 x2 x3) (k1_pay626 x0 x1 x2 x3)) (k1_pay176 (k1_pay607 x0 x1 x2 x3) (k1_pay608 x0 x1 x2 x3) (k1_pay626 x0 x1 x2 x3)) (k1_pay177 (k1_pay607 x0 x1 x2 x3) (k1_pay608 x0 x1 x2 x3) (k1_pay626 x0 x1 x2 x3)) (k1_pay178 (k1_pay607 x0 x1 x2 x3) (k1_pay608 x0 x1 x2 x3) (k1_pay626 x0 x1 x2 x3)) (k1_pay179 (k1_pay607 x0 x1 x2 x3) (k1_pay608 x0 x1 x2 x3) (k1_pay626 x0 x1 x2 x3)) (k1_pay182 (k1_pay172 (F := F) (k1_pay626 x0 x1 x2 x3)) (k1_pay180 (k1_pay607 x0 x1 x2 x3)) (k1_pay181 (k1_pay608 x0 x1 x2 x3))) (k1_pay183 (F := F) (k1_pay625 x0 x1 x2 x3)) (k1_pay184 (k1_pay607 x0 x1 x2 x3) (k1_pay608 x0 x1 x2 x3) (k1_pay625 x0 x1 x2 x3)) (k1_pay185 (k1_pay607 x0 x1 x2 x3) (k1_pay608 x0 x1 x2 x3) (k1_pay625 x0 x1 x2 x3)) (k1_pay186 (k1_pay607 x0 x1 x2 x3) (k1_pay608 x0 x1 x2 x3) (k1_pay625 x0 x1 x2 x3)) (k1_pay187 (k1_pay607 x0 x1 x2 x3) (k1_pay608 x0 x1 x2 x3) (k1_pay625 x0 x1 x2 x3)) (k1_pay188 (k1_pay607 x0 x1 x2 x3) (k1_pay608 x0 x1 x2 x3) (k1_pay625 x0 x1 x2 x3)) (k1_pay189 (k1_pay607 x0 x1 x2 x3) (k1_pay625 x0 x1 x2 x3)) (k1_pay190 (k1_pay608 x0 x1 x2 x3))) (k1_pay192 (View.ld x0 r1_19)) (k1_pay195 (k1_pay607 x0 x1 x2 x3) (k1_pay608 x0 x1 x2 x3) (View.ld x1 r1_20)) (k1_pay196 (k1_pay607 x0 x1 x2 x3) (k1_pay608 x0 x1 x2 x3) (View.ld x1 r1_20)) (k1_pay197 (k1_pay607 x0 x1 x2 x3) (k1_pay608 x0 x1 x2 x3) (View.ld x1 r1_20)) (k1_pay198 (k1_pay607 x0 x1 x2 x3) (k1_pay608 x0 x1 x2 x3) (k1_pay628 x0 x1 x2 x3)) (k1_pay199 (k1_pay607 x0 x1 x2 x3) (k1_pay608 x0 x1 x2 x3) (k1_pay628 x0 x1 x2 x3)) (k1_pay200 (k1_pay607 x0 x1 x2 x3) (k1_pay608 x0 x1 x2 x3) (k1_pay628 x0 x1 x2 x3)) (k1_pay201 (k1_pay607 x0 x1 x2 x3) (k1_pay608 x0 x1 x2 x3) (k1_pay628 x0 x1 x2 x3)) (k1_pay202 (k1_pay607 x0 x1 x2 x3) (k1_pay608 x0 x1 x2 x3) (k1_pay628 x0 x1 x2 x3)) (k1_pay203 (F := F) (k1_pay627 x0 x1 x2 x3)) (k1_pay204 (k1_pay607 x0 x1 x2 x3) (k1_pay608 x0 x1 x2 x3) (k1_pay627 x0 x1 x2 x3)) (k1_pay205 (k1_pay608 x0 x1 x2 x3)) (k1_pay206 (F := F) (k1_pay627 x0 x1 x2 x3)) (k1_pay207 (k1_pay607 x0 x1 x2 x3))) (k1_pay209 (View.ld x0 r1_21)) (k1_pay212 (k1_pay607 x0 x1 x2 x3) (k1_pay608 x0 x1 x2 x3) (View.ld x1 r1_22)) (k1_pay213 (k1_pay607 x0 x1 x2 x3) (k1_pay608 x0 x1 x2 x3) (View.ld x1 r1_22)) (k1_pay214 (k1_pay607 x0 x1 x2 x3) (k1_pay608 x0 x1 x2 x3) (View.ld x1 r1_22)) (k1_pay215 (k1_pay607 x0 x1 x2 x3) (k1_pay608 x0 x1 x2 x3) (View.ld x1 r1_22)) (k1_pay216 (k1_pay607 x0 x1 x2 x3) (k1_pay608 x0 x1 x2 x3) (View.ld x1 r1_22)) (k1_pay217 (k1_pay607 x0 x1 x2 x3) (k1_pay608 x0 x1 x2 x3) (View.ld x1 r1_22)) (k1_pay220 (k1_pay630 x0 x1 x2 x3) (k1_pay218 (k1_pay607 x0 x1 x2 x3)) (k1_pay219 (k1_pay608 x0 x1 x2 x3))) (k1_pay221 (k1_pay607 x0 x1 x2 x3) (k1_pay608 x0 x1 x2 x3) (k1_pay630 x0 x1 x2 x3)) (k1_pay222 (F := F) (k1_pay629 x0 x1 x2 x3)) (k1_pay223 (k1_pay607 x0 x1 x2 x3) (k1_pay608 x0 x1 x2 x3) (k1_pay629 x0 x1 x2 x3)) (k1_pay224 (k1_pay607 x0 x1 x2 x3) (k1_pay608 x0 x1 x2 x3) (k1_pay629 x0 x1 x2 x3)) (k1_pay225 (k1_pay607 x0 x1 x2 x3) (k1_pay608 x0 x1 x2 x3) (k1_pay629 x0 x1 x2 x3)) (k1_pay226 (k1_pay607 x0 x1 x2 x3) (k1_pay608 x0 x1 x2 x3) (k1_pay629 x0 x1 x2 x3)) (k1_pay227 (k1_pay607 x0 x1 x2 x3) (k1_pay629 x0 x1 x2 x3)) (k1_pay228 (k1_pay608 x0 x1 x2 x3))) (k1_pay230 (View.ld x0 r1_23)) (k1_pay233 (k1_pay607 x0 x1 x2 x3) (k1_pay608 x0 x1 x2 x3) (View.ld x1 r1_24)) (k1_pay234 (k1_pay607 x0 x1 x2 x3) (k1_pay608 x0 x1 x2 x3) (View.ld x1 r1_24)) (k1_pay235 (k1_pay607 x0 x1 x2 x3) (k1_pay608 x0 x1 x2 x3) (k1_pay632 x0 x1 x2 x3)) (k1_pay236 (k1_pay607 x0 x1 x2 x3) (k1_pay608 x0 x1 x2 x3) (k1_pay632 x0 x1 x2 x3)) (k1_pay237 (k1_pay607 x0 x1 x2 x3) (k1_pay608 x0 x1 x2 x3) (k1_pay632 x0 x1 x2 x3)) (k1_pay238 (k1_pay607 x0 x1 x2 x3) (k1_pay608 x0 x1 x2 x3) (k1_pay632 x0 x1 x2 x3)) (k1_pay239 (k1_pay607 x0 x1 x2 x3) (k1_pay608 x0 x1 x2 x3) (k1_pay632 x0 x1 x2 x3)) (k1_pay240 (k1_pay607 x0 x1 x2 x3) (k1_pay608 x0 x1 x2 x3) (k1_pay632 x0 x1 x2 x3)) (k1_pay245 (k1_pay242 (k1_pay608 x0 x1 x2 x3)) (k1_pay243 (F := F) (k1_pay631 x0 x1 x2 x3)) (k1_pay244 (k1_pay607 x0 x1 x2 x3))) (k1_pay246 (k1_pay607 x0 x1 x2 x3) (k1_pay608 x0 x1 x2 x3) (k1_pay633 x0 x1 x2 x3)) (k1_pay247 (k1_pay607 x0 x1 x2 x3) (k1_pay608 x0 x1 x2 x3) (k1_pay633 x0 x1 x2 x3)) (k1_pay248 (k1_pay607 x0 x1 x2 x3) (k1_pay608 x0 x1 x2 x3) (k1_pay633 x0 x1 x2 x3)) (k1_pay249 (k1_pay607 x0 x1 x2 x3) (k1_pay608 x0 x1 x2 x3) (k1_pay633 x0 x1 x2 x3)) (k1_pay250 (k1_pay607 x0 x1 x2 x3) (k1_pay608 x0 x1 x2 x3) (k1_pay633 x0 x1 x2 x3)) (k1_pay251 (k1_pay607 x0 x1 x2 x3) (k1_pay608 x0 x1 x2 x3) (k1_pay633 x0 x1 x2 x3)) (k1_pay252 (k1_pay607 x0 x1 x2 x3) (k1_pay608 x0 x1 x2 x3) (k1_pay633 x0 x1 x2 x3))) (k1_pay254 (View.ld x0 r1_25)) (k1_pay257 (k1_pay607 x0 x1 x2 x3) (k1_pay608 x0 x1 x2 x3) (View.ld x1 r1_26)) (k1_pay258 (k1_pay607 x0 x1 x2 x3) (k1_pay608 x0 x1 x2 x3) (View.ld x1 r1_26)) (k1_pay259 (k1_pay607 x0 x1 x2 x3) (k1_pay608 x0 x1 x2 x3) (View.ld x1 r1_26)) (k1_pay260 (k1_pay607 x0 x1 x2 x3) (k1_pay608 x0 x1 x2 x3) (View.ld x1 r1_26)) (k1_pay261 (k1_pay607 x0 x1 x2 x3) (k1_pay608 x0 x1 x2 x3) (View.ld x1 r1_26)) (k1_pay264 (k1_pay635 x0 x1 x2 x3) (k1_pay262 (k1_pay607 x0 x1 x2 x3)) (k1_pay263 (k1_pay608 x0 x1 x2 x3))) (k1_pay265 (k1_pay607 x0 x1 x2 x3) (k1_pay608 x0 x1 x2 x3) (k1_pay635 x0 x1 x2 x3)) (k1_pay266 (k1_pay607 x0 x1 x2 x3) (k1_pay608 x0 x1 x2 x3) (k1_pay635 x0 x1 x2 x3)) (k1_pay267 (F := F) (k1_pay634 x0 x1 x2 x3)) (k1_pay268 (k1_pay607 x0 x1 x2 x3) (k1_pay608 x0 x1 x2 x3) (k1_pay634 x0 x1 x2 x3)) (k1_pay269 (k1_pay607 x0 x1 x2 x3) (k1_pay608 x0 x1 x2 x3) (k1_pay634 x0 x1 x2 x3)) (k1_pay270 (k1_pay607 x0 x1 x2 x3) (k1_pay608 x0 x1 x2 x3) (k1_pay634 x0 x1 x2 x3)) (k1_pay271 (k1_pay607 x0 x1 x2 x3) (k1_pay634 x0 x1 x2 x3)) (k1_pay272 (k1_pay608 x0 x1 x2 x3))) (k1_pay274 (View.ld x0 r1_27)) (k1_pay277 (k1_pay607 x0 x1 x2 x3) (k1_pay608 x0 x1 x2 x3) (View.ld x1 r1_28)) (k1_pay278 (k1_pay607 x0 x1 x2 x3) (k1_pay608 x0 x1 x2 x3) (k1_pay636 x0 x1 x2 x3)) (k1_pay279 (k1_pay607 x0 x1 x2 x3) (k1_pay608 x0 x1 x2 x3) (k1_pay636 x0 x1 x2 x3)) (k1_pay280 (k1_pay607 x0 x1 x2 x3) (k1_pay608 x0 x1 x2 x3) (k1_pay636 x0 x1 x2 x3)) (k1_pay281 (k1_pay607 x0 x1 x2 x3) (k1_pay608 x0 x1 x2 x3) (k1_pay636 x0 x1 x2 x3)) (k1_pay282 (k1_pay607 x0 x1 x2 x3) (k1_pay608 x0 x1 x2 x3) (k1_pay636 x0 x1 x2 x3)) (k1_pay283 (k1_pay607 x0 x1 x2 x3) (k1_pay608 x0 x1 x2 x3) (k1_pay636 x0 x1 x2 x3)) (k1_pay284 (k1_pay607 x0 x1 x2 x3) (k1_pay608 x0 x1 x2 x3) (k1_pay636 x0 x1 x2 x3)) (k1_pay286 (F := F) (k1_pay637 x0 x1 x2 x3) 252645135#32) (k1_pay287 (k1_pay607 x0 x1 x2 x3) (k1_pay608 x0 x1 x2 x3) (k1_pay637 x0 x1 x2 x3) 252645135#32) (k1_pay288 (k1_pay607 x0 x1 x2 x3) (k1_pay608 x0 x1 x2 x3) (k1_pay637 x0 x1 x2 x3) 252645135#32) (k1_pay289 (k1_pay607 x0 x1 x2 x3) (k1_pay608 x0 x1 x2 x3) (k1_pay637 x0 x1 x2 x3) 252645135#32) (k1_pay290 (k1_pay607 x0 x1 x2 x3) (k1_pay608 x0 x1 x2 x3) (k1_pay637 x0 x1 x2 x3) 252645135#32) (k1_pay291 (k1_pay607 x0 x1 x2 x3) (k1_pay608 x0 x1 x2 x3) (k1_pay637 x0 x1 x2 x3) 252645135#32) (k1_pay292 (k1_pay607 x0 x1 x2 x3) (k1_pay608 x0 x1 x2 x3) (k1_pay637 x0 x1 x2 x3) 252645135#32) (k1_pay293 (k1_pay607 x0 x1 x2 x3) (k1_pay608 x0 x1 x2 x3) (k1_pay637 x0 x1 x2 x3) 252645135#32)) (k1_pay295 (View.ld x0 r1_29)) (k1_pay298 (k1_pay607 x0 x1 x2 x3) (k1_pay608 x0 x1 x2 x3) (View.ld x1 r1_30)) (k1_pay299 (k1_pay607 x0 x1 x2 x3) (k1_pay608 x0 x1 x2 x3) (View.ld x1 r1_30)) (k1_pay300 (k1_pay607 x0 x1 x2 x3) (k1_pay608 x0 x1 x2 x3) (View.ld x1 r1_30)) (k1_pay301 (k1_pay607 x0 x1 x2 x3) (k1_pay608 x0 x1 x2 x3) (View.ld x1 r1_30)) (k1_pay304 (k1_pay639 x0 x1 x2 x3) (k1_pay302 (k1_pay607 x0 x1 x2 x3)) (k1_pay303 (k1_pay608 x0 x1 x2 x3))) (k1_pay305 (k1_pay607 x0 x1 x2 x3) (k1_pay608 x0 x1 x2 x3) (k1_pay639 x0 x1 x2 x3)) (k1_pay306 (k1_pay607 x0 x1 x2 x3) (k1_pay608 x0 x1 x2 x3) (k1_pay639 x0 x1 x2 x3)) (k1_pay307 (k1_pay607 x0 x1 x2 x3) (k1_pay608 x0 x1 x2 x3) (k1_pay639 x0 x1 x2 x3)) (k1_pay308 (F := F) (k1_pay638 x0 x1 x2 x3)) (k1_pay309 (k1_pay607 x0 x1 x2 x3) (k1_pay608 x0 x1 x2 x3) (k1_pay638 x0 x1 x2 x3)) (k1_pay310 (k1_pay607 x0 x1 x2 x3) (k1_pay608 x0 x1 x2 x3) (k1_pay638 x0 x1 x2 x3)) (k1_pay311 (k1_pay607 x0 x1 x2 x3) (k1_pay638 x0 x1 x2 x3)) (k1_pay312 (k1_pay608 x0 x1 x2 x3))) (k1_pay314 (View.ld x0 r1_31)) (k1_pay317 (k1_pay607 x0 x1 x2 x3) (k1_pay608 x0 x1 x2 x3) (k1_pay641 x0 x1 x2 x3)) (k1_pay318 (k1_pay607 x0 x1 x2 x3) (k1_pay608 x0 x1 x2 x3) (k1_pay641 x0 x1 x2 x3)) (k1_pay319 (k1_pay607 x0 x1 x2 x3) (k1_pay608 x0 x1 x2 x3) (k1_pay641 x0 x1 x2 x3)) (k1_pay320 (k1_pay607 x0 x1 x2 x3) (k1_pay608 x0 x1 x2 x3) (k1_pay641 x0 x1 x2 x3)) (k1_pay321 (k1_pay607 x0 x1 x2 x3) (k1_pay608 x0 x1 x2 x3) (k1_pay641 x0 x1 x2 x3)) (k1_pay322 (k1_pay607 x0 x1 x2 x3) (k1_pay608 x0 x1 x2 x3) (k1_pay641 x0 x1 x2 x3)) (k1_pay323 (k1_pay607 x0 x1 x2 x3) (k1_pay608 x0 x1 x2 x3) (k1_pay641 x0 x1 x2 x3)) (k1_pay327 (k1_pay324 (k1_pay608 x0 x1 x2 x3)) (k1_pay325 (k1_pay641 x0 x1 x2 x3)) (k1_pay326 (k1_pay607 x0 x1 x2 x3))) (k1_pay328 (F := F) (k1_pay640 x0 x1 x2 x3)) (k1_pay329 (k1_pay607 x0 x1 x2 x3) (k1_pay608 x0 x1 x2 x3) (k1_pay640 x0 x1 x2 x3)) (k1_pay330 (k1_pay607 x0 x1 x2 x3) (k1_pay608 x0 x1 x2 x3) (k1_pay640 x0 x1 x2 x3)) (k1_pay331 (k1_pay607 x0 x1 x2 x3) (k1_pay608 x0 x1 x2 x3) (k1_pay640 x0 x1 x2 x3)) (k1_pay332 (k1_pay607 x0 x1 x2 x3) (k1_pay608 x0 x1 x2 x3) (k1_pay640 x0 x1 x2 x3)) (k1_pay333 (k1_pay607 x0 x1 x2 x3) (k1_pay608 x0 x1 x2 x3) (k1_pay640 x0 x1 x2 x3)) (k1_pay334 (k1_pay607 x0 x1 x2 x3) (k1_pay608 x0 x1 x2 x3) (k1_pay640 x0 x1 x2 x3))) (k1_pay336 (View.ld x0 r1_33)) (k1_pay339 (k1_pay607 x0 x1 x2 x3) (k1_pay608 x0 x1 x2 x3) (View.ld x1 r1_34)) (k1_pay340 (k1_pay607 x0 x1 x2 x3) (k1_pay608 x0 x1 x2 x3) (View.ld x1 r1_34)) (k1_pay341 (k1_pay607 x0 x1 x2 x3) (k1_pay608 x0 x1 x2 x3) (View.ld x1 r1_34)) (k1_pay344 (k1_pay643 x0 x1 x2 x3) (k1_pay342 (k1_pay607 x0 x1 x2 x3)) (k1_pay343 (k1_pay608 x0 x1 x2 x3))) (k1_pay345 (k1_pay607 x0 x1 x2 x3) (k1_pay608 x0 x1 x2 x3) (k1_pay643 x0 x1 x2 x3)) (k1_pay346 (k1_pay607 x0 x1 x2 x3) (k1_pay608 x0 x1 x2 x3) (k1_pay643 x0 x1 x2 x3)) (k1_pay347 (k1_pay607 x0 x1 x2 x3) (k1_pay608 x0 x1 x2 x3) (k1_pay643 x0 x1 x2 x3)) (k1_pay348 (k1_pay607 x0 x1 x2 x3) (k1_pay608 x0 x1 x2 x3) (k1_pay643 x0 x1 x2 x3)) (k1_pay349 (F := F) (k1_pay642 x0 x1 x2 x3)) (k1_pay350 (k1_pay607 x0 x1 x2 x3) (k1_pay608 x0 x1 x2 x3) (k1_pay642 x0 x1 x2 x3)) (k1_pay351 (k1_pay607 x0 x1 x2 x3) (k1_pay642 x0 x1 x2 x3)) (k1_pay352 (k1_pay608 x0 x1 x2 x3))) (k1_pay354 (View.ld x0 r1_35)) (k1_pay357 (k1_pay607 x0 x1 x2 x3) (k1_pay608 x0 x1 x2 x3) (View.ld x1 r1_36)) (k1_pay358 (k1_pay607 x0 x1 x2 x3) (k1_pay608 x0 x1 x2 x3) (View.ld x1 r1_36)) (k1_pay359 (k1_pay607 x0 x1 x2 x3) (k1_pay608 x0 x1 x2 x3) (View.ld x1 r1_36)) (k1_pay360 (k1_pay607 x0 x1 x2 x3) (k1_pay608 x0 x1 x2 x3) (View.ld x1 r1_36)) (k1_pay361 (k1_pay607 x0 x1 x2 x3) (k1_pay608 x0 x1 x2 x3) (View.ld x1 r1_36)) (k1_pay362 (k1_pay607 x0 x1 x2 x3) (k1_pay608 x0 x1 x2 x3) (View.ld x1 r1_36)) (k1_pay366 (k1_pay363 (k1_pay608 x0 x1 x2 x3)) (k1_pay364 (View.ld x1 r1_36)) (k1_pay365 (k1_pay607 x0 x1 x2 x3))) (k1_pay367 (k1_pay607 x0 x1 x2 x3) (k1_pay608 x0 x1 x2 x3) (k1_pay356 (View.ld x1 r1_36))) (k1_pay368 (F := F) (k1_pay644 x0 x1 x2 x3)) (k1_pay369 (k1_pay607 x0 x1 x2 x3) (k1_pay608 x0 x1 x2 x3) (k1_pay644 x0 x1 x2 x3)) (k1_pay370 (k1_pay607 x0 x1 x2 x3) (k1_pay608 x0 x1 x2 x3) (k1_pay644 x0 x1 x2 x3)) (k1_pay371 (k1_pay607 x0 x1 x2 x3) (k1_pay608 x0 x1 x2 x3) (k1_pay644 x0 x1 x2 x3)) (k1_pay372 (k1_pay607 x0 x1 x2 x3) (k1_pay608 x0 x1 x2 x3) (k1_pay644 x0 x1 x2 x3)) (k1_pay373 (k1_pay607 x0 x1 x2 x3) (k1_pay608 x0 x1 x2 x3) (k1_pay644 x0 x1 x2 x3))) (k1_pay375 (View.ld x0 r1_37)) (k1_pay391 (k1_pay607 x0 x1 x2 x3) (k1_pay608 x0 x1 x2 x3) (k1_pay378 (k1_pay607 x0 x1 x2 x3) (k1_pay608 x0 x1 x2 x3) (View.ld x1 r1_38)) (k1_pay379 (k1_pay607 x0 x1 x2 x3) (k1_pay608 x0 x1 x2 x3) (View.ld x1 r1_38)) (k1_pay382 (k1_pay646 x0 x1 x2 x3) (k1_pay380 (k1_pay607 x0 x1 x2 x3)) (k1_pay381 (k1_pay608 x0 x1 x2 x3))) (k1_pay383 (k1_pay607 x0 x1 x2 x3) (k1_pay608 x0 x1 x2 x3) (k1_pay646 x0 x1 x2 x3)) (k1_pay384 (k1_pay607 x0 x1 x2 x3) (k1_pay608 x0 x1 x2 x3) (k1_pay646 x0 x1 x2 x3)) (k1_pay385 (k1_pay607 x0 x1 x2 x3) (k1_pay608 x0 x1 x2 x3) (k1_pay646 x0 x1 x2 x3)) (k1_pay386 (k1_pay607 x0 x1 x2 x3) (k1_pay608 x0 x1 x2 x3) (k1_pay646 x0 x1 x2 x3)) (k1_pay387 (k1_pay607 x0 x1 x2 x3) (k1_pay608 x0 x1 x2 x3) (k1_pay646 x0 x1 x2 x3)) (k1_pay388 (F := F) (k1_pay645 x0 x1 x2 x3)) (k1_pay389 (k1_pay607 x0 x1 x2 x3) (k1_pay645 x0 x1 x2 x3)) (k1_pay390 (k1_pay608 x0 x1 x2 x3))) (constant S96x512 .f32 0x00000000#32)) (k1_pay393 (View.ld x0 r1_39)) (k1_pay396 (k1_pay607 x0 x1 x2 x3) (k1_pay608 x0 x1 x2 x3) (View.ld x1 r1_40)) (k1_pay397 (k1_pay607 x0 x1 x2 x3) (k1_pay608 x0 x1 x2 x3) (View.ld x1 r1_40)) (k1_pay398 (k1_pay607 x0 x1 x2 x3) (k1_pay608 x0 x1 x2 x3) (View.ld x1 r1_40)) (k1_pay399 (k1_pay607 x0 x1 x2 x3) (k1_pay608 x0 x1 x2 x3) (View.ld x1 r1_40)) (k1_pay400 (k1_pay607 x0 x1 x2 x3) (k1_pay608 x0 x1 x2 x3) (View.ld x1 r1_40)) (k1_pay404 (k1_pay401 (k1_pay608 x0 x1 x2 x3)) (k1_pay402 (View.ld x1 r1_40)) (k1_pay403 (k1_pay607 x0 x1 x2 x3))) (k1_pay405 (k1_pay607 x0 x1 x2 x3) (k1_pay608 x0 x1 x2 x3) (k1_pay648 x0 x1 x2 x3)) (k1_pay406 (k1_pay607 x0 x1 x2 x3) (k1_pay608 x0 x1 x2 x3) (k1_pay648 x0 x1 x2 x3)) (k1_pay407 (F := F) (k1_pay647 x0 x1 x2 x3)) (k1_pay408 (k1_pay607 x0 x1 x2 x3) (k1_pay608 x0 x1 x2 x3) (k1_pay647 x0 x1 x2 x3)) (k1_pay409 (k1_pay607 x0 x1 x2 x3) (k1_pay608 x0 x1 x2 x3) (k1_pay647 x0 x1 x2 x3)) (k1_pay410 (k1_pay607 x0 x1 x2 x3) (k1_pay608 x0 x1 x2 x3) (k1_pay647 x0 x1 x2 x3)) (k1_pay411 (k1_pay607 x0 x1 x2 x3) (k1_pay608 x0 x1 x2 x3) (k1_pay647 x0 x1 x2 x3))) (k1_pay413 (View.ld x0 r1_41)) (k1_pay416 (k1_pay607 x0 x1 x2 x3) (k1_pay608 x0 x1 x2 x3) (View.ld x1 r1_42)) (k1_pay419 (k1_pay649 x0 x1 x2 x3) (k1_pay417 (k1_pay607 x0 x1 x2 x3)) (k1_pay418 (k1_pay608 x0 x1 x2 x3))) (k1_pay420 (k1_pay607 x0 x1 x2 x3) (k1_pay608 x0 x1 x2 x3) (k1_pay649 x0 x1 x2 x3)) (k1_pay421 (k1_pay607 x0 x1 x2 x3) (k1_pay608 x0 x1 x2 x3) (k1_pay649 x0 x1 x2 x3)) (k1_pay422 (k1_pay607 x0 x1 x2 x3) (k1_pay608 x0 x1 x2 x3) (k1_pay649 x0 x1 x2 x3)) (k1_pay423 (k1_pay607 x0 x1 x2 x3) (k1_pay608 x0 x1 x2 x3) (k1_pay649 x0 x1 x2 x3)) (k1_pay424 (k1_pay607 x0 x1 x2 x3) (k1_pay608 x0 x1 x2 x3) (k1_pay649 x0 x1 x2 x3)) (k1_pay425 (k1_pay607 x0 x1 x2 x3) (k1_pay608 x0 x1 x2 x3) (k1_pay649 x0 x1 x2 x3)) (k1_pay427 (F := F) (k1_pay650 x0 x1 x2 x3)) (k1_pay428 (k1_pay607 x0 x1 x2 x3) (k1_pay608 x0 x1 x2 x3) (k1_pay650 x0 x1 x2 x3)) (k1_pay429 (k1_pay607 x0 x1 x2 x3) (k1_pay608 x0 x1 x2 x3) (k1_pay650 x0 x1 x2 x3)) (k1_pay430 (k1_pay607 x0 x1 x2 x3) (k1_pay608 x0 x1 x2 x3) (k1_pay650 x0 x1 x2 x3)) (k1_pay431 (k1_pay607 x0 x1 x2 x3) (k1_pay608 x0 x1 x2 x3) (k1_pay650 x0 x1 x2 x3)) (k1_pay432 (k1_pay607 x0 x1 x2 x3) (k1_pay608 x0 x1 x2 x3) (k1_pay650 x0 x1 x2 x3)) (k1_pay433 (k1_pay607 x0 x1 x2 x3) (k1_pay608 x0 x1 x2 x3) (k1_pay650 x0 x1 x2 x3)) (k1_pay434 (k1_pay607 x0 x1 x2 x3) (k1_pay608 x0 x1 x2 x3) (k1_pay650 x0 x1 x2 x3)) (k1_pay435 (k1_pay607 x0 x1 x2 x3)) (k1_pay436 (k1_pay608 x0 x1 x2 x3))) (k1_pay438 (View.ld x0 r1_43)) (k1_pay441 (k1_pay607 x0 x1 x2 x3) (k1_pay608 x0 x1 x2 x3) (View.ld x1 r1_44)) (k1_pay442 (k1_pay607 x0 x1 x2 x3) (k1_pay608 x0 x1 x2 x3) (View.ld x1 r1_44)) (k1_pay443 (k1_pay607 x0 x1 x2 x3) (k1_pay608 x0 x1 x2 x3) (View.ld x1 r1_44)) (k1_pay444 (k1_pay607 x0 x1 x2 x3) (k1_pay608 x0 x1 x2 x3) (View.ld x1 r1_44)) (k1_pay448 (k1_pay445 (k1_pay608 x0 x1 x2 x3)) (k1_pay446 (View.ld x1 r1_44)) (k1_pay447 (k1_pay607 x0 x1 x2 x3))) (k1_pay449 (k1_pay607 x0 x1 x2 x3) (k1_pay608 x0 x1 x2 x3) (k1_pay652 x0 x1 x2 x3)) (k1_pay450 (k1_pay607 x0 x1 x2 x3) (k1_pay608 x0 x1 x2 x3) (k1_pay652 x0 x1 x2 x3)) (k1_pay451 (k1_pay607 x0 x1 x2 x3) (k1_pay608 x0 x1 x2 x3) (k1_pay652 x0 x1 x2 x3)) (k1_pay452 (F := F) (k1_pay651 x0 x1 x2 x3)) (k1_pay453 (k1_pay607 x0 x1 x2 x3) (k1_pay608 x0 x1 x2 x3) (k1_pay651 x0 x1 x2 x3)) (k1_pay454 (k1_pay607 x0 x1 x2 x3) (k1_pay608 x0 x1 x2 x3) (k1_pay651 x0 x1 x2 x3)) (k1_pay455 (k1_pay607 x0 x1 x2 x3) (k1_pay608 x0 x1 x2 x3) (k1_pay651 x0 x1 x2 x3))) (k1_pay457 (View.ld x0 r1_45)) (k1_pay462 (k1_pay654 x0 x1 x2 x3) (k1_pay460 (k1_pay607 x0 x1 x2 x3)) (k1_pay461 (k1_pay608 x0 x1 x2 x3))) (k1_pay463 (k1_pay607 x0 x1 x2 x3) (k1_pay608 x0 x1 x2 x3) (k1_pay654 x0 x1 x2 x3)) (k1_pay464 (k1_pay607 x0 x1 x2 x3) (k1_pay608 x0 x1 x2 x3) (k1_pay654 x0 x1 x2 x3)) (k1_pay465 (k1_pay607 x0 x1 x2 x3) (k1_pay608 x0 x1 x2 x3) (k1_pay654 x0 x1 x2 x3)) (k1_pay466 (k1_pay607 x0 x1 x2 x3) (k1_pay608 x0 x1 x2 x3) (k1_pay654 x0 x1 x2 x3)) (k1_pay467 (k1_pay607 x0 x1 x2 x3) (k1_pay608 x0 x1 x2 x3) (k1_pay654 x0 x1 x2 x3)) (k1_pay468 (k1_pay607 x0 x1 x2 x3) (k1_pay608 x0 x1 x2 x3) (k1_pay654 x0 x1 x2 x3)) (k1_pay471 (k1_pay469 (k1_pay607 x0 x1 x2 x3) (k1_pay654 x0 x1 x2 x3)) (k1_pay470 (k1_pay608 x0 x1 x2 x3))) (k1_pay472 (F := F) (k1_pay653 x0 x1 x2 x3)) (k1_pay473 (k1_pay607 x0 x1 x2 x3) (k1_pay608 x0 x1 x2 x3) (k1_pay653 x0 x1 x2 x3)) (k1_pay474 (k1_pay607 x0 x1 x2 x3) (k1_pay608 x0 x1 x2 x3) (k1_pay653 x0 x1 x2 x3)) (k1_pay475 (k1_pay607 x0 x1 x2 x3) (k1_pay608 x0 x1 x2 x3) (k1_pay653 x0 x1 x2 x3)) (k1_pay476 (k1_pay607 x0 x1 x2 x3) (k1_pay608 x0 x1 x2 x3) (k1_pay653 x0 x1 x2 x3)) (k1_pay477 (k1_pay607 x0 x1 x2 x3) (k1_pay608 x0 x1 x2 x3) (k1_pay653 x0 x1 x2 x3)) (k1_pay478 (k1_pay607 x0 x1 x2 x3) (k1_pay608 x0 x1 x2 x3) (k1_pay653 x0 x1 x2 x3)) (k1_pay479 (k1_pay607 x0 x1 x2 x3)) (k1_pay480 (k1_pay608 x0 x1 x2 x3))) (k1_pay482 (View.ld x0 r1_47)) (k1_pay485 (k1_pay607 x0 x1 x2 x3) (k1_pay608 x0 x1 x2 x3) (View.ld x1 r1_48)) (k1_pay486 (k1_pay607 x0 x1 x2 x3) (k1_pay608 x0 x1 x2 x3) (View.ld x1 r1_48)) (k1_pay487 (k1_pay607 x0 x1 x2 x3) (k1_pay608 x0 x1 x2 x3) (View.ld x1 r1_48)) (k1_pay491 (k1_pay488 (k1_pay608 x0 x1 x2 x3)) (k1_pay489 (View.ld x1 r1_48)) (k1_pay490 (k1_pay607 x0 x1 x2 x3))) (k1_pay492 (k1_pay607 x0 x1 x2 x3) (k1_pay608 x0 x1 x2 x3) (k1_pay656 x0 x1 x2 x3)) (k1_pay493 (k1_pay607 x0 x1 x2 x3) (k1_pay608 x0 x1 x2 x3) (k1_pay656 x0 x1 x2 x3)) (k1_pay494 (k1_pay607 x0 x1 x2 x3) (k1_pay608 x0 x1 x2 x3) (k1_pay656 x0 x1 x2 x3)) (k1_pay495 (k1_pay607 x0 x1 x2 x3) (k1_pay608 x0 x1 x2 x3) (k1_pay656 x0 x1 x2 x3)) (k1_pay496 (F := F) (k1_pay655 x0 x1 x2 x3)) (k1_pay497 (k1_pay607 x0 x1 x2 x3) (k1_pay608 x0 x1 x2 x3) (k1_pay655 x0 x1 x2 x3)) (k1_pay498 (k1_pay607 x0 x1 x2 x3) (k1_pay608 x0 x1 x2 x3) (k1_pay655 x0 x1 x2 x3))) (k1_pay500 (View.ld x0 r1_49)) (k1_pay504 (k1_pay607 x0 x1 x2 x3) (k1_pay608 x0 x1 x2 x3) (k1_pay657 x0 x1 x2 x3)) (k1_pay505 (k1_pay607 x0 x1 x2 x3) (k1_pay608 x0 x1 x2 x3) (k1_pay657 x0 x1 x2 x3)) (k1_pay506 (k1_pay607 x0 x1 x2 x3) (k1_pay608 x0 x1 x2 x3) (k1_pay657 x0 x1 x2 x3)) (k1_pay507 (k1_pay607 x0 x1 x2 x3) (k1_pay608 x0 x1 x2 x3) (k1_pay657 x0 x1 x2 x3)) (k1_pay508 (k1_pay607 x0 x1 x2 x3) (k1_pay608 x0 x1 x2 x3) (k1_pay657 x0 x1 x2 x3)) (k1_pay509 (k1_pay607 x0 x1 x2 x3) (k1_pay608 x0 x1 x2 x3) (k1_pay657 x0 x1 x2 x3)) (k1_pay512 (k1_pay510 (k1_pay607 x0 x1 x2 x3) (k1_pay657 x0 x1 x2 x3)) (k1_pay511 (k1_pay608 x0 x1 x2 x3))) (k1_pay513 (k1_pay607 x0 x1 x2 x3) (k1_pay608 x0 x1 x2 x3) (k1_pay503 (F := F) (k1_pay657 x0 x1 x2 x3))) (k1_pay514 (F := F) (k1_pay658 x0 x1 x2 x3)) (k1_pay515 (k1_pay607 x0 x1 x2 x3) (k1_pay608 x0 x1 x2 x3) (k1_pay658 x0 x1 x2 x3)) (k1_pay516 (k1_pay607 x0 x1 x2 x3) (k1_pay608 x0 x1 x2 x3) (k1_pay658 x0 x1 x2 x3)) (k1_pay517 (k1_pay607 x0 x1 x2 x3) (k1_pay608 x0 x1 x2 x3) (k1_pay658 x0 x1 x2 x3)) (k1_pay518 (k1_pay607 x0 x1 x2 x3) (k1_pay608 x0 x1 x2 x3) (k1_pay658 x0 x1 x2 x3)) (k1_pay519 (k1_pay607 x0 x1 x2 x3) (k1_pay608 x0 x1 x2 x3) (k1_pay658 x0 x1 x2 x3)) (k1_pay520 (k1_pay607 x0 x1 x2 x3)) (k1_pay521 (k1_pay608 x0 x1 x2 x3))) (k1_pay523 (View.ld x0 r1_51)) (k1_pay526 (k1_pay607 x0 x1 x2 x3) (k1_pay608 x0 x1 x2 x3) (View.ld x1 r1_52)) (k1_pay527 (k1_pay607 x0 x1 x2 x3) (k1_pay608 x0 x1 x2 x3) (View.ld x1 r1_52)) (k1_pay531 (k1_pay528 (k1_pay608 x0 x1 x2 x3)) (k1_pay529 (View.ld x1 r1_52)) (k1_pay530 (k1_pay607 x0 x1 x2 x3))) (k1_pay532 (k1_pay607 x0 x1 x2 x3) (k1_pay608 x0 x1 x2 x3) (k1_pay660 x0 x1 x2 x3)) (k1_pay533 (k1_pay607 x0 x1 x2 x3) (k1_pay608 x0 x1 x2 x3) (k1_pay660 x0 x1 x2 x3)) (k1_pay534 (k1_pay607 x0 x1 x2 x3) (k1_pay608 x0 x1 x2 x3) (k1_pay660 x0 x1 x2 x3)) (k1_pay535 (k1_pay607 x0 x1 x2 x3) (k1_pay608 x0 x1 x2 x3) (k1_pay660 x0 x1 x2 x3)) (k1_pay536 (k1_pay607 x0 x1 x2 x3) (k1_pay608 x0 x1 x2 x3) (k1_pay660 x0 x1 x2 x3)) (k1_pay537 (F := F) (k1_pay659 x0 x1 x2 x3)) (k1_pay538 (k1_pay607 x0 x1 x2 x3) (k1_pay608 x0 x1 x2 x3) (k1_pay659 x0 x1 x2 x3))) (k1_pay540 (View.ld x0 r1_53)) (k1_pay543 (k1_pay607 x0 x1 x2 x3) (k1_pay608 x0 x1 x2 x3) (View.ld x1 r1_54)) (k1_pay544 (k1_pay607 x0 x1 x2 x3) (k1_pay608 x0 x1 x2 x3) (View.ld x1 r1_54)) (k1_pay545 (k1_pay607 x0 x1 x2 x3) (k1_pay608 x0 x1 x2 x3) (View.ld x1 r1_54)) (k1_pay546 (k1_pay607 x0 x1 x2 x3) (k1_pay608 x0 x1 x2 x3) (View.ld x1 r1_54)) (k1_pay547 (k1_pay607 x0 x1 x2 x3) (k1_pay608 x0 x1 x2 x3) (View.ld x1 r1_54)) (k1_pay550 (k1_pay548 (k1_pay607 x0 x1 x2 x3) (View.ld x1 r1_54)) (k1_pay549 (k1_pay608 x0 x1 x2 x3))) (k1_pay551 (k1_pay607 x0 x1 x2 x3) (k1_pay608 x0 x1 x2 x3) (k1_pay662 x0 x1 x2 x3)) (k1_pay552 (k1_pay607 x0 x1 x2 x3) (k1_pay608 x0 x1 x2 x3) (k1_pay662 x0 x1 x2 x3)) (k1_pay553 (F := F) (k1_pay661 x0 x1 x2 x3)) (k1_pay554 (k1_pay607 x0 x1 x2 x3) (k1_pay608 x0 x1 x2 x3) (k1_pay661 x0 x1 x2 x3)) (k1_pay555 (k1_pay607 x0 x1 x2 x3) (k1_pay608 x0 x1 x2 x3) (k1_pay661 x0 x1 x2 x3)) (k1_pay556 (k1_pay607 x0 x1 x2 x3) (k1_pay608 x0 x1 x2 x3) (k1_pay661 x0 x1 x2 x3)) (k1_pay557 (k1_pay607 x0 x1 x2 x3) (k1_pay608 x0 x1 x2 x3) (k1_pay661 x0 x1 x2 x3)) (k1_pay558 (k1_pay607 x0 x1 x2 x3)) (k1_pay559 (k1_pay608 x0 x1 x2 x3))) (k1_pay561 (View.ld x0 r1_55)) (k1_pay564 (k1_pay607 x0 x1 x2 x3) (k1_pay608 x0 x1 x2 x3) (View.ld x1 r1_56)) (k1_pay568 (k1_pay565 (k1_pay608 x0 x1 x2 x3)) (k1_pay566 (View.ld x1 r1_56)) (k1_pay567 (k1_pay607 x0 x1 x2 x3))) (k1_pay569 (k1_pay607 x0 x1 x2 x3) (k1_pay608 x0 x1 x2 x3) (k1_pay663 x0 x1 x2 x3)) (k1_pay570 (k1_pay607 x0 x1 x2 x3) (k1_pay608 x0 x1 x2 x3) (k1_pay663 x0 x1 x2 x3)) (k1_pay571 (k1_pay607 x0 x1 x2 x3) (k1_pay608 x0 x1 x2 x3) (k1_pay663 x0 x1 x2 x3)) (k1_pay572 (k1_pay607 x0 x1 x2 x3) (k1_pay608 x0 x1 x2 x3) (k1_pay663 x0 x1 x2 x3)) (k1_pay573 (k1_pay607 x0 x1 x2 x3) (k1_pay608 x0 x1 x2 x3) (k1_pay663 x0 x1 x2 x3)) (k1_pay574 (k1_pay607 x0 x1 x2 x3) (k1_pay608 x0 x1 x2 x3) (k1_pay663 x0 x1 x2 x3)) (k1_pay576 (k1_pay607 x0 x1 x2 x3) (k1_pay608 x0 x1 x2 x3) (k1_pay664 x0 x1 x2 x3)) (k1_pay577 (k1_pay607 x0 x1 x2 x3) (k1_pay608 x0 x1 x2 x3) (k1_pay664 x0 x1 x2 x3)) (k1_pay578 (k1_pay607 x0 x1 x2 x3) (k1_pay608 x0 x1 x2 x3) (k1_pay664 x0 x1 x2 x3)) (k1_pay579 (k1_pay607 x0 x1 x2 x3) (k1_pay608 x0 x1 x2 x3) (k1_pay664 x0 x1 x2 x3)) (k1_pay580 (k1_pay607 x0 x1 x2 x3) (k1_pay608 x0 x1 x2 x3) (k1_pay664 x0 x1 x2 x3)) (k1_pay581 (k1_pay607 x0 x1 x2 x3) (k1_pay608 x0 x1 x2 x3) (k1_pay664 x0 x1 x2 x3)) (k1_pay582 (k1_pay607 x0 x1 x2 x3) (k1_pay608 x0 x1 x2 x3) (k1_pay664 x0 x1 x2 x3)) (k1_pay583 (k1_pay608 x0 x1 x2 x3)) (k1_pay584 (k1_pay664 x0 x1 x2 x3)) (k1_pay585 (k1_pay607 x0 x1 x2 x3))) (k1_pay587 (View.ld x0 r1_57)) (k1_pay590 (k1_pay607 x0 x1 x2 x3) (k1_pay608 x0 x1 x2 x3) (View.ld x1 r1_58)) (k1_pay591 (k1_pay607 x0 x1 x2 x3) (k1_pay608 x0 x1 x2 x3) (View.ld x1 r1_58)) (k1_pay592 (k1_pay607 x0 x1 x2 x3) (k1_pay608 x0 x1 x2 x3) (View.ld x1 r1_58)) (k1_pay593 (k1_pay607 x0 x1 x2 x3) (k1_pay608 x0 x1 x2 x3) (View.ld x1 r1_58)) (k1_pay596 (k1_pay594 (k1_pay607 x0 x1 x2 x3) (View.ld x1 r1_58)) (k1_pay595 (k1_pay608 x0 x1 x2 x3))) (k1_pay597 (k1_pay607 x0 x1 x2 x3) (k1_pay608 x0 x1 x2 x3) (k1_pay666 x0 x1 x2 x3)) (k1_pay598 (k1_pay607 x0 x1 x2 x3) (k1_pay608 x0 x1 x2 x3) (k1_pay666 x0 x1 x2 x3)) (k1_pay599 (k1_pay607 x0 x1 x2 x3) (k1_pay608 x0 x1 x2 x3) (k1_pay666 x0 x1 x2 x3)) (k1_pay600 (F := F) (k1_pay665 x0 x1 x2 x3)) (k1_pay601 (k1_pay607 x0 x1 x2 x3) (k1_pay608 x0 x1 x2 x3) (k1_pay665 x0 x1 x2 x3)) (k1_pay602 (k1_pay607 x0 x1 x2 x3) (k1_pay608 x0 x1 x2 x3) (k1_pay665 x0 x1 x2 x3)) (k1_pay603 (k1_pay607 x0 x1 x2 x3) (k1_pay608 x0 x1 x2 x3) (k1_pay665 x0 x1 x2 x3)) (k1_pay604 (k1_pay607 x0 x1 x2 x3)) (k1_pay605 (k1_pay608 x0 x1 x2 x3))⟩]

/-- Its stores tile the buffer (checked by evaluation), so they cover it. -/
theorem cover1_4 (p0 : Vec F S96x512 .bf16) (y : S96x512.Idx) :
    ∃ pc ∈ ([⟨r1_59, p0⟩] : List (View.Piece (Elt F) S96x512 .bf16)), y ∈ pc.1.set :=
  View.cover_of_tiled [⟨r1_59, p0⟩] S96x512.size (by rfl) y

/-! ## The body's triple -/

set_option maxHeartbeats 2049200 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S96x7424 .bf16) (harg1 : arg1.IsWhole) (arg2 : Memref sig .tc .vmem S512x3712 .i8) (harg2 : arg2.IsWhole) (arg3 : Memref sig .tc .vmem S232x512 .f16) (harg3 : arg3.IsWhole) (arg4 : Memref sig .tc .vmem S232x512 .f16) (harg4 : arg4.IsWhole) (arg5 : Memref sig .tc .vmem S96x512 .bf16) (harg5 : arg5.IsWhole)
    (x0 : Vec F S96x7424 .bf16) (x1 : Vec F S512x3712 .i8) (x2 : Vec F S232x512 .f16) (x3 : Vec F S232x512 .f16) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1_q4_down i arg1 harg1 arg2 harg2 arg3 harg3 arg4 harg4 arg5 harg5) K := by
  simp only [cc1_q4_down_eq_skeleton]; unfold cc1_q4_down_skel
  simp only [k1_part75_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part76_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover1_4 _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (Lib/Pipeline.lean `BodyObligation`'s precondition, the windows one by one), -/
def bodyPre1 (c : Dev nD) (t : Fin cfg1.N) : sProp (MT nD τ sig Unit (Elt F) ℕ (UR sig nD τ) ℕ) :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp (MT nD τ sig Unit (Elt F) ℕ (UR sig nD τ) ℕ) :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.RunKernel

end
-- ==== Proof.RunKernel.Whole.lean ====
/- The two calls in order, among the host operations: the run from the launch to the return. -/
module

public import proofs.«01_k».proof.Proof.RunKernel.Up
public import proofs.«01_k».proof.Proof.RunKernel.Down
public import Idealize.ShloMosaic.Lib.Pipeline.RegionsLoop
public import Idealize.ShloMosaic.Lib.Pipeline.FrameSuffix

@[expose] public section

-- membership in a rectangle of long axes recurses once per coordinate
set_option maxRecDepth 16384

noncomputable section

namespace Cert.RunKernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2, main_v3]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)
theorem W4_main_arg7 (c : Dev nD) : W4 m ρ c (Proc.devRef .tc main_arg7) = m ((c : Thread nD τ).loc main_arg7) :=
  W4_args m ρ c main_arg7 (by decide)
theorem W4_main_arg8 (c : Dev nD) : W4 m ρ c (Proc.devRef .tc main_arg8) = m ((c : Thread nD τ).loc main_arg8) :=
  W4_args m ρ c main_arg8 (by decide)
theorem W4_main_arg9 (c : Dev nD) : W4 m ρ c (Proc.devRef .tc main_arg9) = m ((c : Thread nD τ).loc main_arg9) :=
  W4_args m ρ c main_arg9 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp (MT nD τ sig Unit (Elt F) ℕ (UR sig nD τ) ℕ) := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp (MT nD τ sig Unit (Elt F) ℕ (UR sig nD τ) ℕ) := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    refine Idealize.SL.BI.BIBase.Entails.trans ?_ (hin0 (V1 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V1 m ρ) c).Φ (Fin.last cfg0.N) from rfl]
    refine Idealize.SL.BI.BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run of the two calls: every buffer ends at `W4`, every semaphore counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The frame: the arguments end as launched, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c),
       (h.1 c _ (mem_uc main_arg4 (by decide))).trans (W4_main_arg4 m ρ c),
       (h.1 c _ (mem_uc main_arg5 (by decide))).trans (W4_main_arg5 m ρ c),
       (h.1 c _ (mem_uc main_arg6 (by decide))).trans (W4_main_arg6 m ρ c),
       (h.1 c _ (mem_uc main_arg7 (by decide))).trans (W4_main_arg7 m ρ c),
       (h.1 c _ (mem_uc main_arg8 (by decide))).trans (W4_main_arg8 m ρ c),
       (h.1 c _ (mem_uc main_arg9 (by decide))).trans (W4_main_arg9 m ρ c)⟩, h.2⟩) (run m ρ)

end Cert.RunKernel

end
-- ==== Proof.RunKernelIdeal.UpBlocks.lean ====
/- The first call: its blocks, its one condition, and its buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of long axes recurses once per coordinate
set_option maxRecDepth 16384

noncomputable section

namespace Cert.RunKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the buffers' contents when the call starts
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 29 = 0 :=
  (fun t => by
    have ht : t.val < 29 := Nat.lt_of_lt_of_eq t.isLt N_0
    have e0 : (grid0.coords t 0).val = t.val / 1 % 29 := Pipeline.Grid.coords_val t 0 (by decide) rfl
    simp only [cond0_0, e0]
    word_cmp
   : ∀ t : Fin grid0.N, cond0_0 (grid0.coords t) ↔ t.val % 29 = 0)

/-! ## The kernel body on any staging memrefs: a subtype the run finds -/

/-- One staging buffer of output window 7, through which its contents are stated (`View.read_writes_of_cover`: the
    choice does not matter). -/
abbrev VO0_7 : View sig .tc .vmem S96x256 .bf16 := (Memref.whole cc0_stg7_0 : Memref sig .tc .vmem S96x256 .bf16).view
/-- Each window's current staging memref at point `t`, spelled as the pipeline passes it (`bodyAt0`), and its wholeness. -/
abbrev ms0_0 (t : Fin cfg0.N) : Memref sig .tc .vmem S96x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x4096 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x256 .f16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x256 .f16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S96x256 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S96x8192 .bf16 := Memref.whole cc0_scratch0
abbrev scM0_1 : Memref sig .tc .vmem S256x256 .f32 := Memref.whole cc0_scratch1
abbrev scM0_2 : Memref sig .tc .vmem S256x256 .f32 := Memref.whole cc0_scratch2
abbrev scM0_3 : Memref sig .tc .vmem S256x256 .f32 := Memref.whole cc0_scratch3
abbrev scM0_4 : Memref sig .tc .vmem S256x256 .f32 := Memref.whole cc0_scratch4
/-- The scratch `arg9` the kernel carries between points, as a view: what it holds is stated through it. -/
abbrev VS0_0 : View sig .tc .vmem S96x8192 .bf16 := scM0_0.view

theorem sep_assoc_eq {M : Type _} [RA M] (P Q R : sProp M) : iprop((P ∗ Q) ∗ R) = iprop(P ∗ Q ∗ R) :=
  Idealize.SL.BI.equiv_iff.mp ⟨Idealize.SL.BI.sep_assoc, Idealize.SL.BI.sep_assoc'⟩

/-- What the first call neither stages nor uses as scratch: the second call's staging buffers, at anything, and the generator register. -/
def rest0 (c : Dev nD) : sProp (MT nD τ sig Unit (Elt F) ℕ (UR sig nD τ) ℕ) :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f)
    ∗ ∃ r, prngReg c r)

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ rest0 c) := by
  unfold Pipeline.ΦA rest0; rw [scopedRest0_eq]
  simp only [scM0_0, scM0_1, scM0_2, scM0_3, scM0_4, owns_whole, sep_assoc_eq]; rfl

end Cert.RunKernelIdeal

end
-- ==== Proof.RunKernelIdeal.UpFirst.lean ====
/- The first call's body at the first point, where it lays the activations out. -/
module

public import proofs.«01_k».proof.Proof.RunKernelIdeal.UpBlocks

@[expose] public section

-- membership in a rectangle of long axes recurses once per coordinate
set_option maxRecDepth 16384

noncomputable section

namespace Cert.RunKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- (the run's proof term is large: the definition's epilogue — `abstractNestedProofs` — walks it past the default budget)
set_option maxHeartbeats 11156000 in
/-- What the body's stores leave in each output's staging memref, as pieces (last first) WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S96x8192 .bf16) (harg1 : arg1.IsWhole) (arg2 : Memref sig .tc .vmem S256x4096 .i8) (harg2 : arg2.IsWhole) (arg3 : Memref sig .tc .vmem S256x256 .f16) (harg3 : arg3.IsWhole) (arg4 : Memref sig .tc .vmem S256x256 .f16) (harg4 : arg4.IsWhole) (arg5 : Memref sig .tc .vmem S256x4096 .i8) (harg5 : arg5.IsWhole) (arg6 : Memref sig .tc .vmem S256x256 .f16) (harg6 : arg6.IsWhole) (arg7 : Memref sig .tc .vmem S256x256 .f16) (harg7 : arg7.IsWhole) (arg8 : Memref sig .tc .vmem S96x256 .bf16) (harg8 : arg8.IsWhole) (arg9 : Memref sig .tc .vmem S96x8192 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (hc0 : cond0_0 i)
    (x0 : Vec F S96x8192 .bf16) (x1 : Vec F S256x4096 .i8) (x2 : Vec F S256x256 .f16) (x3 : Vec F S256x256 .f16) (x4 : Vec F S256x4096 .i8) (x5 : Vec F S256x256 .f16) (x6 : Vec F S256x256 .f16) :
    Σ' (L7 : List (View.Piece (Elt F) S96x256 .bf16)), Σ' (LS0 : List (View.Piece (Elt F) S96x8192 .bf16)), Σ' (LT1 : List (View.Piece (Elt F) S256x256 .f32)), Σ' (LT2 : List (View.Piece (Elt F) S256x256 .f32)), Σ' (LT3 : List (View.Piece (Elt F) S256x256 .f32)), { LT4 : List (View.Piece (Elt F) S256x256 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LT1) ∗ (∃ f, arg11.view.loc (c : Thread nD τ) ↦[arg11.view.set]{fullShare} arg11.view.writes (Elt F) f LT2) ∗ (∃ f, arg12.view.loc (c : Thread nD τ) ↦[arg12.view.set]{fullShare} arg12.view.writes (Elt F) f LT3) ∗ (∃ f, arg13.view.loc (c : Thread nD τ) ↦[arg13.view.set]{fullShare} arg13.view.writes (Elt F) f LT4)) -∗ K ⟨⟩))
          ⊢ wp frame (wpE (defs₀ (F := F)) Variants.none c none) E (cc0_q4_up i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc0_q4_up_eq_skeleton]; unfold cc0_q4_up_skel
    simp only [k0_part241_eq_skeleton, k0_part8_eq_skeleton, k0_part9_eq_skeleton, k0_part10_eq_skeleton, k0_part7_eq_skeleton, k0_part1_eq_skeleton, k0_part2_eq_skeleton, k0_part3_eq_skeleton, k0_part4_eq_skeleton, k0_part5_eq_skeleton, k0_part6_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part242_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part243_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part244_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexists _; iexact HS0
    isplitl [HS1]; · iexists _; iexact HS1
    isplitl [HS2]; · iexists _; iexact HS2
    isplitl [HS3]; · iexists _; iexact HS3
    iexists _; iexact HS4

end Cert.RunKernelIdeal

end
-- ==== Proof.RunKernelIdeal.UpLater.lean ====
/- The first call's body at the later points, where it finds the activations laid out. -/
module

public import proofs.«01_k».proof.Proof.RunKernelIdeal.UpFirst

@[expose] public section

-- membership in a rectangle of long axes recurses once per coordinate
set_option maxRecDepth 16384

noncomputable section

namespace Cert.RunKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- (the run's proof term is large: the definition's epilogue — `abstractNestedProofs` — walks it past the default budget)
set_option maxHeartbeats 10588000 in
/-- What the body's stores leave in each output's staging memref, as pieces (last first) WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S96x8192 .bf16) (harg1 : arg1.IsWhole) (arg2 : Memref sig .tc .vmem S256x4096 .i8) (harg2 : arg2.IsWhole) (arg3 : Memref sig .tc .vmem S256x256 .f16) (harg3 : arg3.IsWhole) (arg4 : Memref sig .tc .vmem S256x256 .f16) (harg4 : arg4.IsWhole) (arg5 : Memref sig .tc .vmem S256x4096 .i8) (harg5 : arg5.IsWhole) (arg6 : Memref sig .tc .vmem S256x256 .f16) (harg6 : arg6.IsWhole) (arg7 : Memref sig .tc .vmem S256x256 .f16) (harg7 : arg7.IsWhole) (arg8 : Memref sig .tc .vmem S96x256 .bf16) (harg8 : arg8.IsWhole) (arg9 : Memref sig .tc .vmem S96x8192 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (hc0 : ¬cond0_0 i)
    (x0 : Vec F S96x8192 .bf16) (x1 : Vec F S256x4096 .i8) (x2 : Vec F S256x256 .f16) (x3 : Vec F S256x256 .f16) (x4 : Vec F S256x4096 .i8) (x5 : Vec F S256x256 .f16) (x6 : Vec F S256x256 .f16) (xs0 : Vec F S96x8192 .bf16) :
    Σ' (L7 : List (View.Piece (Elt F) S96x256 .bf16)), Σ' (LS0 : List (View.Piece (Elt F) S96x8192 .bf16)), Σ' (LT1 : List (View.Piece (Elt F) S256x256 .f32)), Σ' (LT2 : List (View.Piece (Elt F) S256x256 .f32)), Σ' (LT3 : List (View.Piece (Elt F) S256x256 .f32)), { LT4 : List (View.Piece (Elt F) S256x256 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xs0 ∗ (∃ f, arg10.view.loc (c : Thread nD τ) ↦[arg10.view.set]{fullShare} arg10.view.writes (Elt F) f LT1) ∗ (∃ f, arg11.view.loc (c : Thread nD τ) ↦[arg11.view.set]{fullShare} arg11.view.writes (Elt F) f LT2) ∗ (∃ f, arg12.view.loc (c : Thread nD τ) ↦[arg12.view.set]{fullShare} arg12.view.writes (Elt F) f LT3) ∗ (∃ f, arg13.view.loc (c : Thread nD τ) ↦[arg13.view.set]{fullShare} arg13.view.writes (Elt F) f LT4)) -∗ K ⟨⟩))
          ⊢ wp frame (wpE (defs₀ (F := F)) Variants.none c none) E (cc0_q4_up i arg1 harg1 arg2 harg2 arg3 harg3 arg4 harg4 arg5 harg5 arg6 harg6 arg7 harg7 arg8 harg8 arg9 harg9 arg10 harg10 arg11 harg11 arg12 harg12 arg13 harg13) K } := by
  refine ⟨?_, [], ?_, ?_, ?_, ?_, fun E K => ?run⟩
  case run =>
    simp only [cc0_q4_up_eq_skeleton]; unfold cc0_q4_up_skel
    simp only [k0_part241_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part242_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part243_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part244_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]
    · iexists _; isplitr; · ipureintro; exact harg9.read_unread _
      iexact HS0
    isplitl [HS1]; · iexists _; iexact HS1
    isplitl [HS2]; · iexists _; iexact HS2
    isplitl [HS3]; · iexists _; iexact HS3
    iexists _; iexact HS4

end Cert.RunKernelIdeal

end
-- ==== Proof.RunKernelIdeal.Up.lean ====
/- The first call: what its result block and its carried activations hold after each point, and its body at every point. -/
module

public import proofs.«01_k».proof.Proof.RunKernelIdeal.UpLater

@[expose] public section

-- membership in a rectangle of long axes recurses once per coordinate
set_option maxRecDepth 16384

noncomputable section

namespace Cert.RunKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the buffers' contents when the call starts
variable (V : (c : Dev nD) → (b : Ref sig .tc) → Buf (Elt F) ((c : Thread nD τ).loc b))

/-- Case A's pieces for output 7 tile its block (1 store of `S96x256`, checked by the kernel's evaluation: Lib/Ring.lean `Piece.tiledL`, linear in the pieces, through a loop's `@[irreducible]` trip theorem too), so they cover it. -/
theorem cover0_A_7 (c : Dev nD) (i : grid0.Coords) (arg1 : Memref sig .tc .vmem S96x8192 .bf16) (harg1 : arg1.IsWhole) (arg2 : Memref sig .tc .vmem S256x4096 .i8) (harg2 : arg2.IsWhole) (arg3 : Memref sig .tc .vmem S256x256 .f16) (harg3 : arg3.IsWhole) (arg4 : Memref sig .tc .vmem S256x256 .f16) (harg4 : arg4.IsWhole) (arg5 : Memref sig .tc .vmem S256x4096 .i8) (harg5 : arg5.IsWhole) (arg6 : Memref sig .tc .vmem S256x256 .f16) (harg6 : arg6.IsWhole) (arg7 : Memref sig .tc .vmem S256x256 .f16) (harg7 : arg7.IsWhole) (arg8 : Memref sig .tc .vmem S96x256 .bf16) (harg8 : arg8.IsWhole) (arg9 : Memref sig .tc .vmem S96x8192 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (hc0 : cond0_0 i)
    (x0 : Vec F S96x8192 .bf16) (x1 : Vec F S256x4096 .i8) (x2 : Vec F S256x256 .f16) (x3 : Vec F S256x256 .f16) (x4 : Vec F S256x4096 .i8) (x5 : Vec F S256x256 .f16) (x6 : Vec F S256x256 .f16) (y : S96x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).1 S96x256.size (by sl_kernel_rfl) y

/-- What case A leaves in output 7's staging buffer: its pieces read back over junk. -/
def out0_A_7 (c : Dev nD) (i : grid0.Coords) (arg1 : Memref sig .tc .vmem S96x8192 .bf16) (harg1 : arg1.IsWhole) (arg2 : Memref sig .tc .vmem S256x4096 .i8) (harg2 : arg2.IsWhole) (arg3 : Memref sig .tc .vmem S256x256 .f16) (harg3 : arg3.IsWhole) (arg4 : Memref sig .tc .vmem S256x256 .f16) (harg4 : arg4.IsWhole) (arg5 : Memref sig .tc .vmem S256x4096 .i8) (harg5 : arg5.IsWhole) (arg6 : Memref sig .tc .vmem S256x256 .f16) (harg6 : arg6.IsWhole) (arg7 : Memref sig .tc .vmem S256x256 .f16) (harg7 : arg7.IsWhole) (arg8 : Memref sig .tc .vmem S96x256 .bf16) (harg8 : arg8.IsWhole) (arg9 : Memref sig .tc .vmem S96x8192 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (hc0 : cond0_0 i)
    (x0 : Vec F S96x8192 .bf16) (x1 : Vec F S256x4096 .i8) (x2 : Vec F S256x256 .f16) (x3 : Vec F S256x256 .f16) (x4 : Vec F S256x4096 .i8) (x5 : Vec F S256x256 .f16) (x6 : Vec F S256x256 .f16) : Vec F S96x256 .bf16 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).1)

/-- Case A's pieces for scratch `arg9`, which the kernel carries between points, cover it: 32 pieces of `S96x256` tiling it (Lib/Ring.lean `Piece.tiledL`). -/
theorem scover0_A_0 (c : Dev nD) (i : grid0.Coords) (arg1 : Memref sig .tc .vmem S96x8192 .bf16) (harg1 : arg1.IsWhole) (arg2 : Memref sig .tc .vmem S256x4096 .i8) (harg2 : arg2.IsWhole) (arg3 : Memref sig .tc .vmem S256x256 .f16) (harg3 : arg3.IsWhole) (arg4 : Memref sig .tc .vmem S256x256 .f16) (harg4 : arg4.IsWhole) (arg5 : Memref sig .tc .vmem S256x4096 .i8) (harg5 : arg5.IsWhole) (arg6 : Memref sig .tc .vmem S256x256 .f16) (harg6 : arg6.IsWhole) (arg7 : Memref sig .tc .vmem S256x256 .f16) (harg7 : arg7.IsWhole) (arg8 : Memref sig .tc .vmem S96x256 .bf16) (harg8 : arg8.IsWhole) (arg9 : Memref sig .tc .vmem S96x8192 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (hc0 : cond0_0 i)
    (x0 : Vec F S96x8192 .bf16) (x1 : Vec F S256x4096 .i8) (x2 : Vec F S256x256 .f16) (x3 : Vec F S256x256 .f16) (x4 : Vec F S256x4096 .i8) (x5 : Vec F S256x256 .f16) (x6 : Vec F S256x256 .f16) (y : S96x8192.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).2.1 S96x256.size (by sl_kernel_rfl) y

/-- What case A leaves in scratch `arg9`: its pieces read back over junk. -/
def sout0_A_0 (c : Dev nD) (i : grid0.Coords) (arg1 : Memref sig .tc .vmem S96x8192 .bf16) (harg1 : arg1.IsWhole) (arg2 : Memref sig .tc .vmem S256x4096 .i8) (harg2 : arg2.IsWhole) (arg3 : Memref sig .tc .vmem S256x256 .f16) (harg3 : arg3.IsWhole) (arg4 : Memref sig .tc .vmem S256x256 .f16) (harg4 : arg4.IsWhole) (arg5 : Memref sig .tc .vmem S256x4096 .i8) (harg5 : arg5.IsWhole) (arg6 : Memref sig .tc .vmem S256x256 .f16) (harg6 : arg6.IsWhole) (arg7 : Memref sig .tc .vmem S256x256 .f16) (harg7 : arg7.IsWhole) (arg8 : Memref sig .tc .vmem S96x256 .bf16) (harg8 : arg8.IsWhole) (arg9 : Memref sig .tc .vmem S96x8192 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (hc0 : cond0_0 i)
    (x0 : Vec F S96x8192 .bf16) (x1 : Vec F S256x4096 .i8) (x2 : Vec F S256x256 .f16) (x3 : Vec F S256x256 .f16) (x4 : Vec F S256x4096 .i8) (x5 : Vec F S256x256 .f16) (x6 : Vec F S256x256 .f16) : Vec F S96x8192 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).2.1)

/-- Case B's pieces for output 7 tile its block (1 store of `S96x256`, checked by the kernel's evaluation: Lib/Ring.lean `Piece.tiledL`, linear in the pieces, through a loop's `@[irreducible]` trip theorem too), so they cover it. -/
theorem cover0_B_7 (c : Dev nD) (i : grid0.Coords) (arg1 : Memref sig .tc .vmem S96x8192 .bf16) (harg1 : arg1.IsWhole) (arg2 : Memref sig .tc .vmem S256x4096 .i8) (harg2 : arg2.IsWhole) (arg3 : Memref sig .tc .vmem S256x256 .f16) (harg3 : arg3.IsWhole) (arg4 : Memref sig .tc .vmem S256x256 .f16) (harg4 : arg4.IsWhole) (arg5 : Memref sig .tc .vmem S256x4096 .i8) (harg5 : arg5.IsWhole) (arg6 : Memref sig .tc .vmem S256x256 .f16) (harg6 : arg6.IsWhole) (arg7 : Memref sig .tc .vmem S256x256 .f16) (harg7 : arg7.IsWhole) (arg8 : Memref sig .tc .vmem S96x256 .bf16) (harg8 : arg8.IsWhole) (arg9 : Memref sig .tc .vmem S96x8192 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (hc0 : ¬cond0_0 i)
    (x0 : Vec F S96x8192 .bf16) (x1 : Vec F S256x4096 .i8) (x2 : Vec F S256x256 .f16) (x3 : Vec F S256x256 .f16) (x4 : Vec F S256x4096 .i8) (x5 : Vec F S256x256 .f16) (x6 : Vec F S256x256 .f16) (xs0 : Vec F S96x8192 .bf16) (y : S96x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).1 S96x256.size (by sl_kernel_rfl) y

/-- What case B leaves in output 7's staging buffer: its pieces read back over junk. -/
def out0_B_7 (c : Dev nD) (i : grid0.Coords) (arg1 : Memref sig .tc .vmem S96x8192 .bf16) (harg1 : arg1.IsWhole) (arg2 : Memref sig .tc .vmem S256x4096 .i8) (harg2 : arg2.IsWhole) (arg3 : Memref sig .tc .vmem S256x256 .f16) (harg3 : arg3.IsWhole) (arg4 : Memref sig .tc .vmem S256x256 .f16) (harg4 : arg4.IsWhole) (arg5 : Memref sig .tc .vmem S256x4096 .i8) (harg5 : arg5.IsWhole) (arg6 : Memref sig .tc .vmem S256x256 .f16) (harg6 : arg6.IsWhole) (arg7 : Memref sig .tc .vmem S256x256 .f16) (harg7 : arg7.IsWhole) (arg8 : Memref sig .tc .vmem S96x256 .bf16) (harg8 : arg8.IsWhole) (arg9 : Memref sig .tc .vmem S96x8192 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (hc0 : ¬cond0_0 i)
    (x0 : Vec F S96x8192 .bf16) (x1 : Vec F S256x4096 .i8) (x2 : Vec F S256x256 .f16) (x3 : Vec F S256x256 .f16) (x4 : Vec F S256x4096 .i8) (x5 : Vec F S256x256 .f16) (x6 : Vec F S256x256 .f16) (xs0 : Vec F S96x8192 .bf16) : Vec F S96x256 .bf16 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).1)

/-- Case B stores nothing into scratch `arg9`: it holds what the point before left. -/
def sout0_B_0 (c : Dev nD) (i : grid0.Coords) (arg1 : Memref sig .tc .vmem S96x8192 .bf16) (harg1 : arg1.IsWhole) (arg2 : Memref sig .tc .vmem S256x4096 .i8) (harg2 : arg2.IsWhole) (arg3 : Memref sig .tc .vmem S256x256 .f16) (harg3 : arg3.IsWhole) (arg4 : Memref sig .tc .vmem S256x256 .f16) (harg4 : arg4.IsWhole) (arg5 : Memref sig .tc .vmem S256x4096 .i8) (harg5 : arg5.IsWhole) (arg6 : Memref sig .tc .vmem S256x256 .f16) (harg6 : arg6.IsWhole) (arg7 : Memref sig .tc .vmem S256x256 .f16) (harg7 : arg7.IsWhole) (arg8 : Memref sig .tc .vmem S96x256 .bf16) (harg8 : arg8.IsWhole) (arg9 : Memref sig .tc .vmem S96x8192 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (hc0 : ¬cond0_0 i)
    (x0 : Vec F S96x8192 .bf16) (x1 : Vec F S256x4096 .i8) (x2 : Vec F S256x256 .f16) (x3 : Vec F S256x256 .f16) (x4 : Vec F S256x4096 .i8) (x5 : Vec F S256x256 .f16) (x6 : Vec F S256x256 .f16) (xs0 : Vec F S96x8192 .bf16) : Vec F S96x8192 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S96x256 .bf16 × Vec F S96x8192 .bf16
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h0 : (n + 1) % 29 = 0 then
      (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩))
    else
      (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2)

/-- `outsAt0` at a point of case A: that case's contents. -/
theorem outsAt0_A (c : Dev nD) (t : Fin cfg0.N) (h0 : t.val % 29 = 0) :
    outsAt0 V c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk0 V c 0 t) (iblk0 V c 1 t) (iblk0 V c 2 t) (iblk0 V c 3 t) (iblk0 V c 4 t) (iblk0 V c 5 t) (iblk0 V c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 29 = 0) :
    outsAt0 V c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 V c n hn).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ rest0 c)

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ rest0 c) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ rest0 c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (Lib/Pipeline.lean `BodyObligation`'s precondition, the windows one by one), -/
def bodyPre0 (c : Dev nD) (t : Fin cfg0.N) : sProp (MT nD τ sig Unit (Elt F) ℕ (UR sig nD τ) ℕ) :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp (MT nD τ sig Unit (Elt F) ℕ (UR sig nD τ) ℕ) :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl,
    after0_0, after0_1, after0_2, after0_3, after0_4, after0_5, after0_6, after0_7]
  rw [show (dat0 V c).Φ t.succ = PhiS V c (t.val + 1) t.isLt from rfl, PhiS_succ]
  have hN : t.val < 29 := lt_of_lt_of_eq t.isLt (show cfg0.N = 29 from N_0)
  by_cases h0 : t.val % 29 = 0
  · by_cases hz : t.val = 0
    · rw [PhiS_castSucc V c t, PhiS_zero V c _ _ hz, PhiA0_eq]
      rw [outsAt0_A V c t h0]
      unfold out0_A_7 sout0_A_0; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t) (iblk0 V c 6 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, ⟨%e7, H7⟩, ⟨%es0, HS0⟩, ⟨%fT1, HS1⟩, ⟨%fT2, HS2⟩, ⟨%fT3, HS3⟩, ⟨%fT4, HS4⟩⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _)
          isplitl [HS1]
          · iexists _; unfold owns; iexists _; isplitr
            swap; · iexact HS1
            ipureintro; rfl
          isplitl [HS2]
          · iexists _; unfold owns; iexists _; isplitr
            swap; · iexact HS2
            ipureintro; rfl
          isplitl [HS3]
          · iexists _; unfold owns; iexists _; isplitr
            swap; · iexact HS3
            ipureintro; rfl
          iexists _; unfold owns; iexists _; isplitr
          swap; · iexact HS4
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_A_7 c _ _ _ _ _ _ _ _ _ _ _ _ _ _ _ _ _ _ _ _ _ _ _ _ _ _ _ _ _ _ _ _ _ _ _)
    · exfalso; have hN : t.val < 29 := lt_of_lt_of_eq t.isLt (show cfg0.N = 29 from N_0); omega
  · by_cases hz : t.val = 0
    · exfalso; have hN : t.val < 29 := lt_of_lt_of_eq t.isLt (show cfg0.N = 29 from N_0); omega
    · rw [PhiS_castSucc V c t, PhiS_pos V c _ _ hz]
      rw [outsAt0_B V c t h0]
      unfold out0_B_7 sout0_B_0; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) (iblk0 V c 6 t) _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, ⟨%e7, H7⟩, HS0, ⟨%fT1, HS1⟩, ⟨%fT2, HS2⟩, ⟨%fT3, HS3⟩, ⟨%fT4, HS4⟩⟩
      isplitl [HS0 HS1 HS2 HS3 HS4 Hg]
      · isplitl [HS0 HS1 HS2 HS3 HS4]
        · isplitl [HS0]
          · iexact HS0
          isplitl [HS1]
          · iexists _; unfold owns; iexists _; isplitr
            swap; · iexact HS1
            ipureintro; rfl
          isplitl [HS2]
          · iexists _; unfold owns; iexists _; isplitr
            swap; · iexact HS2
            ipureintro; rfl
          isplitl [HS3]
          · iexists _; unfold owns; iexists _; isplitr
            swap; · iexact HS3
            ipureintro; rfl
          iexists _; unfold owns; iexists _; isplitr
          swap; · iexact HS4
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexact HS1
    isplitl [HS2]
    · iexact HS2
    isplitl [HS3]
    · iexact HS3
    iexact HS4
  iexact Hg

/-- The same after the last point. -/
theorem hout0 (c : Dev nD) : (dat0 V c).Φ (Fin.last cfg0.N) ⊢ Pipeline.ΦA spec0 c :=
  Phi_out V c _ (by rw [Fin.val_last]; have : cfg0.N = 29 := N_0; omega)

end Cert.RunKernelIdeal

end
-- ==== Proof.RunKernelIdeal.Down.lean ====
/- The second call: its blocks, what its result block holds after a point, and its body at every point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.UnfoldOut

@[expose] public section

-- membership in a rectangle of long axes recurses once per coordinate
set_option maxRecDepth 16384

noncomputable section

namespace Cert.RunKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the buffers' contents when the call starts
variable (V : (c : Dev nD) → (b : Ref sig .tc) → Buf (Elt F) ((c : Thread nD τ).loc b))

/-! # REGION 1 of @main: custom_call 1, `cc1_q4_down` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S232x512 := Rect.unit (s := S232x512) ![0, 0] S232x512.size inb_S232x512_S232x512_0_0
abbrev r1_1 : Rect S96x7424 := Rect.unit (s := S96x7424) ![0, 0] S96x256.size inb_S96x7424_S96x256_0_0
abbrev r1_2 : Rect S512x3712 := Rect.unit (s := S512x3712) ![0, 0] S512x128.size inb_S512x3712_S512x128_0_0
abbrev r1_3 : Rect S96x7424 := Rect.unit (s := S96x7424) ![0, 256] S96x256.size inb_S96x7424_S96x256_0_256
abbrev r1_4 : Rect S512x3712 := Rect.unit (s := S512x3712) ![0, 128] S512x128.size inb_S512x3712_S512x128_0_128
abbrev r1_5 : Rect S96x7424 := Rect.unit (s := S96x7424) ![0, 512] S96x256.size inb_S96x7424_S96x256_0_512
abbrev r1_6 : Rect S512x3712 := Rect.unit (s := S512x3712) ![0, 256] S512x128.size inb_S512x3712_S512x128_0_256
abbrev r1_7 : Rect S96x7424 := Rect.unit (s := S96x7424) ![0, 768] S96x256.size inb_S96x7424_S96x256_0_768
abbrev r1_8 : Rect S512x3712 := Rect.unit (s := S512x3712) ![0, 384] S512x128.size inb_S512x3712_S512x128_0_384
abbrev r1_9 : Rect S96x7424 := Rect.unit (s := S96x7424) ![0, 1024] S96x256.size inb_S96x7424_S96x256_0_1024
abbrev r1_10 : Rect S512x3712 := Rect.unit (s := S512x3712) ![0, 512] S512x128.size inb_S512x3712_S512x128_0_512
abbrev r1_11 : Rect S96x7424 := Rect.unit (s := S96x7424) ![0, 1280] S96x256.size inb_S96x7424_S96x256_0_1280
abbrev r1_12 : Rect S512x3712 := Rect.unit (s := S512x3712) ![0, 640] S512x128.size inb_S512x3712_S512x128_0_640
abbrev r1_13 : Rect S96x7424 := Rect.unit (s := S96x7424) ![0, 1536] S96x256.size inb_S96x7424_S96x256_0_1536
abbrev r1_14 : Rect S512x3712 := Rect.unit (s := S512x3712) ![0, 768] S512x128.size inb_S512x3712_S512x128_0_768
abbrev r1_15 : Rect S96x7424 := Rect.unit (s := S96x7424) ![0, 1792] S96x256.size inb_S96x7424_S96x256_0_1792
abbrev r1_16 : Rect S512x3712 := Rect.unit (s := S512x3712) ![0, 896] S512x128.size inb_S512x3712_S512x128_0_896
abbrev r1_17 : Rect S96x7424 := Rect.unit (s := S96x7424) ![0, 2048] S96x256.size inb_S96x7424_S96x256_0_2048
abbrev r1_18 : Rect S512x3712 := Rect.unit (s := S512x3712) ![0, 1024] S512x128.size inb_S512x3712_S512x128_0_1024
abbrev r1_19 : Rect S96x7424 := Rect.unit (s := S96x7424) ![0, 2304] S96x256.size inb_S96x7424_S96x256_0_2304
abbrev r1_20 : Rect S512x3712 := Rect.unit (s := S512x3712) ![0, 1152] S512x128.size inb_S512x3712_S512x128_0_1152
abbrev r1_21 : Rect S96x7424 := Rect.unit (s := S96x7424) ![0, 2560] S96x256.size inb_S96x7424_S96x256_0_2560
abbrev r1_22 : Rect S512x3712 := Rect.unit (s := S512x3712) ![0, 1280] S512x128.size inb_S512x3712_S512x128_0_1280
abbrev r1_23 : Rect S96x7424 := Rect.unit (s := S96x7424) ![0, 2816] S96x256.size inb_S96x7424_S96x256_0_2816
abbrev r1_24 : Rect S512x3712 := Rect.unit (s := S512x3712) ![0, 1408] S512x128.size inb_S512x3712_S512x128_0_1408
abbrev r1_25 : Rect S96x7424 := Rect.unit (s := S96x7424) ![0, 3072] S96x256.size inb_S96x7424_S96x256_0_3072
abbrev r1_26 : Rect S512x3712 := Rect.unit (s := S512x3712) ![0, 1536] S512x128.size inb_S512x3712_S512x128_0_1536
abbrev r1_27 : Rect S96x7424 := Rect.unit (s := S96x7424) ![0, 3328] S96x256.size inb_S96x7424_S96x256_0_3328
abbrev r1_28 : Rect S512x3712 := Rect.unit (s := S512x3712) ![0, 1664] S512x128.size inb_S512x3712_S512x128_0_1664
abbrev r1_29 : Rect S96x7424 := Rect.unit (s := S96x7424) ![0, 3584] S96x256.size inb_S96x7424_S96x256_0_3584
abbrev r1_30 : Rect S512x3712 := Rect.unit (s := S512x3712) ![0, 1792] S512x128.size inb_S512x3712_S512x128_0_1792
abbrev r1_31 : Rect S96x7424 := Rect.unit (s := S96x7424) ![0, 3840] S96x256.size inb_S96x7424_S96x256_0_3840
abbrev r1_32 : Rect S512x3712 := Rect.unit (s := S512x3712) ![0, 1920] S512x128.size inb_S512x3712_S512x128_0_1920
abbrev r1_33 : Rect S96x7424 := Rect.unit (s := S96x7424) ![0, 4096] S96x256.size inb_S96x7424_S96x256_0_4096
abbrev r1_34 : Rect S512x3712 := Rect.unit (s := S512x3712) ![0, 2048] S512x128.size inb_S512x3712_S512x128_0_2048
abbrev r1_35 : Rect S96x7424 := Rect.unit (s := S96x7424) ![0, 4352] S96x256.size inb_S96x7424_S96x256_0_4352
abbrev r1_36 : Rect S512x3712 := Rect.unit (s := S512x3712) ![0, 2176] S512x128.size inb_S512x3712_S512x128_0_2176
abbrev r1_37 : Rect S96x7424 := Rect.unit (s := S96x7424) ![0, 4608] S96x256.size inb_S96x7424_S96x256_0_4608
abbrev r1_38 : Rect S512x3712 := Rect.unit (s := S512x3712) ![0, 2304] S512x128.size inb_S512x3712_S512x128_0_2304
abbrev r1_39 : Rect S96x7424 := Rect.unit (s := S96x7424) ![0, 4864] S96x256.size inb_S96x7424_S96x256_0_4864
abbrev r1_40 : Rect S512x3712 := Rect.unit (s := S512x3712) ![0, 2432] S512x128.size inb_S512x3712_S512x128_0_2432
abbrev r1_41 : Rect S96x7424 := Rect.unit (s := S96x7424) ![0, 5120] S96x256.size inb_S96x7424_S96x256_0_5120
abbrev r1_42 : Rect S512x3712 := Rect.unit (s := S512x3712) ![0, 2560] S512x128.size inb_S512x3712_S512x128_0_2560
abbrev r1_43 : Rect S96x7424 := Rect.unit (s := S96x7424) ![0, 5376] S96x256.size inb_S96x7424_S96x256_0_5376
abbrev r1_44 : Rect S512x3712 := Rect.unit (s := S512x3712) ![0, 2688] S512x128.size inb_S512x3712_S512x128_0_2688
abbrev r1_45 : Rect S96x7424 := Rect.unit (s := S96x7424) ![0, 5632] S96x256.size inb_S96x7424_S96x256_0_5632
abbrev r1_46 : Rect S512x3712 := Rect.unit (s := S512x3712) ![0, 2816] S512x128.size inb_S512x3712_S512x128_0_2816
abbrev r1_47 : Rect S96x7424 := Rect.unit (s := S96x7424) ![0, 5888] S96x256.size inb_S96x7424_S96x256_0_5888
abbrev r1_48 : Rect S512x3712 := Rect.unit (s := S512x3712) ![0, 2944] S512x128.size inb_S512x3712_S512x128_0_2944
abbrev r1_49 : Rect S96x7424 := Rect.unit (s := S96x7424) ![0, 6144] S96x256.size inb_S96x7424_S96x256_0_6144
abbrev r1_50 : Rect S512x3712 := Rect.unit (s := S512x3712) ![0, 3072] S512x128.size inb_S512x3712_S512x128_0_3072
abbrev r1_51 : Rect S96x7424 := Rect.unit (s := S96x7424) ![0, 6400] S96x256.size inb_S96x7424_S96x256_0_6400
abbrev r1_52 : Rect S512x3712 := Rect.unit (s := S512x3712) ![0, 3200] S512x128.size inb_S512x3712_S512x128_0_3200
abbrev r1_53 : Rect S96x7424 := Rect.unit (s := S96x7424) ![0, 6656] S96x256.size inb_S96x7424_S96x256_0_6656
abbrev r1_54 : Rect S512x3712 := Rect.unit (s := S512x3712) ![0, 3328] S512x128.size inb_S512x3712_S512x128_0_3328
abbrev r1_55 : Rect S96x7424 := Rect.unit (s := S96x7424) ![0, 6912] S96x256.size inb_S96x7424_S96x256_0_6912
abbrev r1_56 : Rect S512x3712 := Rect.unit (s := S512x3712) ![0, 3456] S512x128.size inb_S512x3712_S512x128_0_3456
abbrev r1_57 : Rect S96x7424 := Rect.unit (s := S96x7424) ![0, 7168] S96x256.size inb_S96x7424_S96x256_0_7168
abbrev r1_58 : Rect S512x3712 := Rect.unit (s := S512x3712) ![0, 3584] S512x128.size inb_S512x3712_S512x128_0_3584
abbrev r1_59 : Rect S96x512 := Rect.unit (s := S96x512) ![0, 0] S96x512.size inb_S96x512_S96x512_0_0

/-! ## What the body leaves in each output window's buffer -/

/-! ### Values of the body that the stores' payloads, spelt out, would write more than once

    Each is a vector the body binds (often a part call's result), stated over the input windows' blocks and
    numbered on from the skeleton's payload functions (`k1_pay607` …, after `k1_pay606`), so that
    `out1_W` and the values after it name it instead of spelling it out (`unfold_out out1_W` opens a canon
    with them, `unfold_payloads` opens them with the payloads); the comment after each is the printed function's
    name for the value (a count appended where that name is bound again). -/

def k1_pay607 (x0 : Vec F S96x7424 .bf16) (x1 : Vec F S512x3712 .i8) (x2 : Vec F S232x512 .f16) (x3 : Vec F S232x512 .f16) : FVec F S232x512 .f32 :=
  k1_pay1 (View.ld x2 r1_0) -- `v4`
def k1_pay608 (x0 : Vec F S96x7424 .bf16) (x1 : Vec F S512x3712 .i8) (x2 : Vec F S232x512 .f16) (x3 : Vec F S232x512 .f16) : FVec F S232x512 .f32 :=
  k1_pay2 (View.ld x3 r1_0) -- `v7`
def k1_pay609 (x0 : Vec F S96x7424 .bf16) (x1 : Vec F S512x3712 .i8) (x2 : Vec F S232x512 .f16) (x3 : Vec F S232x512 .f16) : IVec S32x512 32 :=
  k1_pay5 (View.ld x1 r1_2) -- `v13`
def k1_pay610 (x0 : Vec F S96x7424 .bf16) (x1 : Vec F S512x3712 .i8) (x2 : Vec F S232x512 .f16) (x3 : Vec F S232x512 .f16) : FVec F S128x512 .f32 :=
  k1_pay6 (View.ld x1 r1_2) -- `v17`
def k1_pay611 (x0 : Vec F S96x7424 .bf16) (x1 : Vec F S512x3712 .i8) (x2 : Vec F S232x512 .f16) (x3 : Vec F S232x512 .f16) : IVec S32x512 32 :=
  k1_pay24 (View.ld x1 r1_4) -- `v159`
def k1_pay612 (x0 : Vec F S96x7424 .bf16) (x1 : Vec F S512x3712 .i8) (x2 : Vec F S232x512 .f16) (x3 : Vec F S232x512 .f16) : IVec S32x512 32 :=
  k1_pay45 (View.ld x1 r1_6) -- `v305`
def k1_pay613 (x0 : Vec F S96x7424 .bf16) (x1 : Vec F S512x3712 .i8) (x2 : Vec F S232x512 .f16) (x3 : Vec F S232x512 .f16) : FVec F S128x512 .f32 :=
  k1_pay46 (View.ld x1 r1_6) -- `v309`
def k1_pay614 (x0 : Vec F S96x7424 .bf16) (x1 : Vec F S512x3712 .i8) (x2 : Vec F S232x512 .f16) (x3 : Vec F S232x512 .f16) : IVec S32x512 32 :=
  k1_pay63 (View.ld x1 r1_8) -- `v451`
def k1_pay615 (x0 : Vec F S96x7424 .bf16) (x1 : Vec F S512x3712 .i8) (x2 : Vec F S232x512 .f16) (x3 : Vec F S232x512 .f16) : FVec F S128x512 .f32 :=
  k1_pay64 (View.ld x1 r1_8) -- `v455`
def k1_pay616 (x0 : Vec F S96x7424 .bf16) (x1 : Vec F S512x3712 .i8) (x2 : Vec F S232x512 .f16) (x3 : Vec F S232x512 .f16) : FVec F S128x512 .f32 :=
  k1_pay84 (View.ld x1 r1_10) -- `v601`
def k1_pay617 (x0 : Vec F S96x7424 .bf16) (x1 : Vec F S512x3712 .i8) (x2 : Vec F S232x512 .f16) (x3 : Vec F S232x512 .f16) : FVec F S128x512 .f32 :=
  k1_pay95 (F := F) (k1_pay83 (View.ld x1 r1_10)) -- `v671`
def k1_pay618 (x0 : Vec F S96x7424 .bf16) (x1 : Vec F S512x3712 .i8) (x2 : Vec F S232x512 .f16) (x3 : Vec F S232x512 .f16) : IVec S32x512 32 :=
  k1_pay109 (View.ld x1 r1_12) -- `v743`
def k1_pay619 (x0 : Vec F S96x7424 .bf16) (x1 : Vec F S512x3712 .i8) (x2 : Vec F S232x512 .f16) (x3 : Vec F S232x512 .f16) : FVec F S128x512 .f32 :=
  k1_pay110 (View.ld x1 r1_12) -- `v747`
def k1_pay620 (x0 : Vec F S96x7424 .bf16) (x1 : Vec F S512x3712 .i8) (x2 : Vec F S232x512 .f16) (x3 : Vec F S232x512 .f16) : IVec S32x512 32 :=
  k1_pay128 (View.ld x1 r1_14) -- `v889`
def k1_pay621 (x0 : Vec F S96x7424 .bf16) (x1 : Vec F S512x3712 .i8) (x2 : Vec F S232x512 .f16) (x3 : Vec F S232x512 .f16) : FVec F S128x512 .f32 :=
  k1_pay129 (View.ld x1 r1_14) -- `v893`
def k1_pay622 (x0 : Vec F S96x7424 .bf16) (x1 : Vec F S512x3712 .i8) (x2 : Vec F S232x512 .f16) (x3 : Vec F S232x512 .f16) : IVec S32x512 32 :=
  k1_pay140 -- `v958`
def k1_pay623 (x0 : Vec F S96x7424 .bf16) (x1 : Vec F S512x3712 .i8) (x2 : Vec F S232x512 .f16) (x3 : Vec F S232x512 .f16) : IVec S32x512 32 :=
  k1_pay152 (View.ld x1 r1_16) -- `v1035`
def k1_pay624 (x0 : Vec F S96x7424 .bf16) (x1 : Vec F S512x3712 .i8) (x2 : Vec F S232x512 .f16) (x3 : Vec F S232x512 .f16) : FVec F S128x512 .f32 :=
  k1_pay153 (View.ld x1 r1_16) -- `v1039`
def k1_pay625 (x0 : Vec F S96x7424 .bf16) (x1 : Vec F S512x3712 .i8) (x2 : Vec F S232x512 .f16) (x3 : Vec F S232x512 .f16) : IVec S32x512 32 :=
  k1_pay170 (View.ld x1 r1_18) -- `v1181`
def k1_pay626 (x0 : Vec F S96x7424 .bf16) (x1 : Vec F S512x3712 .i8) (x2 : Vec F S232x512 .f16) (x3 : Vec F S232x512 .f16) : IVec S32x512 32 :=
  k1_pay171 (View.ld x1 r1_18) -- `v1183`
def k1_pay627 (x0 : Vec F S96x7424 .bf16) (x1 : Vec F S512x3712 .i8) (x2 : Vec F S232x512 .f16) (x3 : Vec F S232x512 .f16) : IVec S32x512 32 :=
  k1_pay193 (View.ld x1 r1_20) -- `v1327`
def k1_pay628 (x0 : Vec F S96x7424 .bf16) (x1 : Vec F S512x3712 .i8) (x2 : Vec F S232x512 .f16) (x3 : Vec F S232x512 .f16) : FVec F S128x512 .f32 :=
  k1_pay194 (View.ld x1 r1_20) -- `v1331`
def k1_pay629 (x0 : Vec F S96x7424 .bf16) (x1 : Vec F S512x3712 .i8) (x2 : Vec F S232x512 .f16) (x3 : Vec F S232x512 .f16) : IVec S32x512 32 :=
  k1_pay210 (View.ld x1 r1_22) -- `v1473`
def k1_pay630 (x0 : Vec F S96x7424 .bf16) (x1 : Vec F S512x3712 .i8) (x2 : Vec F S232x512 .f16) (x3 : Vec F S232x512 .f16) : FVec F S128x512 .f32 :=
  k1_pay211 (View.ld x1 r1_22) -- `v1477`
def k1_pay631 (x0 : Vec F S96x7424 .bf16) (x1 : Vec F S512x3712 .i8) (x2 : Vec F S232x512 .f16) (x3 : Vec F S232x512 .f16) : IVec S32x512 32 :=
  k1_pay231 (View.ld x1 r1_24) -- `v1619`
def k1_pay632 (x0 : Vec F S96x7424 .bf16) (x1 : Vec F S512x3712 .i8) (x2 : Vec F S232x512 .f16) (x3 : Vec F S232x512 .f16) : FVec F S128x512 .f32 :=
  k1_pay232 (View.ld x1 r1_24) -- `v1623`
def k1_pay633 (x0 : Vec F S96x7424 .bf16) (x1 : Vec F S512x3712 .i8) (x2 : Vec F S232x512 .f16) (x3 : Vec F S232x512 .f16) : FVec F S128x512 .f32 :=
  k1_pay241 (F := F) (k1_pay631 x0 x1 x2 x3) -- `v1693`
def k1_pay634 (x0 : Vec F S96x7424 .bf16) (x1 : Vec F S512x3712 .i8) (x2 : Vec F S232x512 .f16) (x3 : Vec F S232x512 .f16) : IVec S32x512 32 :=
  k1_pay255 (View.ld x1 r1_26) -- `v1765`
def k1_pay635 (x0 : Vec F S96x7424 .bf16) (x1 : Vec F S512x3712 .i8) (x2 : Vec F S232x512 .f16) (x3 : Vec F S232x512 .f16) : FVec F S128x512 .f32 :=
  k1_pay256 (View.ld x1 r1_26) -- `v1769`
def k1_pay636 (x0 : Vec F S96x7424 .bf16) (x1 : Vec F S512x3712 .i8) (x2 : Vec F S232x512 .f16) (x3 : Vec F S232x512 .f16) : FVec F S128x512 .f32 :=
  k1_pay276 (View.ld x1 r1_28) -- `v1915`
def k1_pay637 (x0 : Vec F S96x7424 .bf16) (x1 : Vec F S512x3712 .i8) (x2 : Vec F S232x512 .f16) (x3 : Vec F S232x512 .f16) : IVec S32x512 32 :=
  k1_pay285 (k1_pay275 (View.ld x1 r1_28)) -- `v1981`
def k1_pay638 (x0 : Vec F S96x7424 .bf16) (x1 : Vec F S512x3712 .i8) (x2 : Vec F S232x512 .f16) (x3 : Vec F S232x512 .f16) : IVec S32x512 32 :=
  k1_pay296 (View.ld x1 r1_30) -- `v2057`
def k1_pay639 (x0 : Vec F S96x7424 .bf16) (x1 : Vec F S512x3712 .i8) (x2 : Vec F S232x512 .f16) (x3 : Vec F S232x512 .f16) : FVec F S128x512 .f32 :=
  k1_pay297 (View.ld x1 r1_30) -- `v2061`
def k1_pay640 (x0 : Vec F S96x7424 .bf16) (x1 : Vec F S512x3712 .i8) (x2 : Vec F S232x512 .f16) (x3 : Vec F S232x512 .f16) : IVec S32x512 32 :=
  k1_pay315 (View.ld x1 r1_32) -- `v2203`
def k1_pay641 (x0 : Vec F S96x7424 .bf16) (x1 : Vec F S512x3712 .i8) (x2 : Vec F S232x512 .f16) (x3 : Vec F S232x512 .f16) : FVec F S128x512 .f32 :=
  k1_pay316 (View.ld x1 r1_32) -- `v2207`
def k1_pay642 (x0 : Vec F S96x7424 .bf16) (x1 : Vec F S512x3712 .i8) (x2 : Vec F S232x512 .f16) (x3 : Vec F S232x512 .f16) : IVec S32x512 32 :=
  k1_pay337 (View.ld x1 r1_34) -- `v2349`
def k1_pay643 (x0 : Vec F S96x7424 .bf16) (x1 : Vec F S512x3712 .i8) (x2 : Vec F S232x512 .f16) (x3 : Vec F S232x512 .f16) : FVec F S128x512 .f32 :=
  k1_pay338 (View.ld x1 r1_34) -- `v2353`
def k1_pay644 (x0 : Vec F S96x7424 .bf16) (x1 : Vec F S512x3712 .i8) (x2 : Vec F S232x512 .f16) (x3 : Vec F S232x512 .f16) : IVec S32x512 32 :=
  k1_pay355 (View.ld x1 r1_36) -- `v2495`
def k1_pay645 (x0 : Vec F S96x7424 .bf16) (x1 : Vec F S512x3712 .i8) (x2 : Vec F S232x512 .f16) (x3 : Vec F S232x512 .f16) : IVec S32x512 32 :=
  k1_pay376 (View.ld x1 r1_38) -- `v2641`
def k1_pay646 (x0 : Vec F S96x7424 .bf16) (x1 : Vec F S512x3712 .i8) (x2 : Vec F S232x512 .f16) (x3 : Vec F S232x512 .f16) : FVec F S128x512 .f32 :=
  k1_pay377 (View.ld x1 r1_38) -- `v2645`
def k1_pay647 (x0 : Vec F S96x7424 .bf16) (x1 : Vec F S512x3712 .i8) (x2 : Vec F S232x512 .f16) (x3 : Vec F S232x512 .f16) : IVec S32x512 32 :=
  k1_pay394 (View.ld x1 r1_40) -- `v2787`
def k1_pay648 (x0 : Vec F S96x7424 .bf16) (x1 : Vec F S512x3712 .i8) (x2 : Vec F S232x512 .f16) (x3 : Vec F S232x512 .f16) : FVec F S128x512 .f32 :=
  k1_pay395 (View.ld x1 r1_40) -- `v2791`
def k1_pay649 (x0 : Vec F S96x7424 .bf16) (x1 : Vec F S512x3712 .i8) (x2 : Vec F S232x512 .f16) (x3 : Vec F S232x512 .f16) : FVec F S128x512 .f32 :=
  k1_pay415 (View.ld x1 r1_42) -- `v2937`
def k1_pay650 (x0 : Vec F S96x7424 .bf16) (x1 : Vec F S512x3712 .i8) (x2 : Vec F S232x512 .f16) (x3 : Vec F S232x512 .f16) : IVec S32x512 32 :=
  k1_pay426 (k1_pay414 (View.ld x1 r1_42)) -- `v3005`
def k1_pay651 (x0 : Vec F S96x7424 .bf16) (x1 : Vec F S512x3712 .i8) (x2 : Vec F S232x512 .f16) (x3 : Vec F S232x512 .f16) : IVec S32x512 32 :=
  k1_pay439 (View.ld x1 r1_44) -- `v3079`
def k1_pay652 (x0 : Vec F S96x7424 .bf16) (x1 : Vec F S512x3712 .i8) (x2 : Vec F S232x512 .f16) (x3 : Vec F S232x512 .f16) : FVec F S128x512 .f32 :=
  k1_pay440 (View.ld x1 r1_44) -- `v3083`
def k1_pay653 (x0 : Vec F S96x7424 .bf16) (x1 : Vec F S512x3712 .i8) (x2 : Vec F S232x512 .f16) (x3 : Vec F S232x512 .f16) : IVec S32x512 32 :=
  k1_pay458 (View.ld x1 r1_46) -- `v3225`
def k1_pay654 (x0 : Vec F S96x7424 .bf16) (x1 : Vec F S512x3712 .i8) (x2 : Vec F S232x512 .f16) (x3 : Vec F S232x512 .f16) : FVec F S128x512 .f32 :=
  k1_pay459 (View.ld x1 r1_46) -- `v3229`
def k1_pay655 (x0 : Vec F S96x7424 .bf16) (x1 : Vec F S512x3712 .i8) (x2 : Vec F S232x512 .f16) (x3 : Vec F S232x512 .f16) : IVec S32x512 32 :=
  k1_pay483 (View.ld x1 r1_48) -- `v3371`
def k1_pay656 (x0 : Vec F S96x7424 .bf16) (x1 : Vec F S512x3712 .i8) (x2 : Vec F S232x512 .f16) (x3 : Vec F S232x512 .f16) : FVec F S128x512 .f32 :=
  k1_pay484 (View.ld x1 r1_48) -- `v3375`
def k1_pay657 (x0 : Vec F S96x7424 .bf16) (x1 : Vec F S512x3712 .i8) (x2 : Vec F S232x512 .f16) (x3 : Vec F S232x512 .f16) : IVec S128x512 8 :=
  k1_pay501 (View.ld x1 r1_50) -- `v3516`
def k1_pay658 (x0 : Vec F S96x7424 .bf16) (x1 : Vec F S512x3712 .i8) (x2 : Vec F S232x512 .f16) (x3 : Vec F S232x512 .f16) : IVec S32x512 32 :=
  k1_pay502 (k1_pay657 x0 x1 x2 x3) -- `v3517`
def k1_pay659 (x0 : Vec F S96x7424 .bf16) (x1 : Vec F S512x3712 .i8) (x2 : Vec F S232x512 .f16) (x3 : Vec F S232x512 .f16) : IVec S32x512 32 :=
  k1_pay524 (View.ld x1 r1_52) -- `v3663`
def k1_pay660 (x0 : Vec F S96x7424 .bf16) (x1 : Vec F S512x3712 .i8) (x2 : Vec F S232x512 .f16) (x3 : Vec F S232x512 .f16) : FVec F S128x512 .f32 :=
  k1_pay525 (View.ld x1 r1_52) -- `v3667`
def k1_pay661 (x0 : Vec F S96x7424 .bf16) (x1 : Vec F S512x3712 .i8) (x2 : Vec F S232x512 .f16) (x3 : Vec F S232x512 .f16) : IVec S32x512 32 :=
  k1_pay541 (View.ld x1 r1_54) -- `v3809`
def k1_pay662 (x0 : Vec F S96x7424 .bf16) (x1 : Vec F S512x3712 .i8) (x2 : Vec F S232x512 .f16) (x3 : Vec F S232x512 .f16) : FVec F S128x512 .f32 :=
  k1_pay542 (View.ld x1 r1_54) -- `v3813`
def k1_pay663 (x0 : Vec F S96x7424 .bf16) (x1 : Vec F S512x3712 .i8) (x2 : Vec F S232x512 .f16) (x3 : Vec F S232x512 .f16) : FVec F S128x512 .f32 :=
  k1_pay563 (View.ld x1 r1_56) -- `v3959`
def k1_pay664 (x0 : Vec F S96x7424 .bf16) (x1 : Vec F S512x3712 .i8) (x2 : Vec F S232x512 .f16) (x3 : Vec F S232x512 .f16) : FVec F S128x512 .f32 :=
  k1_pay575 (F := F) (k1_pay562 (View.ld x1 r1_56)) -- `v4029`
def k1_pay665 (x0 : Vec F S96x7424 .bf16) (x1 : Vec F S512x3712 .i8) (x2 : Vec F S232x512 .f16) (x3 : Vec F S232x512 .f16) : IVec S32x512 32 :=
  k1_pay588 (View.ld x1 r1_58) -- `v4101`
def k1_pay666 (x0 : Vec F S96x7424 .bf16) (x1 : Vec F S512x3712 .i8) (x2 : Vec F S232x512 .f16) (x3 : Vec F S232x512 .f16) : FVec F S128x512 .f32 :=
  k1_pay589 (View.ld x1 r1_58) -- `v4105`

/-- Window 4's staging buffer after the body, from the input windows' blocks: its 1 store as pieces, LAST
    FIRST (Lib/Pipeline/FrameBody.lean `View.canon`; the payloads are the skeleton's and the values stated above). -/
def out1_4 (x0 : Vec F S96x7424 .bf16) (x1 : Vec F S512x3712 .i8) (x2 : Vec F S232x512 .f16) (x3 : Vec F S232x512 .f16) : Vec F S96x512 .bf16 :=
  View.canon [⟨r1_59, k1_pay606 (k1_pay607 x0 x1 x2 x3) (k1_pay608 x0 x1 x2 x3) (k1_pay586 (k1_pay560 (k1_pay607 x0 x1 x2 x3) (k1_pay608 x0 x1 x2 x3) (k1_pay539 (k1_pay607 x0 x1 x2 x3) (k1_pay608 x0 x1 x2 x3) (k1_pay522 (k1_pay607 x0 x1 x2 x3) (k1_pay608 x0 x1 x2 x3) (k1_pay499 (k1_pay607 x0 x1 x2 x3) (k1_pay608 x0 x1 x2 x3) (k1_pay481 (k1_pay607 x0 x1 x2 x3) (k1_pay608 x0 x1 x2 x3) (k1_pay456 (k1_pay607 x0 x1 x2 x3) (k1_pay608 x0 x1 x2 x3) (k1_pay437 (k1_pay412 (k1_pay607 x0 x1 x2 x3) (k1_pay608 x0 x1 x2 x3) (k1_pay392 (k1_pay374 (k1_pay607 x0 x1 x2 x3) (k1_pay608 x0 x1 x2 x3) (k1_pay353 (k1_pay607 x0 x1 x2 x3) (k1_pay608 x0 x1 x2 x3) (k1_pay335 (k1_pay607 x0 x1 x2 x3) (k1_pay608 x0 x1 x2 x3) (k1_pay313 (k1_pay607 x0 x1 x2 x3) (k1_pay608 x0 x1 x2 x3) (k1_pay294 (k1_pay607 x0 x1 x2 x3) (k1_pay608 x0 x1 x2 x3) (k1_pay273 (k1_pay607 x0 x1 x2 x3) (k1_pay608 x0 x1 x2 x3) (k1_pay253 (k1_pay229 (k1_pay607 x0 x1 x2 x3) (k1_pay608 x0 x1 x2 x3) (k1_pay208 (k1_pay607 x0 x1 x2 x3) (k1_pay608 x0 x1 x2 x3) (k1_pay191 (k1_pay607 x0 x1 x2 x3) (k1_pay608 x0 x1 x2 x3) (k1_pay168 (k1_pay607 x0 x1 x2 x3) (k1_pay608 x0 x1 x2 x3) (k1_pay150 (k1_pay607 x0 x1 x2 x3) (k1_pay608 x0 x1 x2 x3) (k1_pay126 (k1_pay607 x0 x1 x2 x3) (k1_pay608 x0 x1 x2 x3) (k1_pay107 (k1_pay81 (k1_pay607 x0 x1 x2 x3) (k1_pay608 x0 x1 x2 x3) (k1_pay61 (k1_pay607 x0 x1 x2 x3) (k1_pay608 x0 x1 x2 x3) (k1_pay43 (k1_pay607 x0 x1 x2 x3) (k1_pay608 x0 x1 x2 x3) (k1_pay22 (k1_pay607 x0 x1 x2 x3) (k1_pay608 x0 x1 x2 x3) (k1_pay3 (F := F)) (k1_pay4 (View.ld x0 r1_1)) (k1_pay7 (View.ld x2 r1_0) (View.ld x3 r1_0) (View.ld x1 r1_2)) (k1_pay8 (View.ld x2 r1_0) (View.ld x3 r1_0) (View.ld x1 r1_2)) (k1_pay9 (View.ld x2 r1_0) (View.ld x3 r1_0) (View.ld x1 r1_2)) (k1_pay12 (k1_pay10 (View.ld x2 r1_0) (View.ld x1 r1_2)) (k1_pay11 (View.ld x3 r1_0))) (k1_pay13 (k1_pay607 x0 x1 x2 x3) (k1_pay608 x0 x1 x2 x3) (k1_pay610 x0 x1 x2 x3)) (k1_pay14 (k1_pay607 x0 x1 x2 x3) (k1_pay608 x0 x1 x2 x3) (k1_pay610 x0 x1 x2 x3)) (k1_pay15 (k1_pay607 x0 x1 x2 x3) (k1_pay608 x0 x1 x2 x3) (k1_pay610 x0 x1 x2 x3)) (k1_pay16 (k1_pay607 x0 x1 x2 x3) (k1_pay608 x0 x1 x2 x3) (k1_pay610 x0 x1 x2 x3)) (k1_pay17 (F := F) (k1_pay609 x0 x1 x2 x3)) (k1_pay18 (k1_pay607 x0 x1 x2 x3) (k1_pay608 x0 x1 x2 x3) (k1_pay609 x0 x1 x2 x3)) (k1_pay19 (k1_pay607 x0 x1 x2 x3) (k1_pay608 x0 x1 x2 x3) (k1_pay609 x0 x1 x2 x3)) (k1_pay20 (k1_pay607 x0 x1 x2 x3)) (k1_pay21 (k1_pay608 x0 x1 x2 x3))) (k1_pay23 (View.ld x0 r1_3)) (k1_pay26 (k1_pay607 x0 x1 x2 x3) (k1_pay608 x0 x1 x2 x3) (k1_pay611 x0 x1 x2 x3) 252645135#32) (k1_pay27 (k1_pay607 x0 x1 x2 x3) (k1_pay608 x0 x1 x2 x3) (k1_pay611 x0 x1 x2 x3) 252645135#32) (k1_pay28 (k1_pay607 x0 x1 x2 x3) (k1_pay608 x0 x1 x2 x3) (k1_pay611 x0 x1 x2 x3) 252645135#32) (k1_pay29 (k1_pay607 x0 x1 x2 x3) (k1_pay608 x0 x1 x2 x3) (k1_pay611 x0 x1 x2 x3) 252645135#32) (k1_pay30 (k1_pay607 x0 x1 x2 x3) (k1_pay608 x0 x1 x2 x3) (k1_pay611 x0 x1 x2 x3) 252645135#32) (k1_pay31 (k1_pay607 x0 x1 x2 x3) (k1_pay608 x0 x1 x2 x3) (k1_pay611 x0 x1 x2 x3) 252645135#32) (k1_pay32 (k1_pay607 x0 x1 x2 x3) (k1_pay608 x0 x1 x2 x3) (k1_pay611 x0 x1 x2 x3) 252645135#32) (k1_pay33 (k1_pay607 x0 x1 x2 x3) (k1_pay608 x0 x1 x2 x3) (k1_pay25 (F := F) (k1_pay611 x0 x1 x2 x3) 252645135#32)) (k1_pay34 (F := F) (k1_pay611 x0 x1 x2 x3)) (k1_pay35 (k1_pay607 x0 x1 x2 x3) (k1_pay608 x0 x1 x2 x3) (k1_pay611 x0 x1 x2 x3)) (k1_pay36 (k1_pay607 x0 x1 x2 x3) (k1_pay608 x0 x1 x2 x3) (k1_pay611 x0 x1 x2 x3)) (k1_pay37 (k1_pay607 x0 x1 x2 x3) (k1_pay608 x0 x1 x2 x3) (k1_pay611 x0 x1 x2 x3)) (k1_pay38 (k1_pay607 x0 x1 x2 x3) (k1_pay608 x0 x1 x2 x3) (k1_pay611 x0 x1 x2 x3)) (k1_pay39 (k1_pay607 x0 x1 x2 x3) (k1_pay608 x0 x1 x2 x3) (k1_pay611 x0 x1 x2 x3)) (k1_pay40 (k1_pay608 x0 x1 x2 x3)) (k1_pay41 (F := F) (k1_pay611 x0 x1 x2 x3)) (k1_pay42 (k1_pay607 x0 x1 x2 x3))) (k1_pay44 (View.ld x0 r1_5)) (k1_pay47 (k1_pay607 x0 x1 x2 x3) (k1_pay608 x0 x1 x2 x3) (View.ld x1 r1_6)) (k1_pay48 (k1_pay607 x0 x1 x2 x3) (k1_pay608 x0 x1 x2 x3) (View.ld x1 r1_6)) (k1_pay51 (k1_pay49 (k1_pay607 x0 x1 x2 x3) (View.ld x1 r1_6)) (k1_pay50 (k1_pay608 x0 x1 x2 x3))) (k1_pay52 (k1_pay607 x0 x1 x2 x3) (k1_pay608 x0 x1 x2 x3) (k1_pay613 x0 x1 x2 x3)) (k1_pay53 (k1_pay607 x0 x1 x2 x3) (k1_pay608 x0 x1 x2 x3) (k1_pay613 x0 x1 x2 x3)) (k1_pay54 (k1_pay607 x0 x1 x2 x3) (k1_pay608 x0 x1 x2 x3) (k1_pay613 x0 x1 x2 x3)) (k1_pay55 (k1_pay607 x0 x1 x2 x3) (k1_pay608 x0 x1 x2 x3) (k1_pay613 x0 x1 x2 x3)) (k1_pay56 (k1_pay607 x0 x1 x2 x3) (k1_pay608 x0 x1 x2 x3) (k1_pay613 x0 x1 x2 x3)) (k1_pay57 (F := F) (k1_pay612 x0 x1 x2 x3)) (k1_pay58 (k1_pay607 x0 x1 x2 x3) (k1_pay608 x0 x1 x2 x3) (k1_pay612 x0 x1 x2 x3)) (k1_pay59 (k1_pay607 x0 x1 x2 x3)) (k1_pay60 (k1_pay608 x0 x1 x2 x3))) (k1_pay62 (View.ld x0 r1_7)) (k1_pay65 (k1_pay607 x0 x1 x2 x3) (k1_pay608 x0 x1 x2 x3) (View.ld x1 r1_8)) (k1_pay66 (k1_pay607 x0 x1 x2 x3) (k1_pay608 x0 x1 x2 x3) (View.ld x1 r1_8)) (k1_pay67 (k1_pay607 x0 x1 x2 x3) (k1_pay608 x0 x1 x2 x3) (View.ld x1 r1_8)) (k1_pay68 (k1_pay607 x0 x1 x2 x3) (k1_pay608 x0 x1 x2 x3) (View.ld x1 r1_8)) (k1_pay69 (k1_pay607 x0 x1 x2 x3) (k1_pay608 x0 x1 x2 x3) (View.ld x1 r1_8)) (k1_pay70 (k1_pay607 x0 x1 x2 x3) (k1_pay608 x0 x1 x2 x3) (View.ld x1 r1_8)) (k1_pay71 (k1_pay607 x0 x1 x2 x3) (k1_pay608 x0 x1 x2 x3) (k1_pay615 x0 x1 x2 x3)) (k1_pay72 (k1_pay607 x0 x1 x2 x3) (k1_pay608 x0 x1 x2 x3) (k1_pay615 x0 x1 x2 x3)) (k1_pay73 (F := F) (k1_pay614 x0 x1 x2 x3)) (k1_pay74 (k1_pay607 x0 x1 x2 x3) (k1_pay608 x0 x1 x2 x3) (k1_pay614 x0 x1 x2 x3)) (k1_pay75 (k1_pay607 x0 x1 x2 x3) (k1_pay608 x0 x1 x2 x3) (k1_pay614 x0 x1 x2 x3)) (k1_pay76 (k1_pay607 x0 x1 x2 x3) (k1_pay608 x0 x1 x2 x3) (k1_pay614 x0 x1 x2 x3)) (k1_pay77 (k1_pay607 x0 x1 x2 x3) (k1_pay608 x0 x1 x2 x3) (k1_pay614 x0 x1 x2 x3)) (k1_pay78 (k1_pay608 x0 x1 x2 x3)) (k1_pay79 (F := F) (k1_pay614 x0 x1 x2 x3)) (k1_pay80 (k1_pay607 x0 x1 x2 x3))) (k1_pay82 (View.ld x0 r1_9)) (k1_pay85 (k1_pay607 x0 x1 x2 x3) (k1_pay608 x0 x1 x2 x3) (View.ld x1 r1_10)) (k1_pay88 (k1_pay86 (k1_pay607 x0 x1 x2 x3) (View.ld x1 r1_10)) (k1_pay87 (k1_pay608 x0 x1 x2 x3))) (k1_pay89 (k1_pay607 x0 x1 x2 x3) (k1_pay608 x0 x1 x2 x3) (k1_pay616 x0 x1 x2 x3)) (k1_pay90 (k1_pay607 x0 x1 x2 x3) (k1_pay608 x0 x1 x2 x3) (k1_pay616 x0 x1 x2 x3)) (k1_pay91 (k1_pay607 x0 x1 x2 x3) (k1_pay608 x0 x1 x2 x3) (k1_pay616 x0 x1 x2 x3)) (k1_pay92 (k1_pay607 x0 x1 x2 x3) (k1_pay608 x0 x1 x2 x3) (k1_pay616 x0 x1 x2 x3)) (k1_pay93 (k1_pay607 x0 x1 x2 x3) (k1_pay608 x0 x1 x2 x3) (k1_pay616 x0 x1 x2 x3)) (k1_pay94 (k1_pay607 x0 x1 x2 x3) (k1_pay608 x0 x1 x2 x3) (k1_pay616 x0 x1 x2 x3)) (k1_pay98 (k1_pay617 x0 x1 x2 x3) (k1_pay96 (k1_pay607 x0 x1 x2 x3)) (k1_pay97 (k1_pay608 x0 x1 x2 x3))) (k1_pay99 (k1_pay607 x0 x1 x2 x3) (k1_pay608 x0 x1 x2 x3) (k1_pay617 x0 x1 x2 x3)) (k1_pay100 (k1_pay607 x0 x1 x2 x3) (k1_pay608 x0 x1 x2 x3) (k1_pay617 x0 x1 x2 x3)) (k1_pay101 (k1_pay607 x0 x1 x2 x3) (k1_pay608 x0 x1 x2 x3) (k1_pay617 x0 x1 x2 x3)) (k1_pay102 (k1_pay607 x0 x1 x2 x3) (k1_pay608 x0 x1 x2 x3) (k1_pay617 x0 x1 x2 x3)) (k1_pay103 (k1_pay607 x0 x1 x2 x3) (k1_pay608 x0 x1 x2 x3) (k1_pay617 x0 x1 x2 x3)) (k1_pay104 (k1_pay607 x0 x1 x2 x3) (k1_pay608 x0 x1 x2 x3) (k1_pay617 x0 x1 x2 x3)) (k1_pay105 (k1_pay607 x0 x1 x2 x3) (k1_pay617 x0 x1 x2 x3)) (k1_pay106 (k1_pay608 x0 x1 x2 x3))) (k1_pay108 (View.ld x0 r1_11)) (k1_pay111 (k1_pay607 x0 x1 x2 x3) (k1_pay608 x0 x1 x2 x3) (View.ld x1 r1_12)) (k1_pay112 (k1_pay607 x0 x1 x2 x3) (k1_pay608 x0 x1 x2 x3) (View.ld x1 r1_12)) (k1_pay113 (k1_pay607 x0 x1 x2 x3) (k1_pay608 x0 x1 x2 x3) (View.ld x1 r1_12)) (k1_pay114 (k1_pay607 x0 x1 x2 x3) (k1_pay608 x0 x1 x2 x3) (View.ld x1 r1_12)) (k1_pay115 (k1_pay607 x0 x1 x2 x3) (k1_pay608 x0 x1 x2 x3) (View.ld x1 r1_12)) (k1_pay116 (k1_pay607 x0 x1 x2 x3) (k1_pay608 x0 x1 x2 x3) (k1_pay619 x0 x1 x2 x3)) (k1_pay117 (k1_pay607 x0 x1 x2 x3) (k1_pay608 x0 x1 x2 x3) (k1_pay619 x0 x1 x2 x3)) (k1_pay118 (k1_pay607 x0 x1 x2 x3) (k1_pay608 x0 x1 x2 x3) (k1_pay619 x0 x1 x2 x3)) (k1_pay119 (F := F) (k1_pay618 x0 x1 x2 x3)) (k1_pay120 (k1_pay607 x0 x1 x2 x3) (k1_pay608 x0 x1 x2 x3) (k1_pay618 x0 x1 x2 x3)) (k1_pay121 (k1_pay607 x0 x1 x2 x3) (k1_pay608 x0 x1 x2 x3) (k1_pay618 x0 x1 x2 x3)) (k1_pay122 (k1_pay607 x0 x1 x2 x3) (k1_pay608 x0 x1 x2 x3) (k1_pay618 x0 x1 x2 x3)) (k1_pay123 (k1_pay608 x0 x1 x2 x3)) (k1_pay124 (F := F) (k1_pay618 x0 x1 x2 x3)) (k1_pay125 (k1_pay607 x0 x1 x2 x3))) (k1_pay127 (View.ld x0 r1_13)) (k1_pay132 (k1_pay130 (k1_pay607 x0 x1 x2 x3) (View.ld x1 r1_14)) (k1_pay131 (k1_pay608 x0 x1 x2 x3))) (k1_pay133 (k1_pay607 x0 x1 x2 x3) (k1_pay608 x0 x1 x2 x3) (k1_pay621 x0 x1 x2 x3)) (k1_pay134 (k1_pay607 x0 x1 x2 x3) (k1_pay608 x0 x1 x2 x3) (k1_pay621 x0 x1 x2 x3)) (k1_pay135 (k1_pay607 x0 x1 x2 x3) (k1_pay608 x0 x1 x2 x3) (k1_pay621 x0 x1 x2 x3)) (k1_pay136 (k1_pay607 x0 x1 x2 x3) (k1_pay608 x0 x1 x2 x3) (k1_pay621 x0 x1 x2 x3)) (k1_pay137 (k1_pay607 x0 x1 x2 x3) (k1_pay608 x0 x1 x2 x3) (k1_pay621 x0 x1 x2 x3)) (k1_pay138 (k1_pay607 x0 x1 x2 x3) (k1_pay608 x0 x1 x2 x3) (k1_pay621 x0 x1 x2 x3)) (k1_pay139 (k1_pay607 x0 x1 x2 x3) (k1_pay608 x0 x1 x2 x3) (k1_pay621 x0 x1 x2 x3)) (k1_pay141 (F := F) (k1_pay620 x0 x1 x2 x3) (k1_pay622 x0 x1 x2 x3)) (k1_pay142 (k1_pay607 x0 x1 x2 x3) (k1_pay608 x0 x1 x2 x3) (k1_pay620 x0 x1 x2 x3) (k1_pay622 x0 x1 x2 x3)) (k1_pay143 (k1_pay607 x0 x1 x2 x3) (k1_pay608 x0 x1 x2 x3) (k1_pay620 x0 x1 x2 x3) (k1_pay622 x0 x1 x2 x3)) (k1_pay144 (k1_pay607 x0 x1 x2 x3) (k1_pay608 x0 x1 x2 x3) (k1_pay620 x0 x1 x2 x3) (k1_pay622 x0 x1 x2 x3)) (k1_pay145 (k1_pay607 x0 x1 x2 x3) (k1_pay608 x0 x1 x2 x3) (k1_pay620 x0 x1 x2 x3) (k1_pay622 x0 x1 x2 x3)) (k1_pay146 (k1_pay607 x0 x1 x2 x3) (k1_pay608 x0 x1 x2 x3) (k1_pay620 x0 x1 x2 x3) (k1_pay622 x0 x1 x2 x3)) (k1_pay147 (k1_pay607 x0 x1 x2 x3) (k1_pay608 x0 x1 x2 x3) (k1_pay620 x0 x1 x2 x3) (k1_pay622 x0 x1 x2 x3)) (k1_pay148 (k1_pay607 x0 x1 x2 x3) (k1_pay620 x0 x1 x2 x3) (k1_pay622 x0 x1 x2 x3)) (k1_pay149 (k1_pay608 x0 x1 x2 x3))) (k1_pay151 (View.ld x0 r1_15)) (k1_pay154 (k1_pay607 x0 x1 x2 x3) (k1_pay608 x0 x1 x2 x3) (View.ld x1 r1_16)) (k1_pay155 (k1_pay607 x0 x1 x2 x3) (k1_pay608 x0 x1 x2 x3) (View.ld x1 r1_16)) (k1_pay156 (k1_pay607 x0 x1 x2 x3) (k1_pay608 x0 x1 x2 x3) (View.ld x1 r1_16)) (k1_pay157 (k1_pay607 x0 x1 x2 x3) (k1_pay608 x0 x1 x2 x3) (View.ld x1 r1_16)) (k1_pay158 (k1_pay607 x0 x1 x2 x3) (k1_pay608 x0 x1 x2 x3) (k1_pay624 x0 x1 x2 x3)) (k1_pay159 (k1_pay607 x0 x1 x2 x3) (k1_pay608 x0 x1 x2 x3) (k1_pay624 x0 x1 x2 x3)) (k1_pay160 (k1_pay607 x0 x1 x2 x3) (k1_pay608 x0 x1 x2 x3) (k1_pay624 x0 x1 x2 x3)) (k1_pay161 (k1_pay607 x0 x1 x2 x3) (k1_pay608 x0 x1 x2 x3) (k1_pay624 x0 x1 x2 x3)) (k1_pay162 (F := F) (k1_pay623 x0 x1 x2 x3)) (k1_pay163 (k1_pay607 x0 x1 x2 x3) (k1_pay608 x0 x1 x2 x3) (k1_pay623 x0 x1 x2 x3)) (k1_pay164 (k1_pay607 x0 x1 x2 x3) (k1_pay608 x0 x1 x2 x3) (k1_pay623 x0 x1 x2 x3)) (k1_pay165 (k1_pay608 x0 x1 x2 x3)) (k1_pay166 (F := F) (k1_pay623 x0 x1 x2 x3)) (k1_pay167 (k1_pay607 x0 x1 x2 x3))) (k1_pay169 (View.ld x0 r1_17)) (k1_pay173 (k1_pay607 x0 x1 x2 x3) (k1_pay608 x0 x1 x2 x3) (k1_pay626 x0 x1 x2 x3)) (k1_pay174 (k1_pay607 x0 x1 x2 x3) (k1_pay608 x0 x1 x2 x3) (k1_pay626 x0 x1 x2 x3)) (k1_pay175 (k1_pay607 x0 x1 x2 x3) (k1_pay608 x0 x1 x2 x3) (k1_pay626 x0 x1 x2 x3)) (k1_pay176 (k1_pay607 x0 x1 x2 x3) (k1_pay608 x0 x1 x2 x3) (k1_pay626 x0 x1 x2 x3)) (k1_pay177 (k1_pay607 x0 x1 x2 x3) (k1_pay608 x0 x1 x2 x3) (k1_pay626 x0 x1 x2 x3)) (k1_pay178 (k1_pay607 x0 x1 x2 x3) (k1_pay608 x0 x1 x2 x3) (k1_pay626 x0 x1 x2 x3)) (k1_pay179 (k1_pay607 x0 x1 x2 x3) (k1_pay608 x0 x1 x2 x3) (k1_pay626 x0 x1 x2 x3)) (k1_pay182 (k1_pay172 (F := F) (k1_pay626 x0 x1 x2 x3)) (k1_pay180 (k1_pay607 x0 x1 x2 x3)) (k1_pay181 (k1_pay608 x0 x1 x2 x3))) (k1_pay183 (F := F) (k1_pay625 x0 x1 x2 x3)) (k1_pay184 (k1_pay607 x0 x1 x2 x3) (k1_pay608 x0 x1 x2 x3) (k1_pay625 x0 x1 x2 x3)) (k1_pay185 (k1_pay607 x0 x1 x2 x3) (k1_pay608 x0 x1 x2 x3) (k1_pay625 x0 x1 x2 x3)) (k1_pay186 (k1_pay607 x0 x1 x2 x3) (k1_pay608 x0 x1 x2 x3) (k1_pay625 x0 x1 x2 x3)) (k1_pay187 (k1_pay607 x0 x1 x2 x3) (k1_pay608 x0 x1 x2 x3) (k1_pay625 x0 x1 x2 x3)) (k1_pay188 (k1_pay607 x0 x1 x2 x3) (k1_pay608 x0 x1 x2 x3) (k1_pay625 x0 x1 x2 x3)) (k1_pay189 (k1_pay607 x0 x1 x2 x3) (k1_pay625 x0 x1 x2 x3)) (k1_pay190 (k1_pay608 x0 x1 x2 x3))) (k1_pay192 (View.ld x0 r1_19)) (k1_pay195 (k1_pay607 x0 x1 x2 x3) (k1_pay608 x0 x1 x2 x3) (View.ld x1 r1_20)) (k1_pay196 (k1_pay607 x0 x1 x2 x3) (k1_pay608 x0 x1 x2 x3) (View.ld x1 r1_20)) (k1_pay197 (k1_pay607 x0 x1 x2 x3) (k1_pay608 x0 x1 x2 x3) (View.ld x1 r1_20)) (k1_pay198 (k1_pay607 x0 x1 x2 x3) (k1_pay608 x0 x1 x2 x3) (k1_pay628 x0 x1 x2 x3)) (k1_pay199 (k1_pay607 x0 x1 x2 x3) (k1_pay608 x0 x1 x2 x3) (k1_pay628 x0 x1 x2 x3)) (k1_pay200 (k1_pay607 x0 x1 x2 x3) (k1_pay608 x0 x1 x2 x3) (k1_pay628 x0 x1 x2 x3)) (k1_pay201 (k1_pay607 x0 x1 x2 x3) (k1_pay608 x0 x1 x2 x3) (k1_pay628 x0 x1 x2 x3)) (k1_pay202 (k1_pay607 x0 x1 x2 x3) (k1_pay608 x0 x1 x2 x3) (k1_pay628 x0 x1 x2 x3)) (k1_pay203 (F := F) (k1_pay627 x0 x1 x2 x3)) (k1_pay204 (k1_pay607 x0 x1 x2 x3) (k1_pay608 x0 x1 x2 x3) (k1_pay627 x0 x1 x2 x3)) (k1_pay205 (k1_pay608 x0 x1 x2 x3)) (k1_pay206 (F := F) (k1_pay627 x0 x1 x2 x3)) (k1_pay207 (k1_pay607 x0 x1 x2 x3))) (k1_pay209 (View.ld x0 r1_21)) (k1_pay212 (k1_pay607 x0 x1 x2 x3) (k1_pay608 x0 x1 x2 x3) (View.ld x1 r1_22)) (k1_pay213 (k1_pay607 x0 x1 x2 x3) (k1_pay608 x0 x1 x2 x3) (View.ld x1 r1_22)) (k1_pay214 (k1_pay607 x0 x1 x2 x3) (k1_pay608 x0 x1 x2 x3) (View.ld x1 r1_22)) (k1_pay215 (k1_pay607 x0 x1 x2 x3) (k1_pay608 x0 x1 x2 x3) (View.ld x1 r1_22)) (k1_pay216 (k1_pay607 x0 x1 x2 x3) (k1_pay608 x0 x1 x2 x3) (View.ld x1 r1_22)) (k1_pay217 (k1_pay607 x0 x1 x2 x3) (k1_pay608 x0 x1 x2 x3) (View.ld x1 r1_22)) (k1_pay220 (k1_pay630 x0 x1 x2 x3) (k1_pay218 (k1_pay607 x0 x1 x2 x3)) (k1_pay219 (k1_pay608 x0 x1 x2 x3))) (k1_pay221 (k1_pay607 x0 x1 x2 x3) (k1_pay608 x0 x1 x2 x3) (k1_pay630 x0 x1 x2 x3)) (k1_pay222 (F := F) (k1_pay629 x0 x1 x2 x3)) (k1_pay223 (k1_pay607 x0 x1 x2 x3) (k1_pay608 x0 x1 x2 x3) (k1_pay629 x0 x1 x2 x3)) (k1_pay224 (k1_pay607 x0 x1 x2 x3) (k1_pay608 x0 x1 x2 x3) (k1_pay629 x0 x1 x2 x3)) (k1_pay225 (k1_pay607 x0 x1 x2 x3) (k1_pay608 x0 x1 x2 x3) (k1_pay629 x0 x1 x2 x3)) (k1_pay226 (k1_pay607 x0 x1 x2 x3) (k1_pay608 x0 x1 x2 x3) (k1_pay629 x0 x1 x2 x3)) (k1_pay227 (k1_pay607 x0 x1 x2 x3) (k1_pay629 x0 x1 x2 x3)) (k1_pay228 (k1_pay608 x0 x1 x2 x3))) (k1_pay230 (View.ld x0 r1_23)) (k1_pay233 (k1_pay607 x0 x1 x2 x3) (k1_pay608 x0 x1 x2 x3) (View.ld x1 r1_24)) (k1_pay234 (k1_pay607 x0 x1 x2 x3) (k1_pay608 x0 x1 x2 x3) (View.ld x1 r1_24)) (k1_pay235 (k1_pay607 x0 x1 x2 x3) (k1_pay608 x0 x1 x2 x3) (k1_pay632 x0 x1 x2 x3)) (k1_pay236 (k1_pay607 x0 x1 x2 x3) (k1_pay608 x0 x1 x2 x3) (k1_pay632 x0 x1 x2 x3)) (k1_pay237 (k1_pay607 x0 x1 x2 x3) (k1_pay608 x0 x1 x2 x3) (k1_pay632 x0 x1 x2 x3)) (k1_pay238 (k1_pay607 x0 x1 x2 x3) (k1_pay608 x0 x1 x2 x3) (k1_pay632 x0 x1 x2 x3)) (k1_pay239 (k1_pay607 x0 x1 x2 x3) (k1_pay608 x0 x1 x2 x3) (k1_pay632 x0 x1 x2 x3)) (k1_pay240 (k1_pay607 x0 x1 x2 x3) (k1_pay608 x0 x1 x2 x3) (k1_pay632 x0 x1 x2 x3)) (k1_pay245 (k1_pay242 (k1_pay608 x0 x1 x2 x3)) (k1_pay243 (F := F) (k1_pay631 x0 x1 x2 x3)) (k1_pay244 (k1_pay607 x0 x1 x2 x3))) (k1_pay246 (k1_pay607 x0 x1 x2 x3) (k1_pay608 x0 x1 x2 x3) (k1_pay633 x0 x1 x2 x3)) (k1_pay247 (k1_pay607 x0 x1 x2 x3) (k1_pay608 x0 x1 x2 x3) (k1_pay633 x0 x1 x2 x3)) (k1_pay248 (k1_pay607 x0 x1 x2 x3) (k1_pay608 x0 x1 x2 x3) (k1_pay633 x0 x1 x2 x3)) (k1_pay249 (k1_pay607 x0 x1 x2 x3) (k1_pay608 x0 x1 x2 x3) (k1_pay633 x0 x1 x2 x3)) (k1_pay250 (k1_pay607 x0 x1 x2 x3) (k1_pay608 x0 x1 x2 x3) (k1_pay633 x0 x1 x2 x3)) (k1_pay251 (k1_pay607 x0 x1 x2 x3) (k1_pay608 x0 x1 x2 x3) (k1_pay633 x0 x1 x2 x3)) (k1_pay252 (k1_pay607 x0 x1 x2 x3) (k1_pay608 x0 x1 x2 x3) (k1_pay633 x0 x1 x2 x3))) (k1_pay254 (View.ld x0 r1_25)) (k1_pay257 (k1_pay607 x0 x1 x2 x3) (k1_pay608 x0 x1 x2 x3) (View.ld x1 r1_26)) (k1_pay258 (k1_pay607 x0 x1 x2 x3) (k1_pay608 x0 x1 x2 x3) (View.ld x1 r1_26)) (k1_pay259 (k1_pay607 x0 x1 x2 x3) (k1_pay608 x0 x1 x2 x3) (View.ld x1 r1_26)) (k1_pay260 (k1_pay607 x0 x1 x2 x3) (k1_pay608 x0 x1 x2 x3) (View.ld x1 r1_26)) (k1_pay261 (k1_pay607 x0 x1 x2 x3) (k1_pay608 x0 x1 x2 x3) (View.ld x1 r1_26)) (k1_pay264 (k1_pay635 x0 x1 x2 x3) (k1_pay262 (k1_pay607 x0 x1 x2 x3)) (k1_pay263 (k1_pay608 x0 x1 x2 x3))) (k1_pay265 (k1_pay607 x0 x1 x2 x3) (k1_pay608 x0 x1 x2 x3) (k1_pay635 x0 x1 x2 x3)) (k1_pay266 (k1_pay607 x0 x1 x2 x3) (k1_pay608 x0 x1 x2 x3) (k1_pay635 x0 x1 x2 x3)) (k1_pay267 (F := F) (k1_pay634 x0 x1 x2 x3)) (k1_pay268 (k1_pay607 x0 x1 x2 x3) (k1_pay608 x0 x1 x2 x3) (k1_pay634 x0 x1 x2 x3)) (k1_pay269 (k1_pay607 x0 x1 x2 x3) (k1_pay608 x0 x1 x2 x3) (k1_pay634 x0 x1 x2 x3)) (k1_pay270 (k1_pay607 x0 x1 x2 x3) (k1_pay608 x0 x1 x2 x3) (k1_pay634 x0 x1 x2 x3)) (k1_pay271 (k1_pay607 x0 x1 x2 x3) (k1_pay634 x0 x1 x2 x3)) (k1_pay272 (k1_pay608 x0 x1 x2 x3))) (k1_pay274 (View.ld x0 r1_27)) (k1_pay277 (k1_pay607 x0 x1 x2 x3) (k1_pay608 x0 x1 x2 x3) (View.ld x1 r1_28)) (k1_pay278 (k1_pay607 x0 x1 x2 x3) (k1_pay608 x0 x1 x2 x3) (k1_pay636 x0 x1 x2 x3)) (k1_pay279 (k1_pay607 x0 x1 x2 x3) (k1_pay608 x0 x1 x2 x3) (k1_pay636 x0 x1 x2 x3)) (k1_pay280 (k1_pay607 x0 x1 x2 x3) (k1_pay608 x0 x1 x2 x3) (k1_pay636 x0 x1 x2 x3)) (k1_pay281 (k1_pay607 x0 x1 x2 x3) (k1_pay608 x0 x1 x2 x3) (k1_pay636 x0 x1 x2 x3)) (k1_pay282 (k1_pay607 x0 x1 x2 x3) (k1_pay608 x0 x1 x2 x3) (k1_pay636 x0 x1 x2 x3)) (k1_pay283 (k1_pay607 x0 x1 x2 x3) (k1_pay608 x0 x1 x2 x3) (k1_pay636 x0 x1 x2 x3)) (k1_pay284 (k1_pay607 x0 x1 x2 x3) (k1_pay608 x0 x1 x2 x3) (k1_pay636 x0 x1 x2 x3)) (k1_pay286 (F := F) (k1_pay637 x0 x1 x2 x3) 252645135#32) (k1_pay287 (k1_pay607 x0 x1 x2 x3) (k1_pay608 x0 x1 x2 x3) (k1_pay637 x0 x1 x2 x3) 252645135#32) (k1_pay288 (k1_pay607 x0 x1 x2 x3) (k1_pay608 x0 x1 x2 x3) (k1_pay637 x0 x1 x2 x3) 252645135#32) (k1_pay289 (k1_pay607 x0 x1 x2 x3) (k1_pay608 x0 x1 x2 x3) (k1_pay637 x0 x1 x2 x3) 252645135#32) (k1_pay290 (k1_pay607 x0 x1 x2 x3) (k1_pay608 x0 x1 x2 x3) (k1_pay637 x0 x1 x2 x3) 252645135#32) (k1_pay291 (k1_pay607 x0 x1 x2 x3) (k1_pay608 x0 x1 x2 x3) (k1_pay637 x0 x1 x2 x3) 252645135#32) (k1_pay292 (k1_pay607 x0 x1 x2 x3) (k1_pay608 x0 x1 x2 x3) (k1_pay637 x0 x1 x2 x3) 252645135#32) (k1_pay293 (k1_pay607 x0 x1 x2 x3) (k1_pay608 x0 x1 x2 x3) (k1_pay637 x0 x1 x2 x3) 252645135#32)) (k1_pay295 (View.ld x0 r1_29)) (k1_pay298 (k1_pay607 x0 x1 x2 x3) (k1_pay608 x0 x1 x2 x3) (View.ld x1 r1_30)) (k1_pay299 (k1_pay607 x0 x1 x2 x3) (k1_pay608 x0 x1 x2 x3) (View.ld x1 r1_30)) (k1_pay300 (k1_pay607 x0 x1 x2 x3) (k1_pay608 x0 x1 x2 x3) (View.ld x1 r1_30)) (k1_pay301 (k1_pay607 x0 x1 x2 x3) (k1_pay608 x0 x1 x2 x3) (View.ld x1 r1_30)) (k1_pay304 (k1_pay639 x0 x1 x2 x3) (k1_pay302 (k1_pay607 x0 x1 x2 x3)) (k1_pay303 (k1_pay608 x0 x1 x2 x3))) (k1_pay305 (k1_pay607 x0 x1 x2 x3) (k1_pay608 x0 x1 x2 x3) (k1_pay639 x0 x1 x2 x3)) (k1_pay306 (k1_pay607 x0 x1 x2 x3) (k1_pay608 x0 x1 x2 x3) (k1_pay639 x0 x1 x2 x3)) (k1_pay307 (k1_pay607 x0 x1 x2 x3) (k1_pay608 x0 x1 x2 x3) (k1_pay639 x0 x1 x2 x3)) (k1_pay308 (F := F) (k1_pay638 x0 x1 x2 x3)) (k1_pay309 (k1_pay607 x0 x1 x2 x3) (k1_pay608 x0 x1 x2 x3) (k1_pay638 x0 x1 x2 x3)) (k1_pay310 (k1_pay607 x0 x1 x2 x3) (k1_pay608 x0 x1 x2 x3) (k1_pay638 x0 x1 x2 x3)) (k1_pay311 (k1_pay607 x0 x1 x2 x3) (k1_pay638 x0 x1 x2 x3)) (k1_pay312 (k1_pay608 x0 x1 x2 x3))) (k1_pay314 (View.ld x0 r1_31)) (k1_pay317 (k1_pay607 x0 x1 x2 x3) (k1_pay608 x0 x1 x2 x3) (k1_pay641 x0 x1 x2 x3)) (k1_pay318 (k1_pay607 x0 x1 x2 x3) (k1_pay608 x0 x1 x2 x3) (k1_pay641 x0 x1 x2 x3)) (k1_pay319 (k1_pay607 x0 x1 x2 x3) (k1_pay608 x0 x1 x2 x3) (k1_pay641 x0 x1 x2 x3)) (k1_pay320 (k1_pay607 x0 x1 x2 x3) (k1_pay608 x0 x1 x2 x3) (k1_pay641 x0 x1 x2 x3)) (k1_pay321 (k1_pay607 x0 x1 x2 x3) (k1_pay608 x0 x1 x2 x3) (k1_pay641 x0 x1 x2 x3)) (k1_pay322 (k1_pay607 x0 x1 x2 x3) (k1_pay608 x0 x1 x2 x3) (k1_pay641 x0 x1 x2 x3)) (k1_pay323 (k1_pay607 x0 x1 x2 x3) (k1_pay608 x0 x1 x2 x3) (k1_pay641 x0 x1 x2 x3)) (k1_pay327 (k1_pay324 (k1_pay608 x0 x1 x2 x3)) (k1_pay325 (k1_pay641 x0 x1 x2 x3)) (k1_pay326 (k1_pay607 x0 x1 x2 x3))) (k1_pay328 (F := F) (k1_pay640 x0 x1 x2 x3)) (k1_pay329 (k1_pay607 x0 x1 x2 x3) (k1_pay608 x0 x1 x2 x3) (k1_pay640 x0 x1 x2 x3)) (k1_pay330 (k1_pay607 x0 x1 x2 x3) (k1_pay608 x0 x1 x2 x3) (k1_pay640 x0 x1 x2 x3)) (k1_pay331 (k1_pay607 x0 x1 x2 x3) (k1_pay608 x0 x1 x2 x3) (k1_pay640 x0 x1 x2 x3)) (k1_pay332 (k1_pay607 x0 x1 x2 x3) (k1_pay608 x0 x1 x2 x3) (k1_pay640 x0 x1 x2 x3)) (k1_pay333 (k1_pay607 x0 x1 x2 x3) (k1_pay608 x0 x1 x2 x3) (k1_pay640 x0 x1 x2 x3)) (k1_pay334 (k1_pay607 x0 x1 x2 x3) (k1_pay608 x0 x1 x2 x3) (k1_pay640 x0 x1 x2 x3))) (k1_pay336 (View.ld x0 r1_33)) (k1_pay339 (k1_pay607 x0 x1 x2 x3) (k1_pay608 x0 x1 x2 x3) (View.ld x1 r1_34)) (k1_pay340 (k1_pay607 x0 x1 x2 x3) (k1_pay608 x0 x1 x2 x3) (View.ld x1 r1_34)) (k1_pay341 (k1_pay607 x0 x1 x2 x3) (k1_pay608 x0 x1 x2 x3) (View.ld x1 r1_34)) (k1_pay344 (k1_pay643 x0 x1 x2 x3) (k1_pay342 (k1_pay607 x0 x1 x2 x3)) (k1_pay343 (k1_pay608 x0 x1 x2 x3))) (k1_pay345 (k1_pay607 x0 x1 x2 x3) (k1_pay608 x0 x1 x2 x3) (k1_pay643 x0 x1 x2 x3)) (k1_pay346 (k1_pay607 x0 x1 x2 x3) (k1_pay608 x0 x1 x2 x3) (k1_pay643 x0 x1 x2 x3)) (k1_pay347 (k1_pay607 x0 x1 x2 x3) (k1_pay608 x0 x1 x2 x3) (k1_pay643 x0 x1 x2 x3)) (k1_pay348 (k1_pay607 x0 x1 x2 x3) (k1_pay608 x0 x1 x2 x3) (k1_pay643 x0 x1 x2 x3)) (k1_pay349 (F := F) (k1_pay642 x0 x1 x2 x3)) (k1_pay350 (k1_pay607 x0 x1 x2 x3) (k1_pay608 x0 x1 x2 x3) (k1_pay642 x0 x1 x2 x3)) (k1_pay351 (k1_pay607 x0 x1 x2 x3) (k1_pay642 x0 x1 x2 x3)) (k1_pay352 (k1_pay608 x0 x1 x2 x3))) (k1_pay354 (View.ld x0 r1_35)) (k1_pay357 (k1_pay607 x0 x1 x2 x3) (k1_pay608 x0 x1 x2 x3) (View.ld x1 r1_36)) (k1_pay358 (k1_pay607 x0 x1 x2 x3) (k1_pay608 x0 x1 x2 x3) (View.ld x1 r1_36)) (k1_pay359 (k1_pay607 x0 x1 x2 x3) (k1_pay608 x0 x1 x2 x3) (View.ld x1 r1_36)) (k1_pay360 (k1_pay607 x0 x1 x2 x3) (k1_pay608 x0 x1 x2 x3) (View.ld x1 r1_36)) (k1_pay361 (k1_pay607 x0 x1 x2 x3) (k1_pay608 x0 x1 x2 x3) (View.ld x1 r1_36)) (k1_pay362 (k1_pay607 x0 x1 x2 x3) (k1_pay608 x0 x1 x2 x3) (View.ld x1 r1_36)) (k1_pay366 (k1_pay363 (k1_pay608 x0 x1 x2 x3)) (k1_pay364 (View.ld x1 r1_36)) (k1_pay365 (k1_pay607 x0 x1 x2 x3))) (k1_pay367 (k1_pay607 x0 x1 x2 x3) (k1_pay608 x0 x1 x2 x3) (k1_pay356 (View.ld x1 r1_36))) (k1_pay368 (F := F) (k1_pay644 x0 x1 x2 x3)) (k1_pay369 (k1_pay607 x0 x1 x2 x3) (k1_pay608 x0 x1 x2 x3) (k1_pay644 x0 x1 x2 x3)) (k1_pay370 (k1_pay607 x0 x1 x2 x3) (k1_pay608 x0 x1 x2 x3) (k1_pay644 x0 x1 x2 x3)) (k1_pay371 (k1_pay607 x0 x1 x2 x3) (k1_pay608 x0 x1 x2 x3) (k1_pay644 x0 x1 x2 x3)) (k1_pay372 (k1_pay607 x0 x1 x2 x3) (k1_pay608 x0 x1 x2 x3) (k1_pay644 x0 x1 x2 x3)) (k1_pay373 (k1_pay607 x0 x1 x2 x3) (k1_pay608 x0 x1 x2 x3) (k1_pay644 x0 x1 x2 x3))) (k1_pay375 (View.ld x0 r1_37)) (k1_pay391 (k1_pay607 x0 x1 x2 x3) (k1_pay608 x0 x1 x2 x3) (k1_pay378 (k1_pay607 x0 x1 x2 x3) (k1_pay608 x0 x1 x2 x3) (View.ld x1 r1_38)) (k1_pay379 (k1_pay607 x0 x1 x2 x3) (k1_pay608 x0 x1 x2 x3) (View.ld x1 r1_38)) (k1_pay382 (k1_pay646 x0 x1 x2 x3) (k1_pay380 (k1_pay607 x0 x1 x2 x3)) (k1_pay381 (k1_pay608 x0 x1 x2 x3))) (k1_pay383 (k1_pay607 x0 x1 x2 x3) (k1_pay608 x0 x1 x2 x3) (k1_pay646 x0 x1 x2 x3)) (k1_pay384 (k1_pay607 x0 x1 x2 x3) (k1_pay608 x0 x1 x2 x3) (k1_pay646 x0 x1 x2 x3)) (k1_pay385 (k1_pay607 x0 x1 x2 x3) (k1_pay608 x0 x1 x2 x3) (k1_pay646 x0 x1 x2 x3)) (k1_pay386 (k1_pay607 x0 x1 x2 x3) (k1_pay608 x0 x1 x2 x3) (k1_pay646 x0 x1 x2 x3)) (k1_pay387 (k1_pay607 x0 x1 x2 x3) (k1_pay608 x0 x1 x2 x3) (k1_pay646 x0 x1 x2 x3)) (k1_pay388 (F := F) (k1_pay645 x0 x1 x2 x3)) (k1_pay389 (k1_pay607 x0 x1 x2 x3) (k1_pay645 x0 x1 x2 x3)) (k1_pay390 (k1_pay608 x0 x1 x2 x3))) (constant S96x512 .f32 0x00000000#32)) (k1_pay393 (View.ld x0 r1_39)) (k1_pay396 (k1_pay607 x0 x1 x2 x3) (k1_pay608 x0 x1 x2 x3) (View.ld x1 r1_40)) (k1_pay397 (k1_pay607 x0 x1 x2 x3) (k1_pay608 x0 x1 x2 x3) (View.ld x1 r1_40)) (k1_pay398 (k1_pay607 x0 x1 x2 x3) (k1_pay608 x0 x1 x2 x3) (View.ld x1 r1_40)) (k1_pay399 (k1_pay607 x0 x1 x2 x3) (k1_pay608 x0 x1 x2 x3) (View.ld x1 r1_40)) (k1_pay400 (k1_pay607 x0 x1 x2 x3) (k1_pay608 x0 x1 x2 x3) (View.ld x1 r1_40)) (k1_pay404 (k1_pay401 (k1_pay608 x0 x1 x2 x3)) (k1_pay402 (View.ld x1 r1_40)) (k1_pay403 (k1_pay607 x0 x1 x2 x3))) (k1_pay405 (k1_pay607 x0 x1 x2 x3) (k1_pay608 x0 x1 x2 x3) (k1_pay648 x0 x1 x2 x3)) (k1_pay406 (k1_pay607 x0 x1 x2 x3) (k1_pay608 x0 x1 x2 x3) (k1_pay648 x0 x1 x2 x3)) (k1_pay407 (F := F) (k1_pay647 x0 x1 x2 x3)) (k1_pay408 (k1_pay607 x0 x1 x2 x3) (k1_pay608 x0 x1 x2 x3) (k1_pay647 x0 x1 x2 x3)) (k1_pay409 (k1_pay607 x0 x1 x2 x3) (k1_pay608 x0 x1 x2 x3) (k1_pay647 x0 x1 x2 x3)) (k1_pay410 (k1_pay607 x0 x1 x2 x3) (k1_pay608 x0 x1 x2 x3) (k1_pay647 x0 x1 x2 x3)) (k1_pay411 (k1_pay607 x0 x1 x2 x3) (k1_pay608 x0 x1 x2 x3) (k1_pay647 x0 x1 x2 x3))) (k1_pay413 (View.ld x0 r1_41)) (k1_pay416 (k1_pay607 x0 x1 x2 x3) (k1_pay608 x0 x1 x2 x3) (View.ld x1 r1_42)) (k1_pay419 (k1_pay649 x0 x1 x2 x3) (k1_pay417 (k1_pay607 x0 x1 x2 x3)) (k1_pay418 (k1_pay608 x0 x1 x2 x3))) (k1_pay420 (k1_pay607 x0 x1 x2 x3) (k1_pay608 x0 x1 x2 x3) (k1_pay649 x0 x1 x2 x3)) (k1_pay421 (k1_pay607 x0 x1 x2 x3) (k1_pay608 x0 x1 x2 x3) (k1_pay649 x0 x1 x2 x3)) (k1_pay422 (k1_pay607 x0 x1 x2 x3) (k1_pay608 x0 x1 x2 x3) (k1_pay649 x0 x1 x2 x3)) (k1_pay423 (k1_pay607 x0 x1 x2 x3) (k1_pay608 x0 x1 x2 x3) (k1_pay649 x0 x1 x2 x3)) (k1_pay424 (k1_pay607 x0 x1 x2 x3) (k1_pay608 x0 x1 x2 x3) (k1_pay649 x0 x1 x2 x3)) (k1_pay425 (k1_pay607 x0 x1 x2 x3) (k1_pay608 x0 x1 x2 x3) (k1_pay649 x0 x1 x2 x3)) (k1_pay427 (F := F) (k1_pay650 x0 x1 x2 x3)) (k1_pay428 (k1_pay607 x0 x1 x2 x3) (k1_pay608 x0 x1 x2 x3) (k1_pay650 x0 x1 x2 x3)) (k1_pay429 (k1_pay607 x0 x1 x2 x3) (k1_pay608 x0 x1 x2 x3) (k1_pay650 x0 x1 x2 x3)) (k1_pay430 (k1_pay607 x0 x1 x2 x3) (k1_pay608 x0 x1 x2 x3) (k1_pay650 x0 x1 x2 x3)) (k1_pay431 (k1_pay607 x0 x1 x2 x3) (k1_pay608 x0 x1 x2 x3) (k1_pay650 x0 x1 x2 x3)) (k1_pay432 (k1_pay607 x0 x1 x2 x3) (k1_pay608 x0 x1 x2 x3) (k1_pay650 x0 x1 x2 x3)) (k1_pay433 (k1_pay607 x0 x1 x2 x3) (k1_pay608 x0 x1 x2 x3) (k1_pay650 x0 x1 x2 x3)) (k1_pay434 (k1_pay607 x0 x1 x2 x3) (k1_pay608 x0 x1 x2 x3) (k1_pay650 x0 x1 x2 x3)) (k1_pay435 (k1_pay607 x0 x1 x2 x3)) (k1_pay436 (k1_pay608 x0 x1 x2 x3))) (k1_pay438 (View.ld x0 r1_43)) (k1_pay441 (k1_pay607 x0 x1 x2 x3) (k1_pay608 x0 x1 x2 x3) (View.ld x1 r1_44)) (k1_pay442 (k1_pay607 x0 x1 x2 x3) (k1_pay608 x0 x1 x2 x3) (View.ld x1 r1_44)) (k1_pay443 (k1_pay607 x0 x1 x2 x3) (k1_pay608 x0 x1 x2 x3) (View.ld x1 r1_44)) (k1_pay444 (k1_pay607 x0 x1 x2 x3) (k1_pay608 x0 x1 x2 x3) (View.ld x1 r1_44)) (k1_pay448 (k1_pay445 (k1_pay608 x0 x1 x2 x3)) (k1_pay446 (View.ld x1 r1_44)) (k1_pay447 (k1_pay607 x0 x1 x2 x3))) (k1_pay449 (k1_pay607 x0 x1 x2 x3) (k1_pay608 x0 x1 x2 x3) (k1_pay652 x0 x1 x2 x3)) (k1_pay450 (k1_pay607 x0 x1 x2 x3) (k1_pay608 x0 x1 x2 x3) (k1_pay652 x0 x1 x2 x3)) (k1_pay451 (k1_pay607 x0 x1 x2 x3) (k1_pay608 x0 x1 x2 x3) (k1_pay652 x0 x1 x2 x3)) (k1_pay452 (F := F) (k1_pay651 x0 x1 x2 x3)) (k1_pay453 (k1_pay607 x0 x1 x2 x3) (k1_pay608 x0 x1 x2 x3) (k1_pay651 x0 x1 x2 x3)) (k1_pay454 (k1_pay607 x0 x1 x2 x3) (k1_pay608 x0 x1 x2 x3) (k1_pay651 x0 x1 x2 x3)) (k1_pay455 (k1_pay607 x0 x1 x2 x3) (k1_pay608 x0 x1 x2 x3) (k1_pay651 x0 x1 x2 x3))) (k1_pay457 (View.ld x0 r1_45)) (k1_pay462 (k1_pay654 x0 x1 x2 x3) (k1_pay460 (k1_pay607 x0 x1 x2 x3)) (k1_pay461 (k1_pay608 x0 x1 x2 x3))) (k1_pay463 (k1_pay607 x0 x1 x2 x3) (k1_pay608 x0 x1 x2 x3) (k1_pay654 x0 x1 x2 x3)) (k1_pay464 (k1_pay607 x0 x1 x2 x3) (k1_pay608 x0 x1 x2 x3) (k1_pay654 x0 x1 x2 x3)) (k1_pay465 (k1_pay607 x0 x1 x2 x3) (k1_pay608 x0 x1 x2 x3) (k1_pay654 x0 x1 x2 x3)) (k1_pay466 (k1_pay607 x0 x1 x2 x3) (k1_pay608 x0 x1 x2 x3) (k1_pay654 x0 x1 x2 x3)) (k1_pay467 (k1_pay607 x0 x1 x2 x3) (k1_pay608 x0 x1 x2 x3) (k1_pay654 x0 x1 x2 x3)) (k1_pay468 (k1_pay607 x0 x1 x2 x3) (k1_pay608 x0 x1 x2 x3) (k1_pay654 x0 x1 x2 x3)) (k1_pay471 (k1_pay469 (k1_pay607 x0 x1 x2 x3) (k1_pay654 x0 x1 x2 x3)) (k1_pay470 (k1_pay608 x0 x1 x2 x3))) (k1_pay472 (F := F) (k1_pay653 x0 x1 x2 x3)) (k1_pay473 (k1_pay607 x0 x1 x2 x3) (k1_pay608 x0 x1 x2 x3) (k1_pay653 x0 x1 x2 x3)) (k1_pay474 (k1_pay607 x0 x1 x2 x3) (k1_pay608 x0 x1 x2 x3) (k1_pay653 x0 x1 x2 x3)) (k1_pay475 (k1_pay607 x0 x1 x2 x3) (k1_pay608 x0 x1 x2 x3) (k1_pay653 x0 x1 x2 x3)) (k1_pay476 (k1_pay607 x0 x1 x2 x3) (k1_pay608 x0 x1 x2 x3) (k1_pay653 x0 x1 x2 x3)) (k1_pay477 (k1_pay607 x0 x1 x2 x3) (k1_pay608 x0 x1 x2 x3) (k1_pay653 x0 x1 x2 x3)) (k1_pay478 (k1_pay607 x0 x1 x2 x3) (k1_pay608 x0 x1 x2 x3) (k1_pay653 x0 x1 x2 x3)) (k1_pay479 (k1_pay607 x0 x1 x2 x3)) (k1_pay480 (k1_pay608 x0 x1 x2 x3))) (k1_pay482 (View.ld x0 r1_47)) (k1_pay485 (k1_pay607 x0 x1 x2 x3) (k1_pay608 x0 x1 x2 x3) (View.ld x1 r1_48)) (k1_pay486 (k1_pay607 x0 x1 x2 x3) (k1_pay608 x0 x1 x2 x3) (View.ld x1 r1_48)) (k1_pay487 (k1_pay607 x0 x1 x2 x3) (k1_pay608 x0 x1 x2 x3) (View.ld x1 r1_48)) (k1_pay491 (k1_pay488 (k1_pay608 x0 x1 x2 x3)) (k1_pay489 (View.ld x1 r1_48)) (k1_pay490 (k1_pay607 x0 x1 x2 x3))) (k1_pay492 (k1_pay607 x0 x1 x2 x3) (k1_pay608 x0 x1 x2 x3) (k1_pay656 x0 x1 x2 x3)) (k1_pay493 (k1_pay607 x0 x1 x2 x3) (k1_pay608 x0 x1 x2 x3) (k1_pay656 x0 x1 x2 x3)) (k1_pay494 (k1_pay607 x0 x1 x2 x3) (k1_pay608 x0 x1 x2 x3) (k1_pay656 x0 x1 x2 x3)) (k1_pay495 (k1_pay607 x0 x1 x2 x3) (k1_pay608 x0 x1 x2 x3) (k1_pay656 x0 x1 x2 x3)) (k1_pay496 (F := F) (k1_pay655 x0 x1 x2 x3)) (k1_pay497 (k1_pay607 x0 x1 x2 x3) (k1_pay608 x0 x1 x2 x3) (k1_pay655 x0 x1 x2 x3)) (k1_pay498 (k1_pay607 x0 x1 x2 x3) (k1_pay608 x0 x1 x2 x3) (k1_pay655 x0 x1 x2 x3))) (k1_pay500 (View.ld x0 r1_49)) (k1_pay504 (k1_pay607 x0 x1 x2 x3) (k1_pay608 x0 x1 x2 x3) (k1_pay657 x0 x1 x2 x3)) (k1_pay505 (k1_pay607 x0 x1 x2 x3) (k1_pay608 x0 x1 x2 x3) (k1_pay657 x0 x1 x2 x3)) (k1_pay506 (k1_pay607 x0 x1 x2 x3) (k1_pay608 x0 x1 x2 x3) (k1_pay657 x0 x1 x2 x3)) (k1_pay507 (k1_pay607 x0 x1 x2 x3) (k1_pay608 x0 x1 x2 x3) (k1_pay657 x0 x1 x2 x3)) (k1_pay508 (k1_pay607 x0 x1 x2 x3) (k1_pay608 x0 x1 x2 x3) (k1_pay657 x0 x1 x2 x3)) (k1_pay509 (k1_pay607 x0 x1 x2 x3) (k1_pay608 x0 x1 x2 x3) (k1_pay657 x0 x1 x2 x3)) (k1_pay512 (k1_pay510 (k1_pay607 x0 x1 x2 x3) (k1_pay657 x0 x1 x2 x3)) (k1_pay511 (k1_pay608 x0 x1 x2 x3))) (k1_pay513 (k1_pay607 x0 x1 x2 x3) (k1_pay608 x0 x1 x2 x3) (k1_pay503 (F := F) (k1_pay657 x0 x1 x2 x3))) (k1_pay514 (F := F) (k1_pay658 x0 x1 x2 x3)) (k1_pay515 (k1_pay607 x0 x1 x2 x3) (k1_pay608 x0 x1 x2 x3) (k1_pay658 x0 x1 x2 x3)) (k1_pay516 (k1_pay607 x0 x1 x2 x3) (k1_pay608 x0 x1 x2 x3) (k1_pay658 x0 x1 x2 x3)) (k1_pay517 (k1_pay607 x0 x1 x2 x3) (k1_pay608 x0 x1 x2 x3) (k1_pay658 x0 x1 x2 x3)) (k1_pay518 (k1_pay607 x0 x1 x2 x3) (k1_pay608 x0 x1 x2 x3) (k1_pay658 x0 x1 x2 x3)) (k1_pay519 (k1_pay607 x0 x1 x2 x3) (k1_pay608 x0 x1 x2 x3) (k1_pay658 x0 x1 x2 x3)) (k1_pay520 (k1_pay607 x0 x1 x2 x3)) (k1_pay521 (k1_pay608 x0 x1 x2 x3))) (k1_pay523 (View.ld x0 r1_51)) (k1_pay526 (k1_pay607 x0 x1 x2 x3) (k1_pay608 x0 x1 x2 x3) (View.ld x1 r1_52)) (k1_pay527 (k1_pay607 x0 x1 x2 x3) (k1_pay608 x0 x1 x2 x3) (View.ld x1 r1_52)) (k1_pay531 (k1_pay528 (k1_pay608 x0 x1 x2 x3)) (k1_pay529 (View.ld x1 r1_52)) (k1_pay530 (k1_pay607 x0 x1 x2 x3))) (k1_pay532 (k1_pay607 x0 x1 x2 x3) (k1_pay608 x0 x1 x2 x3) (k1_pay660 x0 x1 x2 x3)) (k1_pay533 (k1_pay607 x0 x1 x2 x3) (k1_pay608 x0 x1 x2 x3) (k1_pay660 x0 x1 x2 x3)) (k1_pay534 (k1_pay607 x0 x1 x2 x3) (k1_pay608 x0 x1 x2 x3) (k1_pay660 x0 x1 x2 x3)) (k1_pay535 (k1_pay607 x0 x1 x2 x3) (k1_pay608 x0 x1 x2 x3) (k1_pay660 x0 x1 x2 x3)) (k1_pay536 (k1_pay607 x0 x1 x2 x3) (k1_pay608 x0 x1 x2 x3) (k1_pay660 x0 x1 x2 x3)) (k1_pay537 (F := F) (k1_pay659 x0 x1 x2 x3)) (k1_pay538 (k1_pay607 x0 x1 x2 x3) (k1_pay608 x0 x1 x2 x3) (k1_pay659 x0 x1 x2 x3))) (k1_pay540 (View.ld x0 r1_53)) (k1_pay543 (k1_pay607 x0 x1 x2 x3) (k1_pay608 x0 x1 x2 x3) (View.ld x1 r1_54)) (k1_pay544 (k1_pay607 x0 x1 x2 x3) (k1_pay608 x0 x1 x2 x3) (View.ld x1 r1_54)) (k1_pay545 (k1_pay607 x0 x1 x2 x3) (k1_pay608 x0 x1 x2 x3) (View.ld x1 r1_54)) (k1_pay546 (k1_pay607 x0 x1 x2 x3) (k1_pay608 x0 x1 x2 x3) (View.ld x1 r1_54)) (k1_pay547 (k1_pay607 x0 x1 x2 x3) (k1_pay608 x0 x1 x2 x3) (View.ld x1 r1_54)) (k1_pay550 (k1_pay548 (k1_pay607 x0 x1 x2 x3) (View.ld x1 r1_54)) (k1_pay549 (k1_pay608 x0 x1 x2 x3))) (k1_pay551 (k1_pay607 x0 x1 x2 x3) (k1_pay608 x0 x1 x2 x3) (k1_pay662 x0 x1 x2 x3)) (k1_pay552 (k1_pay607 x0 x1 x2 x3) (k1_pay608 x0 x1 x2 x3) (k1_pay662 x0 x1 x2 x3)) (k1_pay553 (F := F) (k1_pay661 x0 x1 x2 x3)) (k1_pay554 (k1_pay607 x0 x1 x2 x3) (k1_pay608 x0 x1 x2 x3) (k1_pay661 x0 x1 x2 x3)) (k1_pay555 (k1_pay607 x0 x1 x2 x3) (k1_pay608 x0 x1 x2 x3) (k1_pay661 x0 x1 x2 x3)) (k1_pay556 (k1_pay607 x0 x1 x2 x3) (k1_pay608 x0 x1 x2 x3) (k1_pay661 x0 x1 x2 x3)) (k1_pay557 (k1_pay607 x0 x1 x2 x3) (k1_pay608 x0 x1 x2 x3) (k1_pay661 x0 x1 x2 x3)) (k1_pay558 (k1_pay607 x0 x1 x2 x3)) (k1_pay559 (k1_pay608 x0 x1 x2 x3))) (k1_pay561 (View.ld x0 r1_55)) (k1_pay564 (k1_pay607 x0 x1 x2 x3) (k1_pay608 x0 x1 x2 x3) (View.ld x1 r1_56)) (k1_pay568 (k1_pay565 (k1_pay608 x0 x1 x2 x3)) (k1_pay566 (View.ld x1 r1_56)) (k1_pay567 (k1_pay607 x0 x1 x2 x3))) (k1_pay569 (k1_pay607 x0 x1 x2 x3) (k1_pay608 x0 x1 x2 x3) (k1_pay663 x0 x1 x2 x3)) (k1_pay570 (k1_pay607 x0 x1 x2 x3) (k1_pay608 x0 x1 x2 x3) (k1_pay663 x0 x1 x2 x3)) (k1_pay571 (k1_pay607 x0 x1 x2 x3) (k1_pay608 x0 x1 x2 x3) (k1_pay663 x0 x1 x2 x3)) (k1_pay572 (k1_pay607 x0 x1 x2 x3) (k1_pay608 x0 x1 x2 x3) (k1_pay663 x0 x1 x2 x3)) (k1_pay573 (k1_pay607 x0 x1 x2 x3) (k1_pay608 x0 x1 x2 x3) (k1_pay663 x0 x1 x2 x3)) (k1_pay574 (k1_pay607 x0 x1 x2 x3) (k1_pay608 x0 x1 x2 x3) (k1_pay663 x0 x1 x2 x3)) (k1_pay576 (k1_pay607 x0 x1 x2 x3) (k1_pay608 x0 x1 x2 x3) (k1_pay664 x0 x1 x2 x3)) (k1_pay577 (k1_pay607 x0 x1 x2 x3) (k1_pay608 x0 x1 x2 x3) (k1_pay664 x0 x1 x2 x3)) (k1_pay578 (k1_pay607 x0 x1 x2 x3) (k1_pay608 x0 x1 x2 x3) (k1_pay664 x0 x1 x2 x3)) (k1_pay579 (k1_pay607 x0 x1 x2 x3) (k1_pay608 x0 x1 x2 x3) (k1_pay664 x0 x1 x2 x3)) (k1_pay580 (k1_pay607 x0 x1 x2 x3) (k1_pay608 x0 x1 x2 x3) (k1_pay664 x0 x1 x2 x3)) (k1_pay581 (k1_pay607 x0 x1 x2 x3) (k1_pay608 x0 x1 x2 x3) (k1_pay664 x0 x1 x2 x3)) (k1_pay582 (k1_pay607 x0 x1 x2 x3) (k1_pay608 x0 x1 x2 x3) (k1_pay664 x0 x1 x2 x3)) (k1_pay583 (k1_pay608 x0 x1 x2 x3)) (k1_pay584 (k1_pay664 x0 x1 x2 x3)) (k1_pay585 (k1_pay607 x0 x1 x2 x3))) (k1_pay587 (View.ld x0 r1_57)) (k1_pay590 (k1_pay607 x0 x1 x2 x3) (k1_pay608 x0 x1 x2 x3) (View.ld x1 r1_58)) (k1_pay591 (k1_pay607 x0 x1 x2 x3) (k1_pay608 x0 x1 x2 x3) (View.ld x1 r1_58)) (k1_pay592 (k1_pay607 x0 x1 x2 x3) (k1_pay608 x0 x1 x2 x3) (View.ld x1 r1_58)) (k1_pay593 (k1_pay607 x0 x1 x2 x3) (k1_pay608 x0 x1 x2 x3) (View.ld x1 r1_58)) (k1_pay596 (k1_pay594 (k1_pay607 x0 x1 x2 x3) (View.ld x1 r1_58)) (k1_pay595 (k1_pay608 x0 x1 x2 x3))) (k1_pay597 (k1_pay607 x0 x1 x2 x3) (k1_pay608 x0 x1 x2 x3) (k1_pay666 x0 x1 x2 x3)) (k1_pay598 (k1_pay607 x0 x1 x2 x3) (k1_pay608 x0 x1 x2 x3) (k1_pay666 x0 x1 x2 x3)) (k1_pay599 (k1_pay607 x0 x1 x2 x3) (k1_pay608 x0 x1 x2 x3) (k1_pay666 x0 x1 x2 x3)) (k1_pay600 (F := F) (k1_pay665 x0 x1 x2 x3)) (k1_pay601 (k1_pay607 x0 x1 x2 x3) (k1_pay608 x0 x1 x2 x3) (k1_pay665 x0 x1 x2 x3)) (k1_pay602 (k1_pay607 x0 x1 x2 x3) (k1_pay608 x0 x1 x2 x3) (k1_pay665 x0 x1 x2 x3)) (k1_pay603 (k1_pay607 x0 x1 x2 x3) (k1_pay608 x0 x1 x2 x3) (k1_pay665 x0 x1 x2 x3)) (k1_pay604 (k1_pay607 x0 x1 x2 x3)) (k1_pay605 (k1_pay608 x0 x1 x2 x3))⟩]

/-- Its stores tile the buffer (checked by evaluation), so they cover it. -/
theorem cover1_4 (p0 : Vec F S96x512 .bf16) (y : S96x512.Idx) :
    ∃ pc ∈ ([⟨r1_59, p0⟩] : List (View.Piece (Elt F) S96x512 .bf16)), y ∈ pc.1.set :=
  View.cover_of_tiled [⟨r1_59, p0⟩] S96x512.size (by rfl) y

/-! ## The body's triple -/

set_option maxHeartbeats 2049200 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S96x7424 .bf16) (harg1 : arg1.IsWhole) (arg2 : Memref sig .tc .vmem S512x3712 .i8) (harg2 : arg2.IsWhole) (arg3 : Memref sig .tc .vmem S232x512 .f16) (harg3 : arg3.IsWhole) (arg4 : Memref sig .tc .vmem S232x512 .f16) (harg4 : arg4.IsWhole) (arg5 : Memref sig .tc .vmem S96x512 .bf16) (harg5 : arg5.IsWhole)
    (x0 : Vec F S96x7424 .bf16) (x1 : Vec F S512x3712 .i8) (x2 : Vec F S232x512 .f16) (x3 : Vec F S232x512 .f16) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1_q4_down i arg1 harg1 arg2 harg2 arg3 harg3 arg4 harg4 arg5 harg5) K := by
  simp only [cc1_q4_down_eq_skeleton]; unfold cc1_q4_down_skel
  simp only [k1_part75_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part76_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover1_4 _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (Lib/Pipeline.lean `BodyObligation`'s precondition, the windows one by one), -/
def bodyPre1 (c : Dev nD) (t : Fin cfg1.N) : sProp (MT nD τ sig Unit (Elt F) ℕ (UR sig nD τ) ℕ) :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp (MT nD τ sig Unit (Elt F) ℕ (UR sig nD τ) ℕ) :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.RunKernelIdeal

end
-- ==== Proof.RunKernelIdeal.Whole.lean ====
/- The two calls in order, among the host operations: the run from the launch to the return. -/
module

public import proofs.«01_k».proof.Proof.RunKernelIdeal.Up
public import proofs.«01_k».proof.Proof.RunKernelIdeal.Down
public import Idealize.ShloMosaic.Lib.Pipeline.RegionsLoop
public import Idealize.ShloMosaic.Lib.Pipeline.FrameSuffix

@[expose] public section

-- membership in a rectangle of long axes recurses once per coordinate
set_option maxRecDepth 16384

noncomputable section

namespace Cert.RunKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2, main_v3]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)
theorem W4_main_arg7 (c : Dev nD) : W4 m ρ c (Proc.devRef .tc main_arg7) = m ((c : Thread nD τ).loc main_arg7) :=
  W4_args m ρ c main_arg7 (by decide)
theorem W4_main_arg8 (c : Dev nD) : W4 m ρ c (Proc.devRef .tc main_arg8) = m ((c : Thread nD τ).loc main_arg8) :=
  W4_args m ρ c main_arg8 (by decide)
theorem W4_main_arg9 (c : Dev nD) : W4 m ρ c (Proc.devRef .tc main_arg9) = m ((c : Thread nD τ).loc main_arg9) :=
  W4_args m ρ c main_arg9 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp (MT nD τ sig Unit (Elt F) ℕ (UR sig nD τ) ℕ) := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp (MT nD τ sig Unit (Elt F) ℕ (UR sig nD τ) ℕ) := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    refine Idealize.SL.BI.BIBase.Entails.trans ?_ (hin0 (V1 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V1 m ρ) c).Φ (Fin.last cfg0.N) from rfl]
    refine Idealize.SL.BI.BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run of the two calls: every buffer ends at `W4`, every semaphore counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The frame: the arguments end as launched, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c),
       (h.1 c _ (mem_uc main_arg4 (by decide))).trans (W4_main_arg4 m ρ c),
       (h.1 c _ (mem_uc main_arg5 (by decide))).trans (W4_main_arg5 m ρ c),
       (h.1 c _ (mem_uc main_arg6 (by decide))).trans (W4_main_arg6 m ρ c),
       (h.1 c _ (mem_uc main_arg7 (by decide))).trans (W4_main_arg7 m ρ c),
       (h.1 c _ (mem_uc main_arg8 (by decide))).trans (W4_main_arg8 m ρ c),
       (h.1 c _ (mem_uc main_arg9 (by decide))).trans (W4_main_arg9 m ρ c)⟩, h.2⟩) (run m ρ)

end Cert.RunKernelIdeal

end
-- ==== Proof.Chunk.lean ====
/- The pieces both products of the MLP are computed from, as functions: the packed bytes of one chunk of 128 columns read as
   words, the sixteen-row pieces of a weight block (code times scale plus minimum), the 256-row weight block of a chunk, and
   the running sum over the chunks. Each is written with the same operations as the programs, so that a program's printed
   values unfold to it. -/
module

public import Idealize.ShloMosaic.PureOps
public import Idealize.ShloMosaic.Lib.MatmulPlain
public import Idealize.ShloMosaic.Lib.ValueIdx
public import Idealize.ShloMosaic.Lib.Pipeline.Value

@[expose] public section

noncomputable section

namespace Cert.Q4

open Idealize.ShloMosaic Idealize.ShloMosaic.ValueIdx

/-- The shape of a matrix. -/
abbrev Mat (a b : Nat) : Shape := ⟨2, ![a, b]⟩

variable {F : FTy → Type} [FloatOps F] {M N G K : Nat}

theorem turns (a b : Nat) : (Mat a b).Transposes [1, 0] (Mat b a) :=
  ⟨List.Perm.swap 0 1 [], rfl, fun i => match i with | ⟨0, _⟩ => rfl | ⟨1, _⟩ => rfl⟩

theorem packs (n : Nat) : (Mat 128 n).Bitcasts 8 (Mat 32 n) 32 := by
  refine ⟨rfl, fun _ => Nat.le_refl 2, fun i => ?_⟩
  match i with
  | ⟨0, _⟩ => exact (if_pos (rfl : 0 + 2 = 2)).mpr (by show 128 * 8 = 32 * 32; norm_num)
  | ⟨1, _⟩ => exact (if_neg (by decide : ¬ 1 + 2 = 2)).mpr (by show n = n; rfl)

theorem unpacks (n : Nat) : (Mat 32 n).Bitcasts 32 (Mat 128 n) 8 := by
  refine ⟨rfl, fun _ => Nat.le_refl 2, fun i => ?_⟩
  match i with
  | ⟨0, _⟩ => exact (if_pos (rfl : 0 + 2 = 2)).mpr (by show 32 * 32 = 128 * 8; norm_num)
  | ⟨1, _⟩ => exact (if_neg (by decide : ¬ 1 + 2 = 2)).mpr (by show n = n; rfl)

theorem slices {g n k o : Nat} (h : o + k ≤ g) : (Mat g n).Slices ![o, 0] (Mat k n) :=
  ⟨rfl, fun i => match i with | ⟨0, _⟩ => h | ⟨1, _⟩ => (Nat.zero_add n).le⟩

theorem stretches (n : Nat) : (Mat 1 n).Broadcasts (Mat 16 n) :=
  ⟨Nat.le_refl 2, fun i => match i with | ⟨0, _⟩ => .inl rfl | ⟨1, _⟩ => .inr fun _ => rfl⟩

/-- The bytes of a chunk, one column per output, four to a word. -/
def words (q : IVec (Mat N 128) 8) : IVec (Mat 32 N) 32 :=
  bitcast (Mat 32 N) 32 (transpose (Mat 128 N) [1, 0] q (turns N 128)) (packs N)

/-- The low four bits of each byte of the words, read as an 8-bit float. -/
def lowCodes (w : IVec (Mat 32 N) 32) : FVec F (Mat 128 N) .f32 :=
  extf .f32 (bitcastToFloat .fp8e4m3
    (bitcast (Mat 128 N) 8 (andi w (broadcast (Mat 32 N) 252645135#32)) (unpacks N))) (by decide)

/-- The high four bits of each byte. -/
def highCodes (w : IVec (Mat 32 N) 32) : FVec F (Mat 128 N) .f32 :=
  lowCodes (shrui w (broadcast (Mat 32 N) 4#32))

/-- Sixteen rows of a weight block, from row `o` of the codes and row `r` of the scales and minima. -/
def piece (s m : FVec F (Mat G N) .f32) (code : FVec F (Mat 128 N) .f32) (r o : Nat) (hr : r + 1 ≤ G) (ho : o + 16 ≤ 128) :
    FVec F (Mat 16 N) .bf16 :=
  truncf .bf16
    (addf
      (mulf (extractStridedSlice (Mat 16 N) ![o, 0] code (slices ho))
        (broadcastTo (Mat 16 N) (extractStridedSlice (Mat 1 N) ![r, 0] s (slices hr)) (stretches N)))
      (broadcastTo (Mat 16 N) (extractStridedSlice (Mat 1 N) ![r, 0] m (slices hr)) (stretches N)))
    (by decide)

/-- The sixteen pieces of a chunk's weight block: eight groups' low codes, then the same groups' high codes. -/
def pieces (s m : FVec F (Mat G N) .f32) (q : IVec (Mat N 128) 8) (g : Nat) (hg : g + 8 ≤ G) :
    List ((s : Shape) × (s.Idx → F .bf16)) :=
  [⟨Mat 16 N, piece s m (lowCodes (words q)) (g + 0) 0 (by omega) (by omega)⟩,
   ⟨Mat 16 N, piece s m (lowCodes (words q)) (g + 1) 16 (by omega) (by omega)⟩,
   ⟨Mat 16 N, piece s m (lowCodes (words q)) (g + 2) 32 (by omega) (by omega)⟩,
   ⟨Mat 16 N, piece s m (lowCodes (words q)) (g + 3) 48 (by omega) (by omega)⟩,
   ⟨Mat 16 N, piece s m (lowCodes (words q)) (g + 4) 64 (by omega) (by omega)⟩,
   ⟨Mat 16 N, piece s m (lowCodes (words q)) (g + 5) 80 (by omega) (by omega)⟩,
   ⟨Mat 16 N, piece s m (lowCodes (words q)) (g + 6) 96 (by omega) (by omega)⟩,
   ⟨Mat 16 N, piece s m (lowCodes (words q)) (g + 7) 112 (by omega) (by omega)⟩,
   ⟨Mat 16 N, piece s m (highCodes (words q)) (g + 0) 0 (by omega) (by omega)⟩,
   ⟨Mat 16 N, piece s m (highCodes (words q)) (g + 1) 16 (by omega) (by omega)⟩,
   ⟨Mat 16 N, piece s m (highCodes (words q)) (g + 2) 32 (by omega) (by omega)⟩,
   ⟨Mat 16 N, piece s m (highCodes (words q)) (g + 3) 48 (by omega) (by omega)⟩,
   ⟨Mat 16 N, piece s m (highCodes (words q)) (g + 4) 64 (by omega) (by omega)⟩,
   ⟨Mat 16 N, piece s m (highCodes (words q)) (g + 5) 80 (by omega) (by omega)⟩,
   ⟨Mat 16 N, piece s m (highCodes (words q)) (g + 6) 96 (by omega) (by omega)⟩,
   ⟨Mat 16 N, piece s m (highCodes (words q)) (g + 7) 112 (by omega) (by omega)⟩]

theorem piecesShapes (s m : FVec F (Mat G N) .f32) (q : IVec (Mat N 128) 8) (g : Nat) (hg : g + 8 ≤ G) :
    (pieces s m q g hg).map (·.1) = List.replicate 16 (Mat 16 N) := rfl

theorem stacked (n : Nat) : Shape.Concatenates (List.replicate 16 (Mat 16 n)) (Mat 256 n) 0 := by
  refine ⟨by simp, ?_, ?_⟩
  · intro s hs
    obtain rfl := List.eq_of_mem_replicate hs
    refine ⟨rfl, fun b hb => ?_⟩
    match b with
    | ⟨0, _⟩ => exact absurd rfl hb
    | ⟨1, _⟩ => rfl
  · simp

/-- The weight block of a chunk: 256 rows, row `16 p + i` row `i` of piece `p`. -/
def block (s m : FVec F (Mat G N) .f32) (q : IVec (Mat N 128) 8) (g : Nat) (hg : g + 8 ≤ G) : FVec F (Mat 256 N) .bf16 :=
  concatenate (Mat 256 N) 0 (pieces s m q g hg) (piecesShapes s m q g hg ▸ stacked N)

/-- The part of the activations that a chunk multiplies. -/
def acts (a : (Mat M K).Idx → F .bf16) (o : Nat) (ho : ∀ i, (![0, o] : Fin 2 → Nat) i + (Mat M 256).size i ≤ (Mat M K).size i) :
    FVec F (Mat M 256) .bf16 :=
  fun x => a ((Rect.unit (s := Mat M K) ![0, o] (Mat M 256).size ho).idx x)

/-- The bytes that a chunk reads. -/
def bytes (q : IVec (Mat N K) 8) (o : Nat) (ho : ∀ i, (![0, o] : Fin 2 → Nat) i + (Mat N 128).size i ≤ (Mat N K).size i) :
    IVec (Mat N 128) 8 :=
  fun x => q ((Rect.unit (s := Mat N K) ![0, o] (Mat N 128).size ho).idx x)

/-- One chunk added to the running sum. -/
def step (acc : FVec F (Mat M N) .f32) (a : FVec F (Mat M 256) .bf16) (w : FVec F (Mat 256 N) .bf16) : FVec F (Mat M N) .f32 :=
  addf acc (matmul (DotDims.plain M 256 N) none a w (constant (Mat M N) .f32 0x00000000#32))

theorem inside {a b k o : Nat} (h : o + k ≤ b) : ∀ i, (![0, o] : Fin 2 → Nat) i + (Mat a k).size i ≤ (Mat a b).size i :=
  fun i => match i with | ⟨0, _⟩ => (Nat.zero_add a).le | ⟨1, _⟩ => h

/-- The running sum after the first `n` chunks. -/
def total (a : (Mat M (256 * K)).Idx → F .bf16) (q : IVec (Mat N (128 * K)) 8) (s m : FVec F (Mat (8 * K) N) .f32) :
    (n : Nat) → n ≤ K → FVec F (Mat M N) .f32
  | 0, _ => broadcast (Mat M N) (Scalar.ofBits .f32 0x00000000#32)
  | n + 1, h => step (total a q s m n (Nat.le_of_succ_le h)) (acts a (256 * n) (inside (by omega)))
      (block s m (bytes q (128 * n) (inside (by omega))) (8 * n) (by omega))

/-- Stored scales: widened and multiplied by 512. -/
def scales (s : FVec F (Mat G N) .f16) : FVec F (Mat G N) .f32 :=
  mulf (extf .f32 s (by decide)) (broadcast (Mat G N) (Scalar.ofBits .f32 0x44000000#32))

/-- Stored minima: widened. -/
def minima (m : FVec F (Mat G N) .f16) : FVec F (Mat G N) .f32 := extf .f32 m (by decide)

end Cert.Q4

end
-- ==== Proof.Reading.lean ====
/- The pieces of `Proof/Chunk.lean` read over the extended reals. The four bits of a code, read as an 8-bit float, are the code
   divided by 512; multiplied by the scale times 512 this is the code times the scale. A weight block is read row by row,
   and the running sum over the chunks becomes one sum over the byte columns: the low code of a byte column against its
   activation, plus the high code against its own. -/
module

public import proofs.«01_k».proof.Proof.Chunk
public import Idealize.ShloMosaic.Lib.BitcastFour
public import Idealize.ShloMosaic.Lib.ValueLayout
public import Mathlib.Tactic.IntervalCases

@[expose] public section

noncomputable section

namespace Cert.Q4

open Idealize.ShloMosaic Idealize.ShloMosaic.ValueIdx
open scoped BigOperators

variable {M N G K : Nat}

/-! ## Bits -/

/-- The low four bits of a byte. -/
def lo (b : BitVec 8) : Nat := b.toNat % 16
/-- The high four bits of a byte. -/
def hi (b : BitVec 8) : Nat := b.toNat / 16

theorem lo_lt (b : BitVec 8) : lo b < 16 := Nat.mod_lt _ (by decide)
theorem hi_lt (b : BitVec 8) : hi b < 16 := by have := b.isLt; unfold hi; omega

theorem mask_bit (i : Nat) (hi : i < 32) : (252645135#32 : BitVec 32).getLsbD i = decide (i % 8 < 4) := by
  interval_cases i <;> rfl

theorem nibble_bit (i : Nat) (hi : i < 8) : (15#8 : BitVec 8).getLsbD i = decide (i < 4) := by
  interval_cases i <;> rfl

theorem bytes_of_words (x : IVec (Mat 32 N) 32) (k : Fin 128) (j : Fin N) (b : Nat) (hb : b < 8) :
    (bitcast (Mat 128 N) 8 x (unpacks N) (ix2 k j)).getLsbD b
      = (x (ix2 ⟨k.val / 4, by omega⟩ j)).getLsbD (8 * (k.val % 4) + b) := by
  rw [bitcast_getLsbD x (unpacks N) (ix2 k j) b hb (by decide)]
  have hrow : (Mat 128 N).row (ix2 k j) = k.val := rfl
  have e1 : ((Mat 128 N).row (ix2 k j) * 8 + b) / 32 = k.val / 4 := by rw [hrow]; omega
  have e2 : ((Mat 128 N).row (ix2 k j) * 8 + b) % 32 = 8 * (k.val % 4) + b := by rw [hrow]; omega
  rw [e2]
  congr 2
  funext c
  match c with
  | ⟨0, _⟩ => exact Fin.ext (((unpacks N).srcIdx_row _ _ _ ⟨0, Nat.zero_lt_two⟩ rfl).trans e1)
  | ⟨1, _⟩ => exact Fin.ext ((unpacks N).srcIdx_other _ _ _ ⟨1, Nat.one_lt_two⟩ (by show ¬ 1 + 2 = 2; omega))

theorem words_bit (q : IVec (Mat N 128) 8) (a : Fin 32) (j : Fin N) (t : Nat) (ht : t < 32) (k : Fin 128)
    (hk : k.val = 4 * a.val + t / 8) :
    (words q (ix2 a j)).getLsbD t = (q (ix2 j k)).getLsbD (t % 8) := by
  unfold words
  rw [bitcast_8_32_getLsbD_ix2 _ (packs N) a j t ht k hk, transpose_ix2_apply]

theorem lowByte (q : IVec (Mat N 128) 8) (k : Fin 128) (j : Fin N) :
    bitcast (Mat 128 N) 8 (andi (words q) (broadcast (Mat 32 N) 252645135#32)) (unpacks N) (ix2 k j)
      = q (ix2 j k) &&& 15#8 := by
  apply BitVec.eq_of_getLsbD_eq
  intro b hb
  rw [bytes_of_words _ k j b hb]
  show (words q (ix2 ⟨k.val / 4, _⟩ j) &&& 252645135#32).getLsbD _ = _
  rw [BitVec.getLsbD_and, BitVec.getLsbD_and, mask_bit _ (by omega), nibble_bit b hb,
    words_bit q _ j _ (by omega) k (by show k.val = 4 * (k.val / 4) + _; omega)]
  have e : (8 * (k.val % 4) + b) % 8 = b := by omega
  rw [e]

theorem highByte (q : IVec (Mat N 128) 8) (k : Fin 128) (j : Fin N) :
    bitcast (Mat 128 N) 8 (andi (shrui (words q) (broadcast (Mat 32 N) 4#32)) (broadcast (Mat 32 N) 252645135#32)) (unpacks N)
      (ix2 k j) = q (ix2 j k) >>> 4 := by
  apply BitVec.eq_of_getLsbD_eq
  intro b hb
  rw [bytes_of_words _ k j b hb]
  show (IntOp.shrui .vector (words q (ix2 ⟨k.val / 4, _⟩ j)) 4#32 &&& 252645135#32).getLsbD _ = _
  have hs : ∀ w : BitVec 32, IntOp.shrui .vector w 4#32 = w >>> 4 := fun w => rfl
  rw [hs, BitVec.getLsbD_and, mask_bit _ (by omega), BitVec.getLsbD_ushiftRight, BitVec.getLsbD_ushiftRight]
  have e : (8 * (k.val % 4) + b) % 8 = b := by omega
  rw [e]
  by_cases h : b < 4
  · rw [words_bit q _ j _ (by omega) k (by show k.val = 4 * (k.val / 4) + _; omega)]
    have e' : (4 + (8 * (k.val % 4) + b)) % 8 = 4 + b := by omega
    rw [e']; simp [h]
  · rw [BitVec.getLsbD_of_ge (q (ix2 j k)) (4 + b) (by omega)]; simp [h]

/-! ## Codes as extended reals -/

theorem e4m3_code (n : Nat) (h : n < 16) : Ideal.e4m3fn (BitVec.ofNat 8 n) = (((n : ℝ) / 512 : ℝ) : EReal) := by
  unfold Ideal.e4m3fn
  dsimp only
  interval_cases n <;>
    (rw [if_neg (by decide)]
     first
     | (rw [if_pos (by decide)]; apply congrArg Real.toEReal; norm_num [BitVec.extractLsb', Nat.shiftRight_eq_div_pow, zpow_neg])
     | (rw [if_neg (by decide)]; apply congrArg Real.toEReal; norm_num [BitVec.extractLsb', Nat.shiftRight_eq_div_pow, zpow_neg]))

theorem and_lo (b : BitVec 8) : b &&& 15#8 = BitVec.ofNat 8 (lo b) := by
  apply BitVec.eq_of_toNat_eq
  rw [BitVec.toNat_and, BitVec.toNat_ofNat, BitVec.toNat_ofNat, Nat.mod_eq_of_lt (lt_trans (lo_lt b) (by decide))]
  exact Nat.and_two_pow_sub_one_eq_mod b.toNat 4

theorem shift_hi (b : BitVec 8) : b >>> 4 = BitVec.ofNat 8 (hi b) := by
  apply BitVec.eq_of_toNat_eq
  rw [BitVec.toNat_ushiftRight, BitVec.toNat_ofNat, Nat.mod_eq_of_lt (lt_trans (hi_lt b) (by decide)), Nat.shiftRight_eq_div_pow]
  rfl

theorem lowCodes_apply (q : IVec (Mat N 128) 8) (k : Fin 128) (j : Fin N) :
    lowCodes (F := Ideal) (words q) (ix2 k j) = (((lo (q (ix2 j k)) : ℝ) / 512 : ℝ) : EReal) := by
  rw [← e4m3_code _ (lo_lt _), ← and_lo, ← lowByte]; rfl

theorem highCodes_apply (q : IVec (Mat N 128) 8) (k : Fin 128) (j : Fin N) :
    highCodes (F := Ideal) (words q) (ix2 k j) = (((hi (q (ix2 j k)) : ℝ) / 512 : ℝ) : EReal) := by
  rw [← e4m3_code _ (hi_lt _), ← shift_hi, ← highByte]; rfl

/-- A weight: code times scale plus minimum. -/
def wt (n : Nat) (s m : EReal) : EReal := ((n : ℝ) : EReal) * s + m

theorem f32_512 : Ideal.ofBits .f32 0x44000000#32 = ((512 : ℝ) : EReal) := by
  show Ideal.ieee 8 23 0x44000000#32 = _
  unfold Ideal.ieee
  dsimp only
  rw [if_neg (by decide), if_neg (by decide)]
  apply congrArg Real.toEReal
  norm_num [BitVec.extractLsb', Nat.shiftRight_eq_div_pow]

theorem f32_zero : Ideal.ofBits .f32 0x00000000#32 = (0 : EReal) := by
  simp [Ideal.ofBits, Ideal.ieee, BitVec.extractLsb']

theorem wt_of_scaled (n : Nat) (s m : EReal) : (((n : ℝ) / 512 : ℝ) : EReal) * (s * ((512 : ℝ) : EReal)) + m = wt n s m := by
  unfold wt
  rw [mul_comm s, ← mul_assoc, ← EReal.coe_mul, div_mul_cancel₀ _ (by norm_num : (512 : ℝ) ≠ 0)]

/-! ## Weight blocks -/

theorem piece_apply (s m : FVec Ideal (Mat G N) .f32) (code : FVec Ideal (Mat 128 N) .f32) (r o : Nat) (hr : r + 1 ≤ G)
    (ho : o + 16 ≤ 128) (i : Fin 16) (j : Fin N) :
    piece s m code r o hr ho (ix2 i j)
      = code (ix2 ⟨o + i.val, by omega⟩ j) * s (ix2 ⟨r, hr⟩ j) + m (ix2 ⟨r, hr⟩ j) := by
  have hb (x : FVec Ideal (Mat 1 N) .f32) : broadcastTo (Mat 16 N) x (stretches N) (ix2 i j) = x (ix2 0 j) := by
    unfold broadcastTo
    congr 1
    funext a
    match a with
    | ⟨0, _⟩ => rfl
    | ⟨1, _⟩ =>
      apply Fin.ext
      by_cases h : N = 1
      · rw [dif_pos (by exact h)]; have := j.isLt; show 0 = j.val; omega
      · rw [dif_neg (by exact h)]; rfl
  unfold piece
  rw [truncf_apply, addf_apply, mulf_apply, hb, hb,
    slice2_axis0_apply o code (slices ho) i j ⟨o + i.val, by omega⟩ rfl,
    slice2_axis0_apply r s (slices hr) 0 j ⟨r, hr⟩ rfl, slice2_axis0_apply r m (slices hr) 0 j ⟨r, hr⟩ rfl]

/-- The row of a weight block in piece `p`: low codes for `p < 8`, high codes from there on. -/
def pieceAt (s m : FVec Ideal (Mat G N) .f32) (q : IVec (Mat N 128) 8) (g : Nat) (hg : g + 8 ≤ G) (p : Fin 16) :
    (Mat 16 N).Idx → EReal :=
  piece s m (if p.val < 8 then lowCodes (words q) else highCodes (words q)) (g + p.val % 8) (16 * (p.val % 8)) (by omega) (by omega)

theorem pieces_eq (s m : FVec Ideal (Mat G N) .f32) (q : IVec (Mat N 128) 8) (g : Nat) (hg : g + 8 ≤ G) :
    pieces s m q g hg = List.ofFn fun p : Fin 16 => ⟨Mat 16 N, pieceAt s m q g hg p⟩ := by
  simp only [List.ofFn_succ, List.ofFn_zero]
  rfl

theorem block_apply (s m : FVec Ideal (Mat G N) .f32) (q : IVec (Mat N 128) 8) (g : Nat) (hg : g + 8 ≤ G) (r : Fin 256)
    (j : Fin N) :
    block s m q g hg (ix2 r j) = pieceAt s m q g hg ⟨r.val / 16, by omega⟩ (ix2 ⟨r.val % 16, by omega⟩ j) := by
  unfold block
  have h := concatenate_ofFn_apply (t := Mat 256 N) (s₁ := Mat 16 N) 0 (pieceAt s m q g hg)
    (by rw [← pieces_eq]; exact piecesShapes s m q g hg ▸ stacked N) rfl 16 rfl (ix2 r j) ⟨r.val / 16, by omega⟩ rfl
    (ix2 ⟨r.val % 16, by omega⟩ j) rfl (fun b hb => by
      match b with
      | ⟨0, _⟩ => exact absurd rfl hb
      | ⟨1, _⟩ => rfl)
  rw [← h]
  congr 1

theorem block_low (s m : FVec Ideal (Mat G N) .f32) (q : IVec (Mat N 128) 8) (g : Nat) (hg : g + 8 ≤ G) (r : Fin 128)
    (j : Fin N) :
    block s m q g hg (ix2 ⟨r.val, by omega⟩ j)
      = (((lo (q (ix2 j r)) : ℝ) / 512 : ℝ) : EReal) * s (ix2 ⟨g + r.val / 16, by omega⟩ j) + m (ix2 ⟨g + r.val / 16, by omega⟩ j) := by
  rw [block_apply]
  unfold pieceAt
  rw [piece_apply, if_pos (by show r.val / 16 < 8; omega), lowCodes_apply]
  have e1 : (⟨16 * (r.val / 16 % 8) + r.val % 16, by omega⟩ : Fin 128) = r := Fin.ext (by show _ = r.val; simp only; omega)
  have e2 : (⟨g + r.val / 16 % 8, by omega⟩ : Fin G) = ⟨g + r.val / 16, by omega⟩ := Fin.ext (by simp only; omega)
  simp only [e1, e2]

theorem block_high (s m : FVec Ideal (Mat G N) .f32) (q : IVec (Mat N 128) 8) (g : Nat) (hg : g + 8 ≤ G) (r : Fin 128)
    (j : Fin N) :
    block s m q g hg (ix2 ⟨128 + r.val, by omega⟩ j)
      = (((hi (q (ix2 j r)) : ℝ) / 512 : ℝ) : EReal) * s (ix2 ⟨g + r.val / 16, by omega⟩ j) + m (ix2 ⟨g + r.val / 16, by omega⟩ j) := by
  rw [block_apply]
  unfold pieceAt
  rw [piece_apply, if_neg (by show ¬ (128 + r.val) / 16 < 8; omega), highCodes_apply]
  have e1 : (⟨16 * ((128 + r.val) / 16 % 8) + (128 + r.val) % 16, by omega⟩ : Fin 128) = r := Fin.ext (by show _ = r.val; simp only; omega)
  have e2 : (⟨g + (128 + r.val) / 16 % 8, by omega⟩ : Fin G) = ⟨g + r.val / 16, by omega⟩ := Fin.ext (by simp only; omega)
  simp only [e1, e2]

/-! ## The running sum -/

/-- What byte column `k` adds to an output: its low code's weight times that code's activation, plus the same of its high code.
    The activations lie in blocks of 256, the 128 that meet low codes first. -/
def term (a : (Mat M (256 * K)).Idx → EReal) (q : IVec (Mat N (128 * K)) 8) (s m : FVec Ideal (Mat (8 * K) N) .f32)
    (i : Fin M) (j : Fin N) (k : Fin (128 * K)) : EReal :=
  a (ix2 i ⟨256 * (k.val / 128) + k.val % 128, by omega⟩)
      * ((((lo (q (ix2 j k)) : ℝ) / 512 : ℝ) : EReal) * s (ix2 ⟨k.val / 16, by omega⟩ j) + m (ix2 ⟨k.val / 16, by omega⟩ j))
    + a (ix2 i ⟨256 * (k.val / 128) + 128 + k.val % 128, by omega⟩)
      * ((((hi (q (ix2 j k)) : ℝ) / 512 : ℝ) : EReal) * s (ix2 ⟨k.val / 16, by omega⟩ j) + m (ix2 ⟨k.val / 16, by omega⟩ j))

/-- `term` at any number, zero past the last column. -/
def termN (a : (Mat M (256 * K)).Idx → EReal) (q : IVec (Mat N (128 * K)) 8) (s m : FVec Ideal (Mat (8 * K) N) .f32)
    (i : Fin M) (j : Fin N) (k : Nat) : EReal :=
  if h : k < 128 * K then term a q s m i j ⟨k, h⟩ else 0

theorem sum_256 (f : Fin 256 → EReal) :
    ∑ r : Fin 256, f r = ∑ r : Fin 128, (f ⟨r.val, by omega⟩ + f ⟨128 + r.val, by omega⟩) := by
  rw [Finset.sum_add_distrib]
  exact Fin.sum_univ_add (a := 128) (b := 128) f

theorem step_apply (acc : FVec Ideal (Mat M N) .f32) (a : FVec Ideal (Mat M 256) .bf16) (w : FVec Ideal (Mat 256 N) .bf16)
    (i : Fin M) (j : Fin N) :
    step acc a w (ix2 i j) = acc (ix2 i j)
      + ∑ r : Fin 128, (a (ix2 i ⟨r.val, by omega⟩) * w (ix2 ⟨r.val, by omega⟩ j)
          + a (ix2 i ⟨128 + r.val, by omega⟩) * w (ix2 ⟨128 + r.val, by omega⟩ j)) := by
  unfold step
  rw [addf_apply]
  have h := Ideal.matmul_plain_apply none a w (constant (F := Ideal) (Mat M N) .f32 0x00000000#32) i j
  have hz : constant (F := Ideal) (Mat M N) .f32 0x00000000#32 (ix2 i j) = 0 := f32_zero
  rw [hz, zero_add, sum_256] at h
  exact congrArg (acc (ix2 i j) + ·) h

theorem acts_apply (a : (Mat M (256 * K)).Idx → EReal) (o : Nat)
    (ho : ∀ i, (![0, o] : Fin 2 → Nat) i + (Mat M 256).size i ≤ (Mat M (256 * K)).size i) (i : Fin M) (r : Fin 256)
    (k : Fin (256 * K)) (hk : k.val = o + r.val) :
    acts (F := Ideal) a o ho (ix2 i r) = a (ix2 i k) := by
  unfold acts
  congr 1
  funext c
  apply Fin.ext
  match c with
  | ⟨0, _⟩ => show 0 + 1 * i.val = i.val; omega
  | ⟨1, _⟩ => show o + 1 * r.val = k.val; omega

theorem bytes_apply (q : IVec (Mat N (128 * K)) 8) (o : Nat)
    (ho : ∀ i, (![0, o] : Fin 2 → Nat) i + (Mat N 128).size i ≤ (Mat N (128 * K)).size i) (j : Fin N) (r : Fin 128)
    (k : Fin (128 * K)) (hk : k.val = o + r.val) :
    bytes q o ho (ix2 j r) = q (ix2 j k) := by
  unfold bytes
  congr 1
  funext c
  apply Fin.ext
  match c with
  | ⟨0, _⟩ => show 0 + 1 * j.val = j.val; omega
  | ⟨1, _⟩ => show o + 1 * r.val = k.val; omega

theorem total_apply (a : (Mat M (256 * K)).Idx → EReal) (q : IVec (Mat N (128 * K)) 8) (s m : FVec Ideal (Mat (8 * K) N) .f32)
    (i : Fin M) (j : Fin N) (n : Nat) (hn : n ≤ K) :
    total (F := Ideal) a q s m n hn (ix2 i j) = ∑ k ∈ Finset.range (128 * n), termN a q s m i j k := by
  induction n with
  | zero => exact f32_zero
  | succ n ih =>
    show step _ _ _ (ix2 i j) = _
    rw [step_apply, ih (Nat.le_of_succ_le hn), Nat.mul_succ, Finset.sum_range_add, ← Fin.sum_univ_eq_sum_range (fun r => termN a q s m i j (128 * n + r)) 128]
    refine congrArg (_ + ·) (Finset.sum_congr rfl fun r _ => ?_)
    have hk : 128 * n + r.val < 128 * K := by have := r.isLt; omega
    rw [termN, dif_pos hk, term, block_low, block_high,
      acts_apply a _ _ i _ ⟨256 * ((128 * n + r.val) / 128) + (128 * n + r.val) % 128, by omega⟩ (by simp only; omega),
      acts_apply a _ _ i _ ⟨256 * ((128 * n + r.val) / 128) + 128 + (128 * n + r.val) % 128, by omega⟩ (by simp only; omega),
      bytes_apply q _ _ j r ⟨128 * n + r.val, hk⟩ rfl]
    have e : (⟨8 * n + r.val / 16, by omega⟩ : Fin (8 * K)) = ⟨(128 * n + r.val) / 16, by omega⟩ := Fin.ext (by simp only; omega)
    simp only [e]

theorem total_all (a : (Mat M (256 * K)).Idx → EReal) (q : IVec (Mat N (128 * K)) 8) (s m : FVec Ideal (Mat (8 * K) N) .f32)
    (i : Fin M) (j : Fin N) :
    total (F := Ideal) a q s m K (Nat.le_refl K) (ix2 i j) = ∑ k : Fin (128 * K), term a q s m i j k := by
  rw [total_apply, ← Fin.sum_univ_eq_sum_range (fun k => termN a q s m i j k) (128 * K)]
  exact Finset.sum_congr rfl fun k _ => by rw [termN, dif_pos k.isLt]

end Cert.Q4

end
-- ==== Proof.Linear.lean ====
/- The linear layer as its definition writes it: scales and minima spread over the sixteen bytes of a group, the low and the high
   codes widened, the two weight matrices, and a product with each. Read over the extended reals. -/
module

public import proofs.«01_k».proof.Proof.Reading
public import Idealize.ShloMosaic.Lib.ValueIdxCoords

@[expose] public section

noncomputable section

namespace Cert.Q4

open Idealize.ShloMosaic Idealize.ShloMosaic.ValueIdx
open scoped BigOperators

variable {F : FTy → Type} [FloatOps F] {M N G O K' : Nat}

theorem addUnit (o g : Nat) : (Mat o g).ShapeCasts ⟨3, ![o, g, 1]⟩ := by
  simp [Shape.ShapeCasts, Shape.numel, Fin.prod_univ_succ]

theorem merges (o g : Nat) : (⟨3, ![o, g, 16]⟩ : Shape).ShapeCasts (Mat o (16 * g)) := by
  simp [Shape.ShapeCasts, Shape.numel, Fin.prod_univ_succ, Nat.mul_comm]

theorem spreads (o g : Nat) : (⟨3, ![o, g, 1]⟩ : Shape).Broadcasts ⟨3, ![o, g, 16]⟩ :=
  ⟨Nat.le_refl 3, fun i => match i with | ⟨0, _⟩ => .inr fun _ => rfl | ⟨1, _⟩ => .inr fun _ => rfl | ⟨2, _⟩ => .inl rfl⟩

/-- A value per group, repeated for the sixteen bytes of the group. -/
def perByte (s : FVec F (Mat O G) .f16) : FVec F (Mat O (16 * G)) .f32 :=
  shapeCast (Mat O (16 * G))
    (broadcastTo ⟨3, ![O, G, 16]⟩
      (shapeCast ⟨3, ![O, G, 1]⟩ (shapeCast ⟨3, ![O, G, 1]⟩ (extf .f32 s (by decide) : FVec F (Mat O G) .f32) (addUnit O G)) rfl)
      (spreads O G))
    (merges O G)

/-- The low codes. -/
def lows (q : IVec (Mat O K') 8) : IVec (Mat O K') 8 := andi q (broadcast (Mat O K') 15#8)

/-- The high codes. -/
def highs (q : IVec (Mat O K') 8) : IVec (Mat O K') 8 :=
  trunci 8 (shrsi (extui 32 q (by decide)) (broadcast (Mat O K') 4#32)) (by decide)

/-- The weights of the given codes. -/
def weights (c : IVec (Mat O (16 * G)) 8) (s m : FVec F (Mat O G) .f16) : FVec F (Mat O (16 * G)) .bf16 :=
  truncf .bf16 (addf (mulf (uitofp .f32 c) (perByte s)) (perByte m)) (by decide)

/-- The product of activations with a weight matrix stored one row per output. -/
def times (a : FVec F (Mat M K') .bf16) (w : FVec F (Mat O K') .bf16) : FVec F (Mat M O) .f32 :=
  matmul (DotDims.transposedRhs M K' O) none a w (constant (Mat M O) .f32 0x00000000#32)

/-- The layer: the product with the low codes' weights plus the product with the high codes'. -/
def linear (al ah : FVec F (Mat M (16 * G)) .bf16) (q : IVec (Mat O (16 * G)) 8) (s m : FVec F (Mat O G) .f16) :
    FVec F (Mat M O) .f32 :=
  addf (times al (weights (lows q) s m)) (times ah (weights (highs q) s m))

/-! ## The activations that meet low codes, and those that meet high codes -/

theorem splits (m c h : Nat) : (Mat m (2 * h * c)).ShapeCasts ⟨4, ![m, c, 2, h]⟩ := by
  simp [Shape.ShapeCasts, Shape.numel, Fin.prod_univ_succ, Nat.mul_comm, Nat.mul_left_comm]

theorem takes {m c h o : Nat} (ho : o < 2) : (⟨4, ![m, c, 2, h]⟩ : Shape).Slices ![0, 0, o, 0] ⟨4, ![m, c, 1, h]⟩ :=
  ⟨rfl, fun i => match i with
    | ⟨0, _⟩ => (Nat.zero_add m).le | ⟨1, _⟩ => (Nat.zero_add c).le | ⟨2, _⟩ => ho | ⟨3, _⟩ => (Nat.zero_add h).le⟩

theorem drops (m c h : Nat) : (⟨4, ![m, c, 1, h]⟩ : Shape).ShapeCasts ⟨3, ![m, c, h]⟩ := by
  simp [Shape.ShapeCasts, Shape.numel, Fin.prod_univ_succ]

theorem joins (m c h : Nat) : (⟨3, ![m, c, h]⟩ : Shape).ShapeCasts (Mat m (h * c)) := by
  simp [Shape.ShapeCasts, Shape.numel, Fin.prod_univ_succ, Nat.mul_comm]

/-- Of activations in blocks of `2 h`, the first halves (`o = 0`) or the second halves (`o = 1`), side by side. -/
def half {C H : Nat} (o : Nat) (ho : o < 2) (a : FVec F (Mat M (2 * H * C)) .bf16) : FVec F (Mat M (H * C)) .bf16 :=
  shapeCast (Mat M (H * C))
    (shapeCast ⟨3, ![M, C, H]⟩
      (extractStridedSlice ⟨4, ![M, C, 1, H]⟩ ![0, 0, o, 0] (shapeCast ⟨4, ![M, C, 2, H]⟩ a (splits M C H)) (takes ho))
      (drops M C H))
    (joins M C H)

theorem half_apply {C H : Nat} (hH : 0 < H) (o : Nat) (ho : o < 2) (a : FVec Ideal (Mat M (2 * H * C)) .bf16) (i : Fin M)
    (k : Fin (H * C)) (k' : Fin (2 * H * C)) (hk : k'.val = 2 * H * (k.val / H) + o * H + k.val % H) :
    half o ho a (ix2 i k) = a (ix2 i k') := by
  have hc : k.val / H < C := (Nat.div_lt_iff_lt_mul hH).2 (k.isLt.trans_eq (Nat.mul_comm H C))
  have hm : k.val % H < H := Nat.mod_lt _ hH
  have hdm : H * (k.val / H) + k.val % H = k.val := Nat.div_add_mod k.val H
  unfold half
  rw [shapeCast_apply _ _ _ (ix3 i ⟨k.val / H, hc⟩ ⟨k.val % H, hm⟩) (by
      rw [Shape.rowMajor_val_three, Shape.rowMajor_val_two]
      show (i.val * C + k.val / H) * H + k.val % H = i.val * (H * C) + k.val
      rw [← hdm]
      simp only [Nat.mul_add_div hH, Nat.div_eq_of_lt hm, Nat.mul_add_mod, Nat.mod_eq_of_lt hm]
      ring),
    shapeCast_apply _ _ _ (ix4 i ⟨k.val / H, hc⟩ 0 ⟨k.val % H, hm⟩) (by
      rw [Shape.rowMajor_val_three, Shape.rowMajor_val_four]
      show ((i.val * C + k.val / H) * 1 + 0) * H + k.val % H = (i.val * C + k.val / H) * H + k.val % H
      ring),
    slice4_axis2_apply o _ (takes ho) i ⟨k.val / H, hc⟩ 0 ⟨k.val % H, hm⟩ ⟨o, ho⟩ (by simp),
    shapeCast_apply _ _ _ (ix2 i k') (by
      rw [Shape.rowMajor_val_four, Shape.rowMajor_val_two]
      show i.val * (2 * H * C) + k'.val = ((i.val * C + k.val / H) * 2 + o) * H + k.val % H
      rw [hk]
      ring)]

/-! ## Weights and products -/

theorem perByte_apply (s : FVec Ideal (Mat O G) .f16) (j : Fin O) (k : Fin (16 * G)) :
    perByte s (ix2 j k) = s (ix2 j ⟨k.val / 16, by omega⟩) := by
  unfold perByte
  rw [shapeCast_apply _ _ _ (ix3 j ⟨k.val / 16, by omega⟩ ⟨k.val % 16, by omega⟩) (by
      rw [Shape.rowMajor_val_three, Shape.rowMajor_val_two]
      show (j.val * G + k.val / 16) * 16 + k.val % 16 = j.val * (16 * G) + k.val
      have h : k.val / 16 * 16 + k.val % 16 = k.val := by omega
      rw [Nat.add_mul, Nat.add_assoc, h]
      ring),
    broadcastTo_apply _ _ _ (ix3 j ⟨k.val / 16, by omega⟩ 0) (fun a => by
      match a with
      | ⟨0, _⟩ =>
        show j.val = if O = 1 then 0 else j.val
        split
        · have := j.isLt; omega
        · rfl
      | ⟨1, _⟩ =>
        show k.val / 16 = if G = 1 then 0 else k.val / 16
        split
        · have := k.isLt; omega
        · rfl
      | ⟨2, _⟩ => rfl),
    shapeCast_apply _ _ _ (ix3 j ⟨k.val / 16, by omega⟩ 0) rfl, shapeCast_apply _ _ _ (ix2 j ⟨k.val / 16, by omega⟩) (by
      rw [Shape.rowMajor_val_three, Shape.rowMajor_val_two]
      show j.val * G + k.val / 16 = (j.val * G + k.val / 16) * 1 + 0
      ring)]
  rfl

theorem lows_apply (q : IVec (Mat O K') 8) (i : (Mat O K').Idx) : (((lows q i).toNat : ℝ) : EReal) = ((lo (q i) : ℝ) : EReal) := by
  have h : ∀ b : BitVec 8, (b &&& 15#8).toNat = lo b := by
    unfold lo
    decide
  show ((((q i) &&& 15#8).toNat : ℝ) : EReal) = _
  rw [h]

theorem highs_apply (q : IVec (Mat O K') 8) (i : (Mat O K').Idx) : (((highs q i).toNat : ℝ) : EReal) = ((hi (q i) : ℝ) : EReal) := by
  have h : ∀ b : BitVec 8, ((IntOp.shrsi .vector (b.setWidth 32) 4#32).setWidth 8).toNat = hi b := by
    unfold hi
    decide
  show ((((IntOp.shrsi .vector ((q i).setWidth 32) 4#32).setWidth 8).toNat : ℝ) : EReal) = _
  rw [h]

theorem weights_apply (c : IVec (Mat O (16 * G)) 8) (s m : FVec Ideal (Mat O G) .f16) (j : Fin O) (k : Fin (16 * G)) :
    weights c s m (ix2 j k)
      = (((c (ix2 j k)).toNat : ℝ) : EReal) * s (ix2 j ⟨k.val / 16, by omega⟩) + m (ix2 j ⟨k.val / 16, by omega⟩) := by
  unfold weights
  rw [truncf_apply, addf_apply, mulf_apply, perByte_apply, perByte_apply]
  rfl

theorem times_apply (a : FVec Ideal (Mat M K') .bf16) (w : FVec Ideal (Mat O K') .bf16) (i : Fin M) (j : Fin O) :
    times a w (ix2 i j) = ∑ k : Fin K', a (ix2 i k) * w (ix2 j k) := by
  have h := Ideal.matmul_transposedRhs_apply none a w (constant (F := Ideal) (Mat M O) .f32 0x00000000#32) i j
  have hz : constant (F := Ideal) (Mat M O) .f32 0x00000000#32 (ix2 i j) = 0 := f32_zero
  rw [hz, zero_add] at h
  exact h

theorem linear_apply (al ah : FVec Ideal (Mat M (16 * G)) .bf16) (q : IVec (Mat O (16 * G)) 8) (s m : FVec Ideal (Mat O G) .f16)
    (i : Fin M) (j : Fin O) :
    linear al ah q s m (ix2 i j) = ∑ k : Fin (16 * G),
      (al (ix2 i k) * wt (lo (q (ix2 j k))) (s (ix2 j ⟨k.val / 16, by omega⟩)) (m (ix2 j ⟨k.val / 16, by omega⟩))
        + ah (ix2 i k) * wt (hi (q (ix2 j k))) (s (ix2 j ⟨k.val / 16, by omega⟩)) (m (ix2 j ⟨k.val / 16, by omega⟩))) := by
  unfold linear wt
  rw [addf_apply, times_apply, times_apply, Finset.sum_add_distrib]
  congr 1
  · exact Finset.sum_congr rfl fun k _ => by rw [weights_apply, lows_apply]
  · exact Finset.sum_congr rfl fun k _ => by rw [weights_apply, highs_apply]

end Cert.Q4

end
-- ==== Proof.Layer.lean ====
/- A linear layer entry by entry, over the extended reals, and the gated network made of three such layers. The reference's text of a
   layer is the layer, and so is the block product of the kernel over activations in nibble order. -/
module

public import proofs.«01_k».proof.Proof.Linear

@[expose] public section

noncomputable section

namespace Cert.Q4

open Idealize.ShloMosaic Idealize.ShloMosaic.ValueIdx
open scoped BigOperators

variable {M N O K : Nat}

/-- Where column `b` of a block of 256 in nibble order comes from: of each group of 32 the first halves come first, then the
    second halves. -/
def nib (b : Fin 256) : Fin 256 := ⟨32 * (b.val % 128 / 16) + 16 * (b.val / 128) + b.val % 16, by omega⟩

/-- The column that column `k` of a matrix with all its blocks in nibble order comes from. -/
def nibAll {n : Nat} (k : Fin (256 * n)) : Fin (256 * n) :=
  ⟨256 * (k.val / 256) + (nib ⟨k.val % 256, by omega⟩).val, by
    have h := (nib ⟨k.val % 256, by omega⟩).isLt
    omega⟩

/-- Entry `(i, j)` of the layer: byte `k` of row `j` carries, in its low and its high four bits, the codes of two columns sixteen
    apart in the group `k / 16` of 32 columns. -/
def layer (a : (Mat M (256 * K)).Idx → EReal) (q : IVec (Mat O (128 * K)) 8) (s m : (Mat O (8 * K)).Idx → EReal) (i : Fin M) (j : Fin O) :
    EReal :=
  ∑ k : Fin (128 * K),
    (a (ix2 i ⟨32 * (k.val / 16) + k.val % 16, by omega⟩)
        * wt (lo (q (ix2 j k))) (s (ix2 j ⟨k.val / 16, by omega⟩)) (m (ix2 j ⟨k.val / 16, by omega⟩))
      + a (ix2 i ⟨32 * (k.val / 16) + 16 + k.val % 16, by omega⟩)
        * wt (hi (q (ix2 j k))) (s (ix2 j ⟨k.val / 16, by omega⟩)) (m (ix2 j ⟨k.val / 16, by omega⟩)))

/-- The block product over activations `ap` that hold the columns of `a` in nibble order. -/
theorem total_layer (ap a : (Mat M (256 * K)).Idx → EReal) (hap : ∀ (i : Fin M) (k : Fin (256 * K)), ap (ix2 i k) = a (ix2 i (nibAll k)))
    (b : IVec (Mat N (128 * K)) 8) (sT mT : FVec Ideal (Mat (8 * K) N) .f32) (q : IVec (Mat O (128 * K)) 8)
    (s m : (Mat O (8 * K)).Idx → EReal) (i : Fin M) (j : Fin N) (j' : Fin O)
    (h1 : ∀ k : Fin (128 * K), b (ix2 j k) = q (ix2 j' k))
    (h2 : ∀ g : Fin (8 * K), sT (ix2 g j) = s (ix2 j' g) * ((512 : ℝ) : EReal))
    (h3 : ∀ g : Fin (8 * K), mT (ix2 g j) = m (ix2 j' g)) :
    total (F := Ideal) ap b sT mT K (Nat.le_refl K) (ix2 i j) = layer a q s m i j' := by
  rw [total_all]
  refine Finset.sum_congr rfl fun k _ => ?_
  have el : nibAll (⟨256 * (k.val / 128) + k.val % 128, by omega⟩ : Fin (256 * K))
      = ⟨32 * (k.val / 16) + k.val % 16, by omega⟩ := by
    apply Fin.ext
    simp only [nibAll, nib]
    omega
  have eh : nibAll (⟨256 * (k.val / 128) + 128 + k.val % 128, by omega⟩ : Fin (256 * K))
      = ⟨32 * (k.val / 16) + 16 + k.val % 16, by omega⟩ := by
    apply Fin.ext
    simp only [nibAll, nib]
    omega
  unfold term
  rw [h2, h3, wt_of_scaled, wt_of_scaled, h1, hap, hap, el, eh]

/-- The gate over two arrays of products: `silu(g) * u`. -/
def gated {F : FTy → Type} [FloatOps F] {s : Shape} (g u : FVec F s .f32) : FVec F s .bf16 :=
  truncf .bf16 (mulf (mulf g (logistic g)) u) (by decide)

theorem gated_congr {s t : Shape} (g u : FVec Ideal s .f32) (g' u' : FVec Ideal t .f32) (x : s.Idx) (y : t.Idx) (hg : g x = g' y)
    (hu : u x = u' y) : gated g u x = gated g' u' y := by
  show g x * Ideal.logistic (g x) * u x = g' y * Ideal.logistic (g' y) * u' y
  rw [hg, hu]

/-- A layer as an array. -/
def layers (a : (Mat M (256 * K)).Idx → EReal) (q : IVec (Mat O (128 * K)) 8) (s m : (Mat O (8 * K)).Idx → EReal) : (Mat M O).Idx → EReal :=
  fun x => layer a q s m (x 0) (x 1)

/-- The hidden activations. -/
def hidden (x : (Mat 96 8192).Idx → EReal) (gq : IVec (Mat 7424 4096) 8) (gs gm : (Mat 7424 256).Idx → EReal) (uq : IVec (Mat 7424 4096) 8)
    (us um : (Mat 7424 256).Idx → EReal) : (Mat 96 7424).Idx → EReal :=
  gated (F := Ideal) (layers (M := 96) (O := 7424) (K := 32) x gq gs gm) (layers (M := 96) (O := 7424) (K := 32) x uq us um)

/-- The network. -/
def network (x : (Mat 96 8192).Idx → EReal) (gq : IVec (Mat 7424 4096) 8) (gs gm : (Mat 7424 256).Idx → EReal) (uq : IVec (Mat 7424 4096) 8)
    (us um : (Mat 7424 256).Idx → EReal) (dq : IVec (Mat 8192 3712) 8) (ds dm : (Mat 8192 232).Idx → EReal) : (Mat 96 8192).Idx → EReal :=
  layers (M := 96) (O := 8192) (K := 29) (hidden x gq gs gm uq us um) dq ds dm

/-! ## The reference's text of a layer -/

theorem linear_layer32 (a : FVec Ideal (Mat M 8192) .bf16) (q : IVec (Mat O 4096) 8) (s m : FVec Ideal (Mat O 256) .f16) :
    linear (F := Ideal) (M := M) (O := O) (G := 256) (half (C := 256) (H := 16) 0 (by decide) a) (half (C := 256) (H := 16) 1 (by decide) a) q s m
      = layers (M := M) (O := O) (K := 32) a q s m := by
  funext x
  obtain ⟨i, j, rfl⟩ : ∃ i j, x = ix2 i j := ⟨x 0, x 1, eq_ix2 x⟩
  refine (linear_apply (M := M) (O := O) (G := 256) _ _ q s m i j).trans ?_
  show _ = layer _ _ _ _ i j
  unfold layer
  refine Finset.sum_congr rfl fun k _ => ?_
  have hk : k.val < 4096 := k.isLt
  have e0 := half_apply (C := 256) (H := 16) (by decide) 0 (by decide) a i k ⟨32 * (k.val / 16) + k.val % 16, by omega⟩ (by simp)
  have e1 := half_apply (C := 256) (H := 16) (by decide) 1 (by decide) a i k ⟨32 * (k.val / 16) + 16 + k.val % 16, by omega⟩ (by simp)
  exact congrArg₂ (· + ·) (congrArg (· * _) e0) (congrArg (· * _) e1)

theorem linear_layer29 (a : FVec Ideal (Mat M 7424) .bf16) (q : IVec (Mat O 3712) 8) (s m : FVec Ideal (Mat O 232) .f16) :
    linear (F := Ideal) (M := M) (O := O) (G := 232) (half (C := 232) (H := 16) 0 (by decide) a) (half (C := 232) (H := 16) 1 (by decide) a) q s m
      = layers (M := M) (O := O) (K := 29) a q s m := by
  funext x
  obtain ⟨i, j, rfl⟩ : ∃ i j, x = ix2 i j := ⟨x 0, x 1, eq_ix2 x⟩
  refine (linear_apply (M := M) (O := O) (G := 232) _ _ q s m i j).trans ?_
  show _ = layer _ _ _ _ i j
  unfold layer
  refine Finset.sum_congr rfl fun k _ => ?_
  have hk : k.val < 3712 := k.isLt
  have e0 := half_apply (C := 232) (H := 16) (by decide) 0 (by decide) a i k ⟨32 * (k.val / 16) + k.val % 16, by omega⟩ (by simp)
  have e1 := half_apply (C := 232) (H := 16) (by decide) 1 (by decide) a i k ⟨32 * (k.val / 16) + 16 + k.val % 16, by omega⟩ (by simp)
  exact congrArg₂ (· + ·) (congrArg (· * _) e0) (congrArg (· * _) e1)

end Cert.Q4

end
-- ==== Proof.ChunkOf.lean ====
/- The running sum of `Proof/Chunk.lean`, over given readings: of the activations, of the bytes, and of single rows of the scales
   and minima. A program that reads its operands from memory chunk by chunk unfolds to it. -/
module

public import proofs.«01_k».proof.Proof.Chunk

@[expose] public section

noncomputable section

namespace Cert.Q4

open Idealize.ShloMosaic Idealize.ShloMosaic.ValueIdx

variable {F : FTy → Type} [FloatOps F] {M N G K : Nat}

/-- Row `r` of a table of `G` rows, for each `r`. -/
abbrev Rows (F : FTy → Type) (G N : Nat) : Type := (r : Nat) → r + 1 ≤ G → FVec F (Mat 1 N) .f32

/-- The rows of a matrix. -/
def rowsOf (s : FVec F (Mat G N) .f32) : Rows F G N := fun r hr => extractStridedSlice (Mat 1 N) ![r, 0] s (slices hr)

/-- Sixteen rows of a weight block, from row `o` of the codes, for one row of scales and one of minima. -/
def pieceOf (s m : FVec F (Mat 1 N) .f32) (code : FVec F (Mat 128 N) .f32) (o : Nat) (ho : o + 16 ≤ 128) : FVec F (Mat 16 N) .bf16 :=
  truncf .bf16
    (addf (mulf (extractStridedSlice (Mat 16 N) ![o, 0] code (slices ho)) (broadcastTo (Mat 16 N) s (stretches N)))
      (broadcastTo (Mat 16 N) m (stretches N)))
    (by decide)

/-- The sixteen pieces of a chunk's weight block. -/
def piecesOf (s m : Rows F G N) (q : IVec (Mat N 128) 8) (g : Nat) (hg : g + 8 ≤ G) :
    List ((s : Shape) × (s.Idx → F .bf16)) :=
  [⟨Mat 16 N, pieceOf (s (g + 0) (by omega)) (m (g + 0) (by omega)) (lowCodes (words q)) 0 (by omega)⟩,
   ⟨Mat 16 N, pieceOf (s (g + 1) (by omega)) (m (g + 1) (by omega)) (lowCodes (words q)) 16 (by omega)⟩,
   ⟨Mat 16 N, pieceOf (s (g + 2) (by omega)) (m (g + 2) (by omega)) (lowCodes (words q)) 32 (by omega)⟩,
   ⟨Mat 16 N, pieceOf (s (g + 3) (by omega)) (m (g + 3) (by omega)) (lowCodes (words q)) 48 (by omega)⟩,
   ⟨Mat 16 N, pieceOf (s (g + 4) (by omega)) (m (g + 4) (by omega)) (lowCodes (words q)) 64 (by omega)⟩,
   ⟨Mat 16 N, pieceOf (s (g + 5) (by omega)) (m (g + 5) (by omega)) (lowCodes (words q)) 80 (by omega)⟩,
   ⟨Mat 16 N, pieceOf (s (g + 6) (by omega)) (m (g + 6) (by omega)) (lowCodes (words q)) 96 (by omega)⟩,
   ⟨Mat 16 N, pieceOf (s (g + 7) (by omega)) (m (g + 7) (by omega)) (lowCodes (words q)) 112 (by omega)⟩,
   ⟨Mat 16 N, pieceOf (s (g + 0) (by omega)) (m (g + 0) (by omega)) (highCodes (words q)) 0 (by omega)⟩,
   ⟨Mat 16 N, pieceOf (s (g + 1) (by omega)) (m (g + 1) (by omega)) (highCodes (words q)) 16 (by omega)⟩,
   ⟨Mat 16 N, pieceOf (s (g + 2) (by omega)) (m (g + 2) (by omega)) (highCodes (words q)) 32 (by omega)⟩,
   ⟨Mat 16 N, pieceOf (s (g + 3) (by omega)) (m (g + 3) (by omega)) (highCodes (words q)) 48 (by omega)⟩,
   ⟨Mat 16 N, pieceOf (s (g + 4) (by omega)) (m (g + 4) (by omega)) (highCodes (words q)) 64 (by omega)⟩,
   ⟨Mat 16 N, pieceOf (s (g + 5) (by omega)) (m (g + 5) (by omega)) (highCodes (words q)) 80 (by omega)⟩,
   ⟨Mat 16 N, pieceOf (s (g + 6) (by omega)) (m (g + 6) (by omega)) (highCodes (words q)) 96 (by omega)⟩,
   ⟨Mat 16 N, pieceOf (s (g + 7) (by omega)) (m (g + 7) (by omega)) (highCodes (words q)) 112 (by omega)⟩]

theorem piecesOfShapes (s m : Rows F G N) (q : IVec (Mat N 128) 8) (g : Nat) (hg : g + 8 ≤ G) :
    (piecesOf s m q g hg).map (·.1) = List.replicate 16 (Mat 16 N) := rfl

/-- The weight block of a chunk. -/
def blockOf (s m : Rows F G N) (q : IVec (Mat N 128) 8) (g : Nat) (hg : g + 8 ≤ G) : FVec F (Mat 256 N) .bf16 :=
  concatenate (Mat 256 N) 0 (piecesOf s m q g hg) (piecesOfShapes s m q g hg ▸ stacked N)

/-- The running sum after the first `n` chunks. -/
def totalOf (a : (o : Nat) → o + 256 ≤ 256 * K → FVec F (Mat M 256) .bf16) (q : (o : Nat) → o + 128 ≤ 128 * K → IVec (Mat N 128) 8)
    (s m : Rows F (8 * K) N) : (n : Nat) → n ≤ K → FVec F (Mat M N) .f32
  | 0, _ => broadcast (Mat M N) (Scalar.ofBits .f32 0x00000000#32)
  | n + 1, h => step (totalOf a q s m n (Nat.le_of_succ_le h)) (a (256 * n) (by omega))
      (blockOf s m (q (128 * n) (by omega)) (8 * n) (by omega))

/-- Read from whole matrices it is the running sum of those matrices. -/
theorem totalOf_eq (a : (Mat M (256 * K)).Idx → F .bf16) (q : IVec (Mat N (128 * K)) 8) (s m : FVec F (Mat (8 * K) N) .f32) (n : Nat)
    (h : n ≤ K) :
    totalOf (fun o ho => acts a o (inside ho)) (fun o ho => bytes q o (inside ho)) (rowsOf s) (rowsOf m) n h = total a q s m n h := by
  induction n with
  | zero => rfl
  | succ n ih =>
    unfold totalOf total
    rw [ih]
    rfl

end Cert.Q4

end
-- ==== Proof.UpBody.lean ====
/- The body of the first call, as printed, is the running sum of `Proof/Chunk.lean` over its 32 chunks, twice, gated and put in
   nibble order. -/
module

public import proofs.«01_k».proof.Proof.ChunkOf
public import proofs.«01_k».proof.Proof.Layer
public import proofs.«01_k».proof.Proof.RunKernelIdeal.Up
public import Idealize.ShloMosaic.Lib.VecWindow
public import Idealize.ShloMosaic.Lib.WholeRead

@[expose] public section

set_option maxRecDepth 16384

noncomputable section

namespace Cert.Up

open Cert.KernelIdeal Cert.KernelIdeal.Gen Cert.RunKernelIdeal Idealize.ShloMosaic Idealize.ShloMosaic.TcCoe
open Cert.Q4 (gated)

variable {F : FTy → Type} [FloatOps F]

/-- The matrix that puts a block of 256 columns in nibble order. -/
def perm : FVec F S256x256 .bf16 :=
  k0_pay40 kernelRun0_B.sl.r (Scalar.ofBits .f32 0x3F800000#32) (Scalar.ofBits .f32 0x00000000#32)

/-- A block of 256 columns put in nibble order. -/
def ordered (a : FVec F S96x256 .bf16) : FVec F S96x256 .bf16 :=
  truncf .bf16 (matmul dot_S96x256_S256x256_S96x256_1_0_0_1_n_n none a perm (constant S96x256 .f32 0x00000000#32)) bitsLt_bf16_f32

/-- A load of the rectangle at `off` from a buffer whose contents read `x`. -/
abbrev loaded {s : Shape} {e : EltTy} (arg : Memref sig .tc .vmem s e) (h : arg.IsWhole) (x : Vec F s e) (off : Fin s.rank → Nat)
    (size : Fin s.rank → Nat) (inb : ∀ i, off i + size i ≤ s.size i) : (Rect.unit (s := s) off size inb).toLoadRect.shape.Idx → Elt F e :=
  View.readAt (Elt F) arg.view (Rect.unit (s := s) off size inb).toLoadRect (h.unread x)

theorem inRow {r : Nat} (hr : r + 1 ≤ 8 * 32) : ∀ i, (![r, 0] : Fin 2 → Nat) i + S1x256.size i ≤ S256x256.size i :=
  fun i => match i with | ⟨0, _⟩ => hr | ⟨1, _⟩ => Nat.le_refl 256

/-- The rows read back from a buffer after the whole of it was stored. -/
def stored (arg : Memref sig .tc .vmem S256x256 .f32) (w : FVec F S256x256 .f32) : Q4.Rows F (8 * 32) 256 :=
  fun r hr => View.readCov (Val := Elt F) arg.view [⟨Rect.unit ![0, 0] S256x256.size inb_S256x256_S256x256_0_0, w⟩]
    (Rect.unit (s := S256x256) ![r, 0] S1x256.size (inRow hr)).toLoadRect

/-- Scales multiplied by 512, one column per output. -/
def turnedScales (x : Vec F S256x256 .f16) : FVec F S256x256 .f32 :=
  transpose S256x256 [1, 0] (Q4.scales (G := 256) (N := 256) x) transposes_S256x256_p1_0_S256x256

/-- Minima, one column per output. -/
def turnedMinima (x : Vec F S256x256 .f16) : FVec F S256x256 .f32 :=
  transpose S256x256 [1, 0] (Q4.minima (G := 256) (N := 256) x) transposes_S256x256_p1_0_S256x256

/-- One product of the first call, its operands read from buffers. -/
def product (a : (o : Nat) → o + 256 ≤ 256 * 32 → FVec F S96x256 .bf16) (arg2 : Memref sig .tc .vmem S256x4096 .i8) (h2 : arg2.IsWhole)
    (x1 : Vec F S256x4096 .i8)
    (arg3 : Memref sig .tc .vmem S256x256 .f16) (h3 : arg3.IsWhole) (x2 : Vec F S256x256 .f16)
    (arg4 : Memref sig .tc .vmem S256x256 .f16) (h4 : arg4.IsWhole) (x3 : Vec F S256x256 .f16)
    (arg10 arg11 : Memref sig .tc .vmem S256x256 .f32) : FVec F S96x256 .f32 :=
  Q4.totalOf (M := 96) (N := 256) (K := 32) a (fun o ho => loaded arg2 h2 x1 ![0, o] S256x128.size (Q4.inside ho))
    (stored arg10 (shapeCast S256x256 (turnedScales (loaded arg3 h3 x2 ![0, 0] S256x256.size inb_S256x256_S256x256_0_0)) shapeCasts_S256x256_S256x256))
    (stored arg11 (shapeCast S256x256 (turnedMinima (loaded arg4 h4 x3 ![0, 0] S256x256.size inb_S256x256_S256x256_0_0)) shapeCasts_S256x256_S256x256))
    32 (Nat.le_refl 32)

theorem pieces_later  (c : Dev nD) (i : grid0.Coords) (arg1 : Memref sig .tc .vmem S96x8192 .bf16) (harg1 : arg1.IsWhole) (arg2 : Memref sig .tc .vmem S256x4096 .i8) (harg2 : arg2.IsWhole) (arg3 : Memref sig .tc .vmem S256x256 .f16) (harg3 : arg3.IsWhole) (arg4 : Memref sig .tc .vmem S256x256 .f16) (harg4 : arg4.IsWhole) (arg5 : Memref sig .tc .vmem S256x4096 .i8) (harg5 : arg5.IsWhole) (arg6 : Memref sig .tc .vmem S256x256 .f16) (harg6 : arg6.IsWhole) (arg7 : Memref sig .tc .vmem S256x256 .f16) (harg7 : arg7.IsWhole) (arg8 : Memref sig .tc .vmem S96x256 .bf16) (harg8 : arg8.IsWhole) (arg9 : Memref sig .tc .vmem S96x8192 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (hc0 : ¬cond0_0 i)
    (x0 : Vec F S96x8192 .bf16) (x1 : Vec F S256x4096 .i8) (x2 : Vec F S256x256 .f16) (x3 : Vec F S256x256 .f16) (x4 : Vec F S256x4096 .i8) (x5 : Vec F S256x256 .f16) (x6 : Vec F S256x256 .f16) (xs0 : Vec F S96x8192 .bf16) :
    (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).1 = [⟨Rect.unit ![0, 0] ![96, 256] inb_S96x256_S96x256_0_0, ordered (gated
      (product (fun o ho => loaded arg9 harg9 xs0 ![0, o] S96x256.size (Q4.inside ho)) arg2 harg2 x1 arg3 harg3 x2 arg4 harg4 x3 arg10 arg11)
      (product (fun o ho => loaded arg9 harg9 xs0 ![0, o] S96x256.size (Q4.inside ho)) arg5 harg5 x4 arg6 harg6 x5 arg7 harg7 x6 arg12 arg13))⟩] := by
  rfl

/-- What the first point stores into the carried activations, after `n` of its 32 stores: each block of 256 columns in nibble order. -/
def fills (arg1 : Memref sig .tc .vmem S96x8192 .bf16) (h1 : arg1.IsWhole) (x0 : Vec F S96x8192 .bf16) :
    (n : Nat) → n ≤ 32 → List (View.Piece (Elt F) S96x8192 .bf16)
  | 0, _ => []
  | n + 1, h => ⟨Rect.unit ![0, 256 * n] S96x256.size (Q4.inside (a := 96) (b := 8192) (k := 256) (by omega)),
      shapeCast S96x256 (ordered (shapeCast S96x256
        (loaded arg1 h1 x0 ![0, 256 * n] S96x256.size (Q4.inside (a := 96) (b := 8192) (k := 256) (by omega))) shapeCasts_S96x256_S96x256))
        shapeCasts_S96x256_S96x256⟩ :: fills arg1 h1 x0 n (Nat.le_of_succ_le h)

theorem fills_first  (c : Dev nD) (i : grid0.Coords) (arg1 : Memref sig .tc .vmem S96x8192 .bf16) (harg1 : arg1.IsWhole) (arg2 : Memref sig .tc .vmem S256x4096 .i8) (harg2 : arg2.IsWhole) (arg3 : Memref sig .tc .vmem S256x256 .f16) (harg3 : arg3.IsWhole) (arg4 : Memref sig .tc .vmem S256x256 .f16) (harg4 : arg4.IsWhole) (arg5 : Memref sig .tc .vmem S256x4096 .i8) (harg5 : arg5.IsWhole) (arg6 : Memref sig .tc .vmem S256x256 .f16) (harg6 : arg6.IsWhole) (arg7 : Memref sig .tc .vmem S256x256 .f16) (harg7 : arg7.IsWhole) (arg8 : Memref sig .tc .vmem S96x256 .bf16) (harg8 : arg8.IsWhole) (arg9 : Memref sig .tc .vmem S96x8192 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (hc0 : cond0_0 i)
    (x0 : Vec F S96x8192 .bf16) (x1 : Vec F S256x4096 .i8) (x2 : Vec F S256x256 .f16) (x3 : Vec F S256x256 .f16) (x4 : Vec F S256x4096 .i8) (x5 : Vec F S256x256 .f16) (x6 : Vec F S256x256 .f16) :
    (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).2.1 = fills arg1 harg1 x0 32 (Nat.le_refl 32) := by
  rfl

theorem pieces_first  (c : Dev nD) (i : grid0.Coords) (arg1 : Memref sig .tc .vmem S96x8192 .bf16) (harg1 : arg1.IsWhole) (arg2 : Memref sig .tc .vmem S256x4096 .i8) (harg2 : arg2.IsWhole) (arg3 : Memref sig .tc .vmem S256x256 .f16) (harg3 : arg3.IsWhole) (arg4 : Memref sig .tc .vmem S256x256 .f16) (harg4 : arg4.IsWhole) (arg5 : Memref sig .tc .vmem S256x4096 .i8) (harg5 : arg5.IsWhole) (arg6 : Memref sig .tc .vmem S256x256 .f16) (harg6 : arg6.IsWhole) (arg7 : Memref sig .tc .vmem S256x256 .f16) (harg7 : arg7.IsWhole) (arg8 : Memref sig .tc .vmem S96x256 .bf16) (harg8 : arg8.IsWhole) (arg9 : Memref sig .tc .vmem S96x8192 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (hc0 : cond0_0 i)
    (x0 : Vec F S96x8192 .bf16) (x1 : Vec F S256x4096 .i8) (x2 : Vec F S256x256 .f16) (x3 : Vec F S256x256 .f16) (x4 : Vec F S256x4096 .i8) (x5 : Vec F S256x256 .f16) (x6 : Vec F S256x256 .f16) :
    (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).1 = [⟨Rect.unit ![0, 0] ![96, 256] inb_S96x256_S96x256_0_0, ordered (gated
      (product (fun o ho => View.readCov (Val := Elt F) arg9.view (fills arg1 harg1 x0 32 (Nat.le_refl 32))
          (Rect.unit (s := S96x8192) ![0, o] S96x256.size (Q4.inside ho)).toLoadRect) arg2 harg2 x1 arg3 harg3 x2 arg4 harg4 x3 arg10 arg11)
      (product (fun o ho => View.readCov (Val := Elt F) arg9.view (fills arg1 harg1 x0 32 (Nat.le_refl 32))
          (Rect.unit (s := S96x8192) ![0, o] S96x256.size (Q4.inside ho)).toLoadRect) arg5 harg5 x4 arg6 harg6 x5 arg7 harg7 x6 arg12 arg13))⟩] := by
  rfl

/-! ## As functions of the buffers' contents -/

theorem shapeCast_same {α : Type} {s : Shape} (x : s.Idx → α) (h : s.ShapeCasts s) : shapeCast s x h = x :=
  funext fun i => shapeCast_apply x h i i rfl

theorem loaded_eq {s : Shape} {e : EltTy} (arg : Memref sig .tc .vmem s e) (h : arg.IsWhole) (x : Vec F s e) (off : Fin s.rank → Nat)
    (size : Fin s.rank → Nat) (inb : ∀ i, off i + size i ≤ s.size i) :
    loaded arg h x off size inb = fun y => x ((Rect.unit (s := s) off size inb).idx y) :=
  funext fun y => h.readAt_unread x _ y

theorem idx_full (inb : ∀ i, (![0, 0] : Fin 2 → Nat) i + S256x256.size i ≤ S256x256.size i) (y : S256x256.Idx) :
    (Rect.unit (s := S256x256) ![0, 0] S256x256.size inb).idx y = y :=
  Rect.emb_unit_full (s := S256x256) (off := ![0, 0]) inb y

theorem loaded_whole {e : EltTy} (arg : Memref sig .tc .vmem S256x256 e) (h : arg.IsWhole) (x : Vec F S256x256 e)
    (inb : ∀ i, (![0, 0] : Fin 2 → Nat) i + S256x256.size i ≤ S256x256.size i) :
    loaded arg h x ![0, 0] S256x256.size inb = x := by
  rw [loaded_eq]; exact funext fun y => congrArg x (idx_full inb y)

theorem stored_eq (arg : Memref sig .tc .vmem S256x256 .f32) (w : FVec F S256x256 .f32) :
    stored arg w = Q4.rowsOf (G := 8 * 32) (N := 256) w := by
  funext r hr
  unfold stored
  rw [View.readCov_eq_canon']
  funext j
  have h := View.canon_cons_emb (Val := Elt F) (e := .f32) (Rect.unit (s := S256x256) ![0, 0] S256x256.size inb_S256x256_S256x256_0_0) w []
    ((Rect.unit (s := S256x256) ![r, 0] S1x256.size (inRow hr)).toLoadRect.idx j)
  rw [Rect.emb_unit_full] at h
  refine h.trans ?_
  unfold Q4.rowsOf extractStridedSlice
  congr 1
  funext a
  match a with
  | ⟨0, _⟩ => exact Fin.ext (by show r + 1 * _ = r + _; rw [Nat.one_mul]; rfl)
  | ⟨1, _⟩ => exact Fin.ext (by show 0 + 1 * _ = 0 + _; rw [Nat.one_mul]; rfl)

theorem product_eq (xp : Vec F S96x8192 .bf16) (arg2 : Memref sig .tc .vmem S256x4096 .i8) (h2 : arg2.IsWhole)
    (x1 : Vec F S256x4096 .i8)
    (arg3 : Memref sig .tc .vmem S256x256 .f16) (h3 : arg3.IsWhole) (x2 : Vec F S256x256 .f16)
    (arg4 : Memref sig .tc .vmem S256x256 .f16) (h4 : arg4.IsWhole) (x3 : Vec F S256x256 .f16)
    (arg10 arg11 : Memref sig .tc .vmem S256x256 .f32) :
    product (fun o ho => Q4.acts (M := 96) (K := 256 * 32) xp o (Q4.inside ho)) arg2 h2 x1 arg3 h3 x2 arg4 h4 x3 arg10 arg11
      = Q4.total (M := 96) (N := 256) (K := 32) xp x1 (turnedScales x2) (turnedMinima x3) 32 (Nat.le_refl 32) := by
  unfold product
  rw [stored_eq, stored_eq, shapeCast_same, shapeCast_same, loaded_whole, loaded_whole, ← Q4.totalOf_eq]
  congr 1
  funext o ho
  exact loaded_eq arg2 h2 x1 _ _ _

/-- A block of the first call's result, from the activations in nibble order and the block's operands. -/
def up (xp : Vec F S96x8192 .bf16) (x1 : Vec F S256x4096 .i8) (x2 x3 : Vec F S256x256 .f16) (x4 : Vec F S256x4096 .i8)
    (x5 x6 : Vec F S256x256 .f16) : Vec F S96x256 .bf16 :=
  ordered (gated (Q4.total (M := 96) (N := 256) (K := 32) xp x1 (turnedScales x2) (turnedMinima x3) 32 (Nat.le_refl 32))
    (Q4.total (M := 96) (N := 256) (K := 32) xp x4 (turnedScales x5) (turnedMinima x6) 32 (Nat.le_refl 32)))

/-- The activations with every block of 256 columns in nibble order. -/
def carried (x : Vec F S96x8192 .bf16) : Vec F S96x8192 .bf16 :=
  View.canon (fills (Memref.whole cc0_scratch0) (Memref.isWhole_whole _) x 32 (Nat.le_refl 32))

theorem fills_eq (arg arg' : Memref sig .tc .vmem S96x8192 .bf16) (h : arg.IsWhole) (h' : arg'.IsWhole) (x : Vec F S96x8192 .bf16) (n : Nat)
    (hn : n ≤ 32) : fills arg h x n hn = fills arg' h' x n hn := by
  induction n with
  | zero => rfl
  | succ n ih => unfold fills; rw [ih, loaded_eq, loaded_eq]

theorem canon_whole (w : FVec F S96x256 .bf16) :
    View.canon (Val := Elt F) (e := .bf16) [⟨Rect.unit (s := S96x256) ![0, 0] S96x256.size inb_S96x256_S96x256_0_0, w⟩] = w := by
  funext y
  have h := View.canon_cons_emb (Val := Elt F) (e := .bf16) (Rect.unit (s := S96x256) ![0, 0] S96x256.size inb_S96x256_S96x256_0_0) w [] y
  rwa [Rect.emb_unit_full] at h

theorem out_first  (c : Dev nD) (i : grid0.Coords) (arg1 : Memref sig .tc .vmem S96x8192 .bf16) (harg1 : arg1.IsWhole) (arg2 : Memref sig .tc .vmem S256x4096 .i8) (harg2 : arg2.IsWhole) (arg3 : Memref sig .tc .vmem S256x256 .f16) (harg3 : arg3.IsWhole) (arg4 : Memref sig .tc .vmem S256x256 .f16) (harg4 : arg4.IsWhole) (arg5 : Memref sig .tc .vmem S256x4096 .i8) (harg5 : arg5.IsWhole) (arg6 : Memref sig .tc .vmem S256x256 .f16) (harg6 : arg6.IsWhole) (arg7 : Memref sig .tc .vmem S256x256 .f16) (harg7 : arg7.IsWhole) (arg8 : Memref sig .tc .vmem S96x256 .bf16) (harg8 : arg8.IsWhole) (arg9 : Memref sig .tc .vmem S96x8192 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (hc0 : cond0_0 i)
    (x0 : Vec F S96x8192 .bf16) (x1 : Vec F S256x4096 .i8) (x2 : Vec F S256x256 .f16) (x3 : Vec F S256x256 .f16) (x4 : Vec F S256x4096 .i8) (x5 : Vec F S256x256 .f16) (x6 : Vec F S256x256 .f16) :
    out0_A_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 = up (carried x0) x1 x2 x3 x4 x5 x6 := by
  have ha : (fun o (ho : o + 256 ≤ 256 * 32) => View.readCov (Val := Elt F) arg9.view (fills arg1 harg1 x0 32 (Nat.le_refl 32))
      (Rect.unit (s := S96x8192) ![0, o] S96x256.size (Q4.inside ho)).toLoadRect)
      = fun o ho => Q4.acts (M := 96) (K := 256 * 32) (carried x0) o (Q4.inside ho) := by
    funext o ho
    rw [View.readCov_eq_canon', fills_eq arg1 (Memref.whole cc0_scratch0) harg1 (Memref.isWhole_whole _)]
    rfl
  unfold out0_A_7
  rw [pieces_first, View.read_writes_junk_eq_canon, ha, product_eq, product_eq]
  exact canon_whole _

theorem scratch_first  (c : Dev nD) (i : grid0.Coords) (arg1 : Memref sig .tc .vmem S96x8192 .bf16) (harg1 : arg1.IsWhole) (arg2 : Memref sig .tc .vmem S256x4096 .i8) (harg2 : arg2.IsWhole) (arg3 : Memref sig .tc .vmem S256x256 .f16) (harg3 : arg3.IsWhole) (arg4 : Memref sig .tc .vmem S256x256 .f16) (harg4 : arg4.IsWhole) (arg5 : Memref sig .tc .vmem S256x4096 .i8) (harg5 : arg5.IsWhole) (arg6 : Memref sig .tc .vmem S256x256 .f16) (harg6 : arg6.IsWhole) (arg7 : Memref sig .tc .vmem S256x256 .f16) (harg7 : arg7.IsWhole) (arg8 : Memref sig .tc .vmem S96x256 .bf16) (harg8 : arg8.IsWhole) (arg9 : Memref sig .tc .vmem S96x8192 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (hc0 : cond0_0 i)
    (x0 : Vec F S96x8192 .bf16) (x1 : Vec F S256x4096 .i8) (x2 : Vec F S256x256 .f16) (x3 : Vec F S256x256 .f16) (x4 : Vec F S256x4096 .i8) (x5 : Vec F S256x256 .f16) (x6 : Vec F S256x256 .f16) :
    sout0_A_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 = carried x0 := by
  unfold sout0_A_0
  rw [fills_first, View.read_writes_junk_eq_canon, fills_eq arg1 (Memref.whole cc0_scratch0) harg1 (Memref.isWhole_whole _)]
  rfl

theorem out_later  (c : Dev nD) (i : grid0.Coords) (arg1 : Memref sig .tc .vmem S96x8192 .bf16) (harg1 : arg1.IsWhole) (arg2 : Memref sig .tc .vmem S256x4096 .i8) (harg2 : arg2.IsWhole) (arg3 : Memref sig .tc .vmem S256x256 .f16) (harg3 : arg3.IsWhole) (arg4 : Memref sig .tc .vmem S256x256 .f16) (harg4 : arg4.IsWhole) (arg5 : Memref sig .tc .vmem S256x4096 .i8) (harg5 : arg5.IsWhole) (arg6 : Memref sig .tc .vmem S256x256 .f16) (harg6 : arg6.IsWhole) (arg7 : Memref sig .tc .vmem S256x256 .f16) (harg7 : arg7.IsWhole) (arg8 : Memref sig .tc .vmem S96x256 .bf16) (harg8 : arg8.IsWhole) (arg9 : Memref sig .tc .vmem S96x8192 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (hc0 : ¬cond0_0 i)
    (x0 : Vec F S96x8192 .bf16) (x1 : Vec F S256x4096 .i8) (x2 : Vec F S256x256 .f16) (x3 : Vec F S256x256 .f16) (x4 : Vec F S256x4096 .i8) (x5 : Vec F S256x256 .f16) (x6 : Vec F S256x256 .f16) (xs0 : Vec F S96x8192 .bf16) :
    out0_B_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 = up xs0 x1 x2 x3 x4 x5 x6 := by
  have ha : (fun o (ho : o + 256 ≤ 256 * 32) => loaded arg9 harg9 xs0 ![0, o] S96x256.size (Q4.inside ho))
      = fun o ho => Q4.acts (M := 96) (K := 256 * 32) xs0 o (Q4.inside ho) := by
    funext o ho
    exact loaded_eq arg9 harg9 xs0 _ _ _
  unfold out0_B_7
  rw [pieces_later, View.read_writes_junk_eq_canon, ha, product_eq, product_eq]
  exact canon_whole _

end Cert.Up

end
-- ==== Proof.Order.lean ====
/- The nibble order, over the extended reals: the matrix that makes it has a single one in each column, so that a product with it
   reads the columns in that order. -/
module

public import proofs.«01_k».proof.Proof.Layer
public import proofs.«01_k».proof.Proof.UpBody

@[expose] public section

set_option maxRecDepth 16384

noncomputable section

namespace Cert.Up

open Cert.KernelIdeal Cert.KernelIdeal.Gen Cert.RunKernelIdeal Idealize.ShloMosaic Idealize.ShloMosaic.ValueIdx
open Cert.Q4 (nib nibAll)
open scoped BigOperators

theorem hit : ∀ b : Fin 256, kernelRun0_B.sl.r (ix2 (nib b) b) = 1#1 := by
  decide +kernel

theorem column : ∃ w : IVec S256x256 32, kernelRun0_B.sl.r = cmpi .eq kernelRun0_B.sl.v0 w ∧ ∀ a b : Fin 256, w (ix2 a b) = w (ix2 0 b) :=
  ⟨_, rfl, fun _ _ => rfl⟩

theorem ones (a b : Fin 256) : (kernelRun0_B.sl.r (ix2 a b) = 1) ↔ a = nib b := by
  obtain ⟨w, hw, hc⟩ := column
  have hr : ∀ a b : Fin 256, kernelRun0_B.sl.r (ix2 a b) = BitVec.ofBool (BitVec.ofNat 32 a.val == w (ix2 0 b)) := by
    intro a b
    rw [← hc a b, hw]
    show BitVec.ofBool (BitVec.ofNat 32 (0 * 256 + a.val) == w (ix2 a b)) = _
    rw [Nat.zero_mul, Nat.zero_add]
  have hn : w (ix2 0 b) = BitVec.ofNat 32 (nib b).val := by
    have h := hit b
    rw [hr] at h
    by_cases e : BitVec.ofNat 32 (nib b).val == w (ix2 0 b)
    · exact (eq_of_beq e).symm
    · rw [Bool.not_eq_true] at e
      rw [e] at h
      exact absurd h (by decide)
  rw [hr, hn]
  constructor
  · intro h
    by_cases e : BitVec.ofNat 32 a.val == BitVec.ofNat 32 (nib b).val
    · have e' := congrArg BitVec.toNat (eq_of_beq e)
      rw [BitVec.toNat_ofNat, BitVec.toNat_ofNat, Nat.mod_eq_of_lt (by omega), Nat.mod_eq_of_lt (by omega)] at e'
      exact Fin.ext e'
    · rw [Bool.not_eq_true] at e
      rw [e] at h
      exact absurd h (by decide)
  · rintro rfl
    rw [beq_self_eq_true]
    rfl

theorem f32_one : Ideal.ofBits .f32 0x3F800000#32 = (1 : EReal) := by
  show Ideal.ieee 8 23 0x3F800000#32 = _
  unfold Ideal.ieee
  dsimp only
  rw [if_neg (by decide), if_neg (by decide), ← EReal.coe_one]
  apply congrArg Real.toEReal
  norm_num [BitVec.extractLsb', Nat.shiftRight_eq_div_pow]

theorem perm_apply (a b : Fin 256) : perm (F := Ideal) (ix2 a b) = if a = nib b then (1 : EReal) else 0 := by
  show (if kernelRun0_B.sl.r (ix2 a b) = 1 then Ideal.ofBits .f32 0x3F800000#32 else Ideal.ofBits .f32 0x00000000#32) = _
  rw [f32_one, Q4.f32_zero]
  exact if_congr (ones a b) rfl rfl

theorem ordered_apply (a : FVec Ideal S96x256 .bf16) (i : Fin 96) (b : Fin 256) : ordered a (ix2 i b) = a (ix2 i (nib b)) := by
  have h := Ideal.matmul_plain_apply none a (perm (F := Ideal)) (constant (F := Ideal) S96x256 .f32 0x00000000#32) i b
  have hz : constant (F := Ideal) S96x256 .f32 0x00000000#32 (ix2 i b) = 0 := Q4.f32_zero
  rw [hz, zero_add] at h
  refine Eq.trans h ?_
  rw [Finset.sum_eq_single (nib b)]
  · rw [perm_apply, if_pos rfl, mul_one]
  · intro k _ hk
    rw [perm_apply, if_neg hk, mul_zero]
  · intro hk
    exact absurd (Finset.mem_univ _) hk

theorem fills_apply (arg : Memref sig .tc .vmem S96x8192 .bf16) (h : arg.IsWhole) (x : Vec Ideal S96x8192 .bf16) (n : Nat) (hn : n ≤ 32)
    (i : Fin 96) (k : Fin (256 * 32)) (hk : k.val < 256 * n) :
    View.canon (Val := Elt Ideal) (fills arg h x n hn) (ix2 (n1 := 8192) i k) = x (ix2 (n1 := 8192) i (nibAll k)) := by
  induction n with
  | zero => omega
  | succ n ih =>
    unfold fills
    by_cases e : k.val < 256 * n
    · rw [View.canon_cons_of_not_mem]
      · exact ih _ e
      · intro hm
        have hm' : ix2 (n1 := 8192) i k
            ∈ (Rect.unit (s := S96x8192) ![0, 256 * n] S96x256.size (Q4.inside (a := 96) (b := 8192) (k := 256) (by omega))).set := hm
        have h1 := (Rect.mem_set_unit.mp hm') 1
        have h2 : 256 * n ≤ k.val := h1.1
        omega
    · have hemb : (Rect.unit (s := S96x8192) ![0, 256 * n] S96x256.size (Q4.inside (a := 96) (b := 8192) (k := 256) (by omega))).emb
          (ix2 i ⟨k.val - 256 * n, by omega⟩) = ix2 (n1 := 8192) i k := by
        funext a
        match a with
        | ⟨0, _⟩ => exact Fin.ext (by show 0 + 1 * i.val = i.val; omega)
        | ⟨1, _⟩ => exact Fin.ext (by show 256 * n + 1 * (k.val - 256 * n) = k.val; omega)
      rw [← hemb, View.canon_cons_emb, shapeCast_same]
      refine (congrFun (congrArg ordered (shapeCast_same (s := S96x256) _ _)) _).trans ?_
      rw [loaded_eq]
      refine (ordered_apply _ i ⟨k.val - 256 * n, by omega⟩).trans (congrArg x ?_)
      funext a
      match a with
      | ⟨0, _⟩ => exact Fin.ext (by show 0 + 1 * i.val = i.val; omega)
      | ⟨1, _⟩ =>
        refine Fin.ext ?_
        have hd : k.val / 256 = n := by omega
        have hr : k.val - 256 * n = k.val % 256 := by omega
        show 256 * n + 1 * (nib ⟨k.val - 256 * n, _⟩).val = 256 * (k.val / 256) + (nib ⟨k.val % 256, _⟩).val
        simp only [hd, hr, Nat.one_mul]

theorem carried_apply (x : Vec Ideal S96x8192 .bf16) (i : Fin 96) (k : Fin (256 * 32)) :
    carried (F := Ideal) x (ix2 (n1 := 8192) i k) = x (ix2 (n1 := 8192) i (nibAll k)) :=
  fills_apply _ _ x 32 (Nat.le_refl 32) i k k.isLt

end Cert.Up

end
-- ==== Proof.UpRun.lean ====
/- The first call as launched: what it leaves in its result array are the hidden activations, with every block of 256 columns in
   nibble order. -/
module

public import proofs.«01_k».proof.Proof.Order

@[expose] public section

set_option maxRecDepth 16384

noncomputable section

namespace Cert.Up

open Cert.KernelIdeal Cert.KernelIdeal.Gen Cert.RunKernelIdeal Idealize.ShloMosaic Idealize.ShloMosaic.ValueIdx Idealize.ShloMosaic.TcCoe
open Idealize.ShloMosaic.Pipeline (Dat)
open Cert.Q4 (nib nibAll layer layers hidden Mat gated gated_congr total_layer f32_512)

variable (V : (c : Dev nD) → (b : Ref sig .tc) → Buf (Elt Ideal) ((c : Thread nD τ).loc b))

/-! ## Where an entry of a block lies in its array -/

theorem index0 : ∀ t : Fin cfg0.N, win0_0.index t (0 : Fin 2) = 0 ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
theorem index4 : ∀ t : Fin cfg0.N, win0_4.index t (0 : Fin 2) = t.val ∧ win0_4.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)
theorem index6 : ∀ t : Fin cfg0.N, win0_6.index t (0 : Fin 2) = t.val ∧ win0_6.index t (1 : Fin 2) = 0 :=
  (by decide +kernel : ∀ t : Fin grid0.N, _)
theorem index7 : ∀ t : Fin cfg0.N, win0_7.index t (0 : Fin 2) = 0 ∧ win0_7.index t (1 : Fin 2) = t.val :=
  (by decide +kernel : ∀ t : Fin grid0.N, _)

theorem lt29 (t : Fin cfg0.N) : t.val < 29 := t.isLt.trans_eq N_0

/-- Row `j` of block `t` of an array read 256 rows at a time. -/
def row (t : Fin cfg0.N) (j : Fin 256) : Fin 7424 := ⟨256 * t.val + j.val, by have := lt29 t; omega⟩

theorem emb0 (t : Fin cfg0.N) (j : S96x8192.Idx) : ((cfg0.win 0).blk t).view.emb j = j := by
  obtain ⟨e0, e1⟩ := index0 t
  funext a; apply Fin.ext
  match a with
  | ⟨0, _⟩ => show win0_0.index t (0 : Fin 2) * 96 + 1 * (j 0).val = (j 0).val; omega
  | ⟨1, _⟩ => show win0_0.index t (1 : Fin 2) * 8192 + 1 * (j 1).val = (j 1).val; omega

theorem emb1 (t : Fin cfg0.N) (j : Fin 256) (k : Fin 4096) :
    ((cfg0.win 1).blk t).view.emb (ix2 j k : (Mat 256 4096).Idx) = (ix2 (row t j) k : (Mat 7424 4096).Idx) := by
  obtain ⟨e0, e1⟩ := index1 t
  funext a; apply Fin.ext
  match a with
  | ⟨0, _⟩ => show win0_1.index t (0 : Fin 2) * 256 + 1 * j.val = 256 * t.val + j.val; omega
  | ⟨1, _⟩ => show win0_1.index t (1 : Fin 2) * 4096 + 1 * k.val = k.val; omega

theorem emb2 (t : Fin cfg0.N) (j : Fin 256) (k : Fin 256) :
    ((cfg0.win 2).blk t).view.emb (ix2 j k : (Mat 256 256).Idx) = (ix2 (row t j) k : (Mat 7424 256).Idx) := by
  obtain ⟨e0, e1⟩ := index2 t
  funext a; apply Fin.ext
  match a with
  | ⟨0, _⟩ => show win0_2.index t (0 : Fin 2) * 256 + 1 * j.val = 256 * t.val + j.val; omega
  | ⟨1, _⟩ => show win0_2.index t (1 : Fin 2) * 256 + 1 * k.val = k.val; omega

theorem emb3 (t : Fin cfg0.N) (j : Fin 256) (k : Fin 256) :
    ((cfg0.win 3).blk t).view.emb (ix2 j k : (Mat 256 256).Idx) = (ix2 (row t j) k : (Mat 7424 256).Idx) := by
  obtain ⟨e0, e1⟩ := index3 t
  funext a; apply Fin.ext
  match a with
  | ⟨0, _⟩ => show win0_3.index t (0 : Fin 2) * 256 + 1 * j.val = 256 * t.val + j.val; omega
  | ⟨1, _⟩ => show win0_3.index t (1 : Fin 2) * 256 + 1 * k.val = k.val; omega

theorem emb4 (t : Fin cfg0.N) (j : Fin 256) (k : Fin 4096) :
    ((cfg0.win 4).blk t).view.emb (ix2 j k : (Mat 256 4096).Idx) = (ix2 (row t j) k : (Mat 7424 4096).Idx) := by
  obtain ⟨e0, e1⟩ := index4 t
  funext a; apply Fin.ext
  match a with
  | ⟨0, _⟩ => show win0_4.index t (0 : Fin 2) * 256 + 1 * j.val = 256 * t.val + j.val; omega
  | ⟨1, _⟩ => show win0_4.index t (1 : Fin 2) * 4096 + 1 * k.val = k.val; omega

theorem emb5 (t : Fin cfg0.N) (j : Fin 256) (k : Fin 256) :
    ((cfg0.win 5).blk t).view.emb (ix2 j k : (Mat 256 256).Idx) = (ix2 (row t j) k : (Mat 7424 256).Idx) := by
  obtain ⟨e0, e1⟩ := index5 t
  funext a; apply Fin.ext
  match a with
  | ⟨0, _⟩ => show win0_5.index t (0 : Fin 2) * 256 + 1 * j.val = 256 * t.val + j.val; omega
  | ⟨1, _⟩ => show win0_5.index t (1 : Fin 2) * 256 + 1 * k.val = k.val; omega

theorem emb6 (t : Fin cfg0.N) (j : Fin 256) (k : Fin 256) :
    ((cfg0.win 6).blk t).view.emb (ix2 j k : (Mat 256 256).Idx) = (ix2 (row t j) k : (Mat 7424 256).Idx) := by
  obtain ⟨e0, e1⟩ := index6 t
  funext a; apply Fin.ext
  match a with
  | ⟨0, _⟩ => show win0_6.index t (0 : Fin 2) * 256 + 1 * j.val = 256 * t.val + j.val; omega
  | ⟨1, _⟩ => show win0_6.index t (1 : Fin 2) * 256 + 1 * k.val = k.val; omega

theorem emb7 (t : Fin cfg0.N) (i : Fin 96) (j : Fin 256) :
    ((cfg0.win 7).blk t).view.emb (ix2 i j : (Mat 96 256).Idx) = (ix2 i (row t j) : (Mat 96 7424).Idx) := by
  obtain ⟨e0, e1⟩ := index7 t
  funext a; apply Fin.ext
  match a with
  | ⟨0, _⟩ => show win0_7.index t (0 : Fin 2) * 96 + 1 * i.val = i.val; omega
  | ⟨1, _⟩ => show win0_7.index t (1 : Fin 2) * 256 + 1 * j.val = 256 * t.val + j.val; omega

/-! ## What each grid point leaves -/

theorem iblk_x (c : Dev nD) (t : Fin cfg0.N) : iblk0 V c 0 t = V c main_v0 := by
  funext j
  show V c main_v0 (((cfg0.win 0).blk t).view.emb j) = _
  rw [emb0]

/-- The scratch holds the activations in nibble order after every point. -/
theorem scratch_eq (c : Dev nD) (n : ℕ) (hn : n < cfg0.N) : (outsAt0 V c n hn).2 = carried (F := Ideal) (V c main_v0) := by
  induction n with
  | zero =>
    rw [outsAt0_A V c ⟨0, hn⟩ rfl]
    dsimp only
    rw [scratch_first, iblk_x]
  | succ n ih =>
    have h29 : n + 1 < 29 := lt29 ⟨n + 1, hn⟩
    rw [outsAt0_B V c ⟨n + 1, hn⟩ (by show ¬ (n + 1) % 29 = 0; omega)]
    exact ih (Nat.lt_of_succ_lt hn)

/-- Each point leaves its block of the result. -/
theorem block_eq (c : Dev nD) (t : Fin cfg0.N) : (outsAt0 V c t.val t.isLt).1
    = up (F := Ideal) (carried (V c main_v0)) (iblk0 V c 1 t) (iblk0 V c 2 t) (iblk0 V c 3 t) (iblk0 V c 4 t) (iblk0 V c 5 t) (iblk0 V c 6 t) := by
  by_cases h0 : t.val % 29 = 0
  · rw [outsAt0_A V c t h0]
    dsimp only
    rw [out_first, iblk_x]
  · rw [outsAt0_B V c t h0]
    dsimp only
    rw [out_later, scratch_eq]

/-- A block of the result, from the blocks of the operands. -/
theorem up_apply (x : (Mat 96 8192).Idx → EReal) (gq uq : IVec (Mat 7424 4096) 8) (gs gm us um : (Mat 7424 256).Idx → EReal)
    (x1 : Vec Ideal S256x4096 .i8) (x2 x3 : Vec Ideal S256x256 .f16) (x4 : Vec Ideal S256x4096 .i8) (x5 x6 : Vec Ideal S256x256 .f16)
    (r : Fin 256 → Fin 7424)
    (h1 : ∀ (j : Fin 256) (k : Fin 4096), x1 (ix2 j k) = gq (ix2 (r j) k)) (h2 : ∀ j g : Fin 256, x2 (ix2 j g) = gs (ix2 (r j) g))
    (h3 : ∀ j g : Fin 256, x3 (ix2 j g) = gm (ix2 (r j) g)) (h4 : ∀ (j : Fin 256) (k : Fin 4096), x4 (ix2 j k) = uq (ix2 (r j) k))
    (h5 : ∀ j g : Fin 256, x5 (ix2 j g) = us (ix2 (r j) g)) (h6 : ∀ j g : Fin 256, x6 (ix2 j g) = um (ix2 (r j) g))
    (i : Fin 96) (j : Fin 256) :
    up (F := Ideal) (carried x) x1 x2 x3 x4 x5 x6 (ix2 i j) = hidden x gq gs gm uq us um (ix2 i (r (nib j))) := by
  have hs (y : Vec Ideal S256x256 .f16) (s : (Mat 7424 256).Idx → EReal) (h : ∀ j g : Fin 256, y (ix2 j g) = s (ix2 (r j) g)) (g j : Fin 256) :
      turnedScales y (ix2 g j) = s (ix2 (r j) g) * ((512 : ℝ) : EReal) := by
    refine (transpose_ix2_apply _ _ _ _).trans ?_
    exact congrArg₂ (· * ·) (h j g) f32_512
  have hm (y : Vec Ideal S256x256 .f16) (s : (Mat 7424 256).Idx → EReal) (h : ∀ j g : Fin 256, y (ix2 j g) = s (ix2 (r j) g)) (g j : Fin 256) :
      turnedMinima y (ix2 g j) = s (ix2 (r j) g) := by
    refine (transpose_ix2_apply _ _ _ _).trans ?_
    exact h j g
  unfold up
  rw [ordered_apply]
  refine gated_congr _ _ _ _ _ _ ?_ ?_
  · exact total_layer (M := 96) (N := 256) (O := 7424) (K := 32) _ x (carried_apply x) x1 _ _ gq gs gm i (nib j) (r (nib j))
      (h1 _) (fun g => hs x2 gs h2 g _) (fun g => hm x3 gm h3 g _)
  · exact total_layer (M := 96) (N := 256) (O := 7424) (K := 32) _ x (carried_apply x) x4 _ _ uq us um i (nib j) (r (nib j))
      (h4 _) (fun g => hs x5 us h5 g _) (fun g => hm x6 um h6 g _)

/-! ## The result array -/

/-- The hidden activations of the call's operands. -/
abbrev hid (c : Dev nD) : (Mat 96 7424).Idx → EReal :=
  hidden (V c main_v0) (V c main_arg1) (V c main_arg2) (V c main_arg3) (V c main_arg4) (V c main_arg5) (V c main_arg6)

/-- The same, in nibble order. -/
def hidOrdered (c : Dev nD) : (Mat 96 7424).Idx → EReal :=
  fun x => hid V c (ix2 (x 0) (nibAll (n := 29) (x 1)))

theorem hidOrdered_apply (c : Dev nD) (i : Fin 96) (k : Fin 7424) : hidOrdered V c (ix2 i k) = hid V c (ix2 i (nibAll (n := 29) k)) := rfl

theorem nibAll_row (t : Fin cfg0.N) (j : Fin 256) : nibAll (n := 29) (row t j) = row t (nib j) := by
  have hj := j.isLt
  have hd : (256 * t.val + j.val) / 256 = t.val := by omega
  have hr : (256 * t.val + j.val) % 256 = j.val := by omega
  apply Fin.ext
  show 256 * ((256 * t.val + j.val) / 256) + (nib ⟨(256 * t.val + j.val) % 256, _⟩).val = 256 * t.val + (nib j).val
  simp only [hd, hr]

theorem flushed_eq (c : Dev nD) (t : Fin cfg0.N) :
    (dat0 V c).flushed 7 t = ((cfg0.win 7).blk t).view.read (Elt Ideal) (hidOrdered V c) := by
  show (cfg0.win 7).cut (grid0.coords t) ((dat0 V c).after 7 t) = _
  rw [after0_7, block_eq]
  funext x
  obtain ⟨i, j, rfl⟩ : ∃ (i : Fin 96) (j : Fin 256), x = ix2 i j := ⟨x 0, x 1, eq_ix2 x⟩
  show up (F := Ideal) (carried (V c main_v0)) (iblk0 V c 1 t) (iblk0 V c 2 t) (iblk0 V c 3 t) (iblk0 V c 4 t) (iblk0 V c 5 t) (iblk0 V c 6 t) (ix2 i j)
    = hidOrdered V c (((cfg0.win 7).blk t).view.emb (ix2 i j))
  rw [emb7, hidOrdered_apply, nibAll_row]
  refine up_apply _ _ _ _ _ _ _ _ _ _ _ _ _ (row t) ?_ ?_ ?_ ?_ ?_ ?_ i j
  · intro j k
    show V c main_arg1 (((cfg0.win 1).blk t).view.emb (ix2 j k)) = _
    rw [emb1]
  · intro j k
    show V c main_arg2 (((cfg0.win 2).blk t).view.emb (ix2 j k)) = _
    rw [emb2]
  · intro j k
    show V c main_arg3 (((cfg0.win 3).blk t).view.emb (ix2 j k)) = _
    rw [emb3]
  · intro j k
    show V c main_arg4 (((cfg0.win 4).blk t).view.emb (ix2 j k)) = _
    rw [emb4]
  · intro j k
    show V c main_arg5 (((cfg0.win 5).blk t).view.emb (ix2 j k)) = _
    rw [emb5]
  · intro j k
    show V c main_arg6 (((cfg0.win 6).blk t).view.emb (ix2 j k)) = _
    rw [emb6]

/-- Every block of the result is written. -/
theorem flushes : ∀ t : Fin cfg0.N, (cfg0.win 7).flush t = true :=
  (by decide +kernel : ∀ t : Fin grid0.N, _)

theorem covered (x : S96x7424.Idx) : ∃ t : Fin cfg0.N, (cfg0.win 7).flush t = true ∧ x ∈ ((cfg0.win 7).blk t).view.set := by
  obtain ⟨i, j, rfl⟩ : ∃ (i : Fin 96) (j : Fin 7424), x = ix2 i j := ⟨x 0, x 1, eq_ix2 x⟩
  have hj := j.isLt
  let t : Fin cfg0.N := ⟨j.val / 256, lt_of_lt_of_eq (by omega) N_0.symm⟩
  refine ⟨t, flushes t, ?_⟩
  have h := ((cfg0.win 7).blk t).view.emb_mem_set (ix2 i (⟨j.val % 256, by omega⟩ : Fin 256))
  rw [emb7] at h
  have e : row t ⟨j.val % 256, by omega⟩ = j := Fin.ext (Nat.div_add_mod j.val 256)
  rwa [e] at h

theorem final (c : Dev nD) : (dat0 V c).arrAt 7 cfg0.N = hidOrdered V c :=
  (dat0 V c).arrAt_eq_of_cover 7 (hidOrdered V c) (fun t _ => flushed_eq V c t) covered

end Cert.Up

end
-- ==== Proof.DownBody.lean ====
/- The body of the second call, as printed, is the running sum of `Proof/Chunk.lean` over its 29 chunks. -/
module

public import proofs.«01_k».proof.Proof.ChunkOf
public import proofs.«01_k».proof.Proof.Layer
public import proofs.«01_k».proof.Proof.RunKernelIdeal.Down
public import Idealize.ShloMosaic.Lib.VecWindow

@[expose] public section

set_option maxRecDepth 16384

noncomputable section

namespace Cert.Down

open Cert.KernelIdeal Cert.KernelIdeal.Gen Cert.RunKernelIdeal Idealize.ShloMosaic Idealize.ShloMosaic.ValueIdx
open Cert.Q4 (nibAll layer scales minima Mat total_layer f32_512)

variable {F : FTy → Type} [FloatOps F]

theorem out_pieces (x0 : Vec F S96x7424 .bf16) (x1 : Vec F S512x3712 .i8) (x2 : Vec F S232x512 .f16) (x3 : Vec F S232x512 .f16) :
    out1_4 (F := F) x0 x1 x2 x3 = View.canon [⟨r1_59, truncf .bf16
      (Q4.totalOf (M := 96) (N := 512) (K := 29)
        (fun o ho => shapeCast S96x256 (Q4.acts (M := 96) (K := 256 * 29) x0 o (Q4.inside ho)) shapeCasts_S96x256_S96x256)
        (fun o ho => Q4.bytes (N := 512) (K := 128 * 29) x1 o (Q4.inside ho))
        (Q4.rowsOf (G := 8 * 29) (Q4.scales (shapeCast S232x512 (View.ld x2 r1_0) shapeCasts_S232x512_S232x512)))
        (Q4.rowsOf (G := 8 * 29) (Q4.minima (shapeCast S232x512 (View.ld x3 r1_0) shapeCasts_S232x512_S232x512))) 29 (Nat.le_refl 29))
      bitsLt_bf16_f32⟩] := by
  rfl

theorem shapeCast_same {α : Type} {s : Shape} (x : s.Idx → α) (h : s.ShapeCasts s) : shapeCast s x h = x :=
  funext fun i => shapeCast_apply x h i i rfl

theorem out_eq (x0 : Vec F S96x7424 .bf16) (x1 : Vec F S512x3712 .i8) (x2 : Vec F S232x512 .f16) (x3 : Vec F S232x512 .f16) :
    out1_4 (F := F) x0 x1 x2 x3 = View.canon [⟨r1_59, truncf .bf16
      (Q4.total (M := 96) (N := 512) (K := 29) x0 x1
        (Q4.scales (shapeCast S232x512 (View.ld x2 r1_0) shapeCasts_S232x512_S232x512))
        (Q4.minima (shapeCast S232x512 (View.ld x3 r1_0) shapeCasts_S232x512_S232x512)) 29 (Nat.le_refl 29))
      bitsLt_bf16_f32⟩] := by
  have ha : (fun o (ho : o + 256 ≤ 256 * 29) => shapeCast S96x256 (Q4.acts (M := 96) (K := 256 * 29) x0 o (Q4.inside ho)) shapeCasts_S96x256_S96x256)
      = fun o ho => Q4.acts (M := 96) (K := 256 * 29) x0 o (Q4.inside ho) := by
    funext o ho
    exact shapeCast_same (s := S96x256) _ _
  rw [out_pieces, ha]
  refine congrArg (fun y : FVec F S96x512 .f32 => View.canon (Val := Elt F) (s := S96x512) (e := .bf16)
    [⟨r1_59, (truncf .bf16 y bitsLt_bf16_f32 : FVec F S96x512 .bf16)⟩]) ?_
  exact Q4.totalOf_eq (M := 96) (N := 512) (K := 29) x0 x1 _ _ 29 (Nat.le_refl 29)

theorem hz (a : Nat) (h : a = 0) : (![a, a] : Fin 2 → Nat) = fun _ => 0 := by
  subst h; funext i; match i with | ⟨0, _⟩ => rfl | ⟨1, _⟩ => rfl

/-- A block of the result, from activations in nibble order and the blocks of the other operands: rows `r` of the codes, the
    same columns of the transposed scales and minima. -/
theorem out_apply (hp h : (Mat 96 7424).Idx → EReal) (hh : ∀ (i : Fin 96) (k : Fin 7424), hp (ix2 i k) = h (ix2 i (nibAll (n := 29) k)))
    (q : IVec (Mat 8192 3712) 8) (s m : (Mat 8192 232).Idx → EReal)
    (x1 : Vec Ideal S512x3712 .i8) (x2 x3 : Vec Ideal S232x512 .f16) (r : Fin 512 → Fin 8192)
    (h1 : ∀ (j : Fin 512) (k : Fin 3712), x1 (ix2 j k) = q (ix2 (r j) k))
    (h2 : ∀ (g : Fin 232) (j : Fin 512), x2 (ix2 g j) = s (ix2 (r j) g))
    (h3 : ∀ (g : Fin 232) (j : Fin 512), x3 (ix2 g j) = m (ix2 (r j) g)) (i : Fin 96) (j : Fin 512) :
    out1_4 (F := Ideal) hp x1 x2 x3 (ix2 i j) = layer (M := 96) (O := 8192) (K := 29) h q s m i (r j) := by
  rw [out_eq, View.canon_unit_zero (hz 0 rfl), View.ld_unit_zero (S := S232x512) (hz 0 rfl) _ x2,
    View.ld_unit_zero (S := S232x512) (hz 0 rfl) _ x3]
  refine total_layer (M := 96) (N := 512) (O := 8192) (K := 29) hp h hh x1 _ _ q s m i j (r j) (h1 j) (fun g => ?_) (fun g => ?_)
  · exact congrArg₂ (· * ·) ((shapeCast_apply _ _ (ix2 g j) (ix2 g j) rfl).trans (h2 g j)) f32_512
  · exact (shapeCast_apply _ _ (ix2 g j) (ix2 g j) rfl).trans (h3 g j)

end Cert.Down

end
-- ==== Proof.DownRun.lean ====
/- The second call as launched: what it leaves in its result array is a layer over the hidden activations. -/
module

public import proofs.«01_k».proof.Proof.DownBody

@[expose] public section

set_option maxRecDepth 16384

noncomputable section

namespace Cert.Down

open Cert.KernelIdeal Cert.KernelIdeal.Gen Cert.RunKernelIdeal Idealize.ShloMosaic Idealize.ShloMosaic.ValueIdx Idealize.ShloMosaic.TcCoe
open Idealize.ShloMosaic.Pipeline (Dat)
open Cert.Q4 (nibAll layer layers Mat)

variable (V : (c : Dev nD) → (b : Ref sig .tc) → Buf (Elt Ideal) ((c : Thread nD τ).loc b))

/-! ## Where an entry of a block lies in its array -/

theorem index0 : ∀ t : Fin cfg1.N, win1_0.index t (0 : Fin 2) = 0 ∧ win1_0.index t (1 : Fin 2) = 0 :=
  (by decide +kernel : ∀ t : Fin grid1.N, _)
theorem index1 : ∀ t : Fin cfg1.N, win1_1.index t (0 : Fin 2) = t.val ∧ win1_1.index t (1 : Fin 2) = 0 :=
  (by decide +kernel : ∀ t : Fin grid1.N, _)
theorem index2 : ∀ t : Fin cfg1.N, win1_2.index t (0 : Fin 2) = 0 ∧ win1_2.index t (1 : Fin 2) = t.val :=
  (by decide +kernel : ∀ t : Fin grid1.N, _)
theorem index3 : ∀ t : Fin cfg1.N, win1_3.index t (0 : Fin 2) = 0 ∧ win1_3.index t (1 : Fin 2) = t.val :=
  (by decide +kernel : ∀ t : Fin grid1.N, _)
theorem index4 : ∀ t : Fin cfg1.N, win1_4.index t (0 : Fin 2) = 0 ∧ win1_4.index t (1 : Fin 2) = t.val :=
  (by decide +kernel : ∀ t : Fin grid1.N, _)

theorem lt16 (t : Fin cfg1.N) : t.val < 16 := t.isLt.trans_eq N_1

/-- Output `j` of block `t`, 512 outputs to a block. -/
def row (t : Fin cfg1.N) (j : Fin 512) : Fin 8192 := ⟨512 * t.val + j.val, by have := lt16 t; omega⟩

theorem emb0 (t : Fin cfg1.N) (j : S96x7424.Idx) : ((cfg1.win 0).blk t).view.emb j = j := by
  obtain ⟨e0, e1⟩ := index0 t
  funext a; apply Fin.ext
  match a with
  | ⟨0, _⟩ => show win1_0.index t (0 : Fin 2) * 96 + 1 * (j 0).val = (j 0).val; omega
  | ⟨1, _⟩ => show win1_0.index t (1 : Fin 2) * 7424 + 1 * (j 1).val = (j 1).val; omega

theorem emb1 (t : Fin cfg1.N) (j : Fin 512) (k : Fin 3712) :
    ((cfg1.win 1).blk t).view.emb (ix2 j k : (Mat 512 3712).Idx) = (ix2 (row t j) k : (Mat 8192 3712).Idx) := by
  obtain ⟨e0, e1⟩ := index1 t
  funext a; apply Fin.ext
  match a with
  | ⟨0, _⟩ => show win1_1.index t (0 : Fin 2) * 512 + 1 * j.val = 512 * t.val + j.val; omega
  | ⟨1, _⟩ => show win1_1.index t (1 : Fin 2) * 3712 + 1 * k.val = k.val; omega

theorem emb2 (t : Fin cfg1.N) (g : Fin 232) (j : Fin 512) :
    ((cfg1.win 2).blk t).view.emb (ix2 g j : (Mat 232 512).Idx) = (ix2 g (row t j) : (Mat 232 8192).Idx) := by
  obtain ⟨e0, e1⟩ := index2 t
  funext a; apply Fin.ext
  match a with
  | ⟨0, _⟩ => show win1_2.index t (0 : Fin 2) * 232 + 1 * g.val = g.val; omega
  | ⟨1, _⟩ => show win1_2.index t (1 : Fin 2) * 512 + 1 * j.val = 512 * t.val + j.val; omega

theorem emb3 (t : Fin cfg1.N) (g : Fin 232) (j : Fin 512) :
    ((cfg1.win 3).blk t).view.emb (ix2 g j : (Mat 232 512).Idx) = (ix2 g (row t j) : (Mat 232 8192).Idx) := by
  obtain ⟨e0, e1⟩ := index3 t
  funext a; apply Fin.ext
  match a with
  | ⟨0, _⟩ => show win1_3.index t (0 : Fin 2) * 232 + 1 * g.val = g.val; omega
  | ⟨1, _⟩ => show win1_3.index t (1 : Fin 2) * 512 + 1 * j.val = 512 * t.val + j.val; omega

theorem emb4 (t : Fin cfg1.N) (i : Fin 96) (j : Fin 512) :
    ((cfg1.win 4).blk t).view.emb (ix2 i j : (Mat 96 512).Idx) = (ix2 i (row t j) : (Mat 96 8192).Idx) := by
  obtain ⟨e0, e1⟩ := index4 t
  funext a; apply Fin.ext
  match a with
  | ⟨0, _⟩ => show win1_4.index t (0 : Fin 2) * 96 + 1 * i.val = i.val; omega
  | ⟨1, _⟩ => show win1_4.index t (1 : Fin 2) * 512 + 1 * j.val = 512 * t.val + j.val; omega

/-! ## The result array -/

section
variable (h : (Mat 96 7424).Idx → EReal) (q : IVec (Mat 8192 3712) 8) (s m : (Mat 8192 232).Idx → EReal) (c : Dev nD)
  (hh : ∀ (i : Fin 96) (k : Fin 7424), V c main_v1 (ix2 i k) = h (ix2 i (nibAll (n := 29) k)))
  (hq : V c main_arg7 = q)
  (hs : V c main_v2 = transpose S232x8192 [1, 0] s transposes_S8192x232_S232x8192_1_0)
  (hm : V c main_v3 = transpose S232x8192 [1, 0] m transposes_S8192x232_S232x8192_1_0)
include hh hq hs hm

theorem flushed_eq (t : Fin cfg1.N) :
    (dat1 V c).flushed 4 t = ((cfg1.win 4).blk t).view.read (Elt Ideal) (layers (M := 96) (O := 8192) (K := 29) h q s m) := by
  show (cfg1.win 4).cut (grid1.coords t) ((dat1 V c).after 4 t) = _
  rw [after1_4]
  funext x
  obtain ⟨i, j, rfl⟩ : ∃ (i : Fin 96) (j : Fin 512), x = ix2 i j := ⟨x 0, x 1, eq_ix2 x⟩
  show out1_4 (F := Ideal) (iblk1 V c 0 t) (iblk1 V c 1 t) (iblk1 V c 2 t) (iblk1 V c 3 t) (ix2 i j)
    = layers (M := 96) (O := 8192) (K := 29) h q s m (((cfg1.win 4).blk t).view.emb (ix2 i j))
  rw [emb4]
  refine out_apply _ h ?_ q s m _ _ _ (row t) ?_ ?_ ?_ i j
  · intro i k
    show V c main_v1 (((cfg1.win 0).blk t).view.emb (ix2 i k)) = _
    rw [emb0]
    exact hh i k
  · intro j k
    show V c main_arg7 (((cfg1.win 1).blk t).view.emb (ix2 j k)) = _
    rw [emb1, hq]
  · intro g j
    show V c main_v2 (((cfg1.win 2).blk t).view.emb (ix2 g j)) = _
    rw [emb2, hs]
    exact transpose_ix2_apply _ _ _ _
  · intro g j
    show V c main_v3 (((cfg1.win 3).blk t).view.emb (ix2 g j)) = _
    rw [emb3, hm]
    exact transpose_ix2_apply _ _ _ _

omit hh hq hs hm in
/-- Every block of the result is written. -/
theorem flushes : ∀ t : Fin cfg1.N, (cfg1.win 4).flush t = true :=
  (by decide +kernel : ∀ t : Fin grid1.N, _)

omit hh hq hs hm in
theorem covered (x : S96x8192.Idx) : ∃ t : Fin cfg1.N, (cfg1.win 4).flush t = true ∧ x ∈ ((cfg1.win 4).blk t).view.set := by
  obtain ⟨i, j, rfl⟩ : ∃ (i : Fin 96) (j : Fin 8192), x = ix2 i j := ⟨x 0, x 1, eq_ix2 x⟩
  have hj := j.isLt
  let t : Fin cfg1.N := ⟨j.val / 512, lt_of_lt_of_eq (by omega) N_1.symm⟩
  refine ⟨t, flushes t, ?_⟩
  have h := ((cfg1.win 4).blk t).view.emb_mem_set (ix2 i (⟨j.val % 512, by omega⟩ : Fin 512))
  rw [emb4] at h
  have e : row t ⟨j.val % 512, by omega⟩ = j := Fin.ext (Nat.div_add_mod j.val 512)
  rwa [e] at h

theorem final : (dat1 V c).arrAt 4 cfg1.N = layers (M := 96) (O := 8192) (K := 29) h q s m :=
  (dat1 V c).arrAt_eq_of_cover 4 _ (fun t _ => flushed_eq V h q s m c hh hq hs hm t) covered

end

end Cert.Down

end
-- ==== Proof.Network.lean ====
/- The two calls together: the result array ends at the network of the arguments. -/
module

public import proofs.«01_k».proof.Proof.UpRun
public import proofs.«01_k».proof.Proof.DownRun
public import proofs.«01_k».proof.Proof.RunKernelIdeal.Whole

@[expose] public section

set_option maxRecDepth 16384

noncomputable section

namespace Cert.Whole

open Cert.KernelIdeal Cert.KernelIdeal.Gen Cert.RunKernelIdeal Idealize.ShloMosaic Idealize.ShloMosaic.ValueIdx Idealize.ShloMosaic.TcCoe
open Cert.Q4 (network hidden nibAll)

variable (m : (ℓ : Loc nD τ sig) → Buf (Elt Ideal) ℓ) (ρ : Dev nD → PrngReg)

/-- The activations as a matrix. -/
abbrev acts (c : Dev nD) : S96x8192.Idx → EReal :=
  shapeCast S96x8192 (m ((c : Thread nD τ).loc main_arg0)) shapeCasts_S96x1x8192_S96x8192

/-- The network of the arguments. -/
abbrev result (c : Dev nD) : Buf (Elt Ideal) ((c : Thread nD τ).loc main_v4) :=
  network (acts m c) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))

theorem V1_v0 (c : Dev nD) : V1 m ρ c main_v0 = acts m c := rfl

theorem V1_arg (c : Dev nD) (a : Ref sig .tc) (ha : a ∈ argRefs) : V1 m ρ c a = m ((c : Thread nD τ).loc a) := W1_args m ρ c a ha

theorem hid_eq (c : Dev nD) : Up.hid (V1 m ρ) c
    = hidden (acts m c) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  unfold Up.hid
  rw [V1_v0, V1_arg m ρ c main_arg1 (by decide), V1_arg m ρ c main_arg2 (by decide), V1_arg m ρ c main_arg3 (by decide),
    V1_arg m ρ c main_arg4 (by decide), V1_arg m ρ c main_arg5 (by decide), V1_arg m ρ c main_arg6 (by decide)]

theorem V3_v1 (c : Dev nD) (i : Fin 96) (k : Fin 7424) :
    V3 m ρ c main_v1 (ix2 i k) = Up.hid (V1 m ρ) c (ix2 i (nibAll (n := 29) k)) := by
  have h : V3 m ρ c main_v1 = Up.hidOrdered (V1 m ρ) c :=
    (W3_of m ρ c main_v1 (by decide)).trans ((W2_arr m ρ c 7).trans (Up.final (V1 m ρ) c))
  rw [h, Up.hidOrdered_apply]

theorem V3_v2 (c : Dev nD) : V3 m ρ c main_v2
    = transpose S232x8192 [1, 0] (m ((c : Thread nD τ).loc main_arg8)) transposes_S8192x232_S232x8192_1_0 := by
  have h : V3 m ρ c main_v2 = transpose S232x8192 [1, 0] (W2 m ρ c (Proc.devRef .tc main_arg8)) transposes_S8192x232_S232x8192_1_0 := rfl
  rw [h, W2_args m ρ c main_arg8 (by decide)]

theorem V3_v3 (c : Dev nD) : V3 m ρ c main_v3
    = transpose S232x8192 [1, 0] (m ((c : Thread nD τ).loc main_arg9)) transposes_S8192x232_S232x8192_1_0 := by
  have h : V3 m ρ c main_v3 = transpose S232x8192 [1, 0] (W2 m ρ c (Proc.devRef .tc main_arg9)) transposes_S8192x232_S232x8192_1_0 := rfl
  rw [h, W2_args m ρ c main_arg9 (by decide)]

theorem final (c : Dev nD) : W4 m ρ c (Proc.devRef .tc main_v4) = result m c := by
  refine (W4_arr m ρ c 4).trans ((Down.final (V3 m ρ) _ _ _ _ c (V3_v1 m ρ c) (W3_args m ρ c main_arg7 (by decide))
    (V3_v2 m ρ c) (V3_v3 m ρ c)).trans ?_)
  rw [hid_eq]
  rfl

end Cert.Whole

end
-- ==== Proof.Reference.lean ====
/- What the reference computes is the network. -/
module

public import proofs.«01_k».proof.Proof.Layer
public import proofs.«01_k».proof.Proof.Gen.ReferenceIdeal.Value

@[expose] public section

set_option maxRecDepth 16384

noncomputable section

namespace Cert.Reference

open Idealize.ShloMosaic Idealize.ShloMosaic.ValueIdx Idealize.ShloMosaic.TcCoe
open Idealize.ShloMosaic.Pipeline (Dat)
open Cert.Q4 Cert.ReferenceIdeal Cert.ReferenceIdeal.Gen

variable {F : FTy → Type} [FloatOps F]

theorem gate_eq (x : Vec F S96x8192 .bf16) (q : Vec F S7424x4096 .i8) (s m : Vec F S7424x256 .f16) :
    k0_pay2 x q s m = linear (M := 96) (O := 7424) (G := 256)
      (half (C := 256) (H := 16) 0 (by decide) x) (half (C := 256) (H := 16) 1 (by decide) x) q s m := by
  have h : shapeCast S96x8192 x shapeCasts_S96x8192_S96x8192 = x := funext fun j => shapeCast_apply _ _ j j rfl
  conv_rhs => rw [← h]
  rfl

theorem hidden_eq (g : FVec F S96x7424 .f32) (x : Vec F S96x8192 .bf16) (q : Vec F S7424x4096 .i8) (s m : Vec F S7424x256 .f16) :
    k0_pay4 g (k0_pay3 x) q s m = gated g (linear (M := 96) (O := 7424) (G := 256)
      (half (C := 256) (H := 16) 0 (by decide) x) (half (C := 256) (H := 16) 1 (by decide) x) q s m) := by
  have h : shapeCast S96x8192 x shapeCasts_S96x8192_S96x8192 = x := funext fun j => shapeCast_apply _ _ j j rfl
  conv_rhs => rw [← h]
  rfl

theorem result_eq (h : FVec F S96x7424 .bf16) (q : Vec F S8192x3712 .i8) (s m : Vec F S8192x232 .f16) :
    k0_pay1 h q m (k0_pay5 s) = truncf .bf16 (linear (M := 96) (O := 8192) (G := 232)
      (half (C := 232) (H := 16) 0 (by decide) h) (half (C := 232) (H := 16) 1 (by decide) h) q s m) (by decide) := by
  rfl

theorem network_eq (x : Vec Ideal S96x8192 .bf16) (gq : Vec Ideal S7424x4096 .i8) (gs gm : Vec Ideal S7424x256 .f16)
    (uq : Vec Ideal S7424x4096 .i8) (us um : Vec Ideal S7424x256 .f16) (dq : Vec Ideal S8192x3712 .i8) (ds dm : Vec Ideal S8192x232 .f16) :
    k0_pay1 (F := Ideal) (k0_pay4 (k0_pay2 x gq gs gm) (k0_pay3 x) uq us um) dq dm (k0_pay5 ds)
      = network x gq gs gm uq us um dq ds dm := by
  rw [result_eq, hidden_eq, gate_eq]
  refine (linear_layer29 (M := 96) (O := 8192) _ dq ds dm).trans ?_
  refine congrArg (fun h => layers (M := 96) (O := 8192) (K := 29) h dq ds dm) ?_
  exact congrArg₂ gated (linear_layer32 (M := 96) (O := 7424) x gq gs gm) (linear_layer32 (M := 96) (O := 7424) x uq us um)

/-! ## The one grid point: every window is its whole array -/

theorem at_zero {a n : Nat} (h : a = 0) (k : Nat) : a * n + 1 * k = k := by subst h; omega

theorem emb0 (t : Fin cfg0.N) (j : S96x8192.Idx) : ((cfg0.win 0).blk t).view.emb j = j := by
  funext a
  exact Fin.ext (at_zero ((by decide +kernel : ∀ (t : Fin grid0.N) (a : Fin 2), win0_0.index t a = 0) t a) _)

theorem emb1 (t : Fin cfg0.N) (j : S7424x4096.Idx) : ((cfg0.win 1).blk t).view.emb j = j := by
  funext a
  exact Fin.ext (at_zero ((by decide +kernel : ∀ (t : Fin grid0.N) (a : Fin 2), win0_1.index t a = 0) t a) _)

theorem emb2 (t : Fin cfg0.N) (j : S7424x256.Idx) : ((cfg0.win 2).blk t).view.emb j = j := by
  funext a
  exact Fin.ext (at_zero ((by decide +kernel : ∀ (t : Fin grid0.N) (a : Fin 2), win0_2.index t a = 0) t a) _)

theorem emb3 (t : Fin cfg0.N) (j : S7424x256.Idx) : ((cfg0.win 3).blk t).view.emb j = j := by
  funext a
  exact Fin.ext (at_zero ((by decide +kernel : ∀ (t : Fin grid0.N) (a : Fin 2), win0_3.index t a = 0) t a) _)

theorem emb4 (t : Fin cfg0.N) (j : S7424x4096.Idx) : ((cfg0.win 4).blk t).view.emb j = j := by
  funext a
  exact Fin.ext (at_zero ((by decide +kernel : ∀ (t : Fin grid0.N) (a : Fin 2), win0_4.index t a = 0) t a) _)

theorem emb5 (t : Fin cfg0.N) (j : S7424x256.Idx) : ((cfg0.win 5).blk t).view.emb j = j := by
  funext a
  exact Fin.ext (at_zero ((by decide +kernel : ∀ (t : Fin grid0.N) (a : Fin 2), win0_5.index t a = 0) t a) _)

theorem emb6 (t : Fin cfg0.N) (j : S7424x256.Idx) : ((cfg0.win 6).blk t).view.emb j = j := by
  funext a
  exact Fin.ext (at_zero ((by decide +kernel : ∀ (t : Fin grid0.N) (a : Fin 2), win0_6.index t a = 0) t a) _)

theorem emb7 (t : Fin cfg0.N) (j : S8192x3712.Idx) : ((cfg0.win 7).blk t).view.emb j = j := by
  funext a
  exact Fin.ext (at_zero ((by decide +kernel : ∀ (t : Fin grid0.N) (a : Fin 2), win0_7.index t a = 0) t a) _)

theorem emb8 (t : Fin cfg0.N) (j : S8192x232.Idx) : ((cfg0.win 8).blk t).view.emb j = j := by
  funext a
  exact Fin.ext (at_zero ((by decide +kernel : ∀ (t : Fin grid0.N) (a : Fin 2), win0_8.index t a = 0) t a) _)

theorem emb9 (t : Fin cfg0.N) (j : S8192x232.Idx) : ((cfg0.win 9).blk t).view.emb j = j := by
  funext a
  exact Fin.ext (at_zero ((by decide +kernel : ∀ (t : Fin grid0.N) (a : Fin 2), win0_9.index t a = 0) t a) _)

theorem emb10 (t : Fin cfg0.N) (j : S96x8192.Idx) : ((cfg0.win 10).blk t).view.emb j = j := by
  funext a
  exact Fin.ext (at_zero ((by decide +kernel : ∀ (t : Fin grid0.N) (a : Fin 2), win0_10.index t a = 0) t a) _)

variable (m : (ℓ : Loc nD τ sig) → Buf (Elt Ideal) ℓ) (ρ : Dev nD → PrngReg)

/-- The network of the arguments. -/
abbrev result (c : Dev nD) : Buf (Elt Ideal) ((c : Thread nD τ).loc main_v1) :=
  network (shapeCast S96x8192 (m ((c : Thread nD τ).loc main_arg0)) shapeCasts_S96x1x8192_S96x8192)
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))

theorem block0 (c : Dev nD) (t : Fin cfg0.N) : iblk m c 0 t = shapeCast S96x8192 (m ((c : Thread nD τ).loc main_arg0)) shapeCasts_S96x1x8192_S96x8192 := by
  funext j
  show V m c main_v0 (((cfg0.win 0).blk t).view.emb j) = _
  rw [emb0]
  rfl

theorem block1 (c : Dev nD) (t : Fin cfg0.N) : iblk m c 1 t = m ((c : Thread nD τ).loc main_arg1) := by
  funext j
  show V m c main_arg1 (((cfg0.win 1).blk t).view.emb j) = _
  rw [emb1]
  exact congrFun (V_main_arg1 m c) j

theorem block2 (c : Dev nD) (t : Fin cfg0.N) : iblk m c 2 t = m ((c : Thread nD τ).loc main_arg2) := by
  funext j
  show V m c main_arg2 (((cfg0.win 2).blk t).view.emb j) = _
  rw [emb2]
  exact congrFun (V_main_arg2 m c) j

theorem block3 (c : Dev nD) (t : Fin cfg0.N) : iblk m c 3 t = m ((c : Thread nD τ).loc main_arg3) := by
  funext j
  show V m c main_arg3 (((cfg0.win 3).blk t).view.emb j) = _
  rw [emb3]
  exact congrFun (V_main_arg3 m c) j

theorem block4 (c : Dev nD) (t : Fin cfg0.N) : iblk m c 4 t = m ((c : Thread nD τ).loc main_arg4) := by
  funext j
  show V m c main_arg4 (((cfg0.win 4).blk t).view.emb j) = _
  rw [emb4]
  exact congrFun (V_main_arg4 m c) j

theorem block5 (c : Dev nD) (t : Fin cfg0.N) : iblk m c 5 t = m ((c : Thread nD τ).loc main_arg5) := by
  funext j
  show V m c main_arg5 (((cfg0.win 5).blk t).view.emb j) = _
  rw [emb5]
  exact congrFun (V_main_arg5 m c) j

theorem block6 (c : Dev nD) (t : Fin cfg0.N) : iblk m c 6 t = m ((c : Thread nD τ).loc main_arg6) := by
  funext j
  show V m c main_arg6 (((cfg0.win 6).blk t).view.emb j) = _
  rw [emb6]
  exact congrFun (V_main_arg6 m c) j

theorem block7 (c : Dev nD) (t : Fin cfg0.N) : iblk m c 7 t = m ((c : Thread nD τ).loc main_arg7) := by
  funext j
  show V m c main_arg7 (((cfg0.win 7).blk t).view.emb j) = _
  rw [emb7]
  exact congrFun (V_main_arg7 m c) j

theorem block8 (c : Dev nD) (t : Fin cfg0.N) : iblk m c 8 t = m ((c : Thread nD τ).loc main_arg8) := by
  funext j
  show V m c main_arg8 (((cfg0.win 8).blk t).view.emb j) = _
  rw [emb8]
  exact congrFun (V_main_arg8 m c) j

theorem block9 (c : Dev nD) (t : Fin cfg0.N) : iblk m c 9 t = m ((c : Thread nD τ).loc main_arg9) := by
  funext j
  show V m c main_arg9 (((cfg0.win 9).blk t).view.emb j) = _
  rw [emb9]
  exact congrFun (V_main_arg9 m c) j

theorem hz : (![0, 0] : Fin 2 → Nat) = fun _ => 0 := by
  funext i; match i with | ⟨0, _⟩ => rfl | ⟨1, _⟩ => rfl

theorem out_eq (x0 : Vec Ideal S96x8192 .bf16) (x1 : Vec Ideal S7424x4096 .i8) (x2 x3 : Vec Ideal S7424x256 .f16)
    (x4 : Vec Ideal S7424x4096 .i8) (x5 x6 : Vec Ideal S7424x256 .f16) (x7 : Vec Ideal S8192x3712 .i8) (x8 x9 : Vec Ideal S8192x232 .f16) :
    out0_10 (F := Ideal) x0 x1 x2 x3 x4 x5 x6 x7 x8 x9 = network x0 x1 x2 x3 x4 x5 x6 x7 x8 x9 := by
  unfold out0_10
  rw [View.canon_unit_zero hz, View.ld_unit_zero (S := S96x8192) hz _ x0, View.ld_unit_zero (S := S7424x4096) hz _ x1,
    View.ld_unit_zero (S := S7424x256) hz _ x2, View.ld_unit_zero (S := S7424x256) hz _ x3,
    View.ld_unit_zero (S := S7424x4096) hz _ x4, View.ld_unit_zero (S := S7424x256) hz _ x5,
    View.ld_unit_zero (S := S7424x256) hz _ x6, View.ld_unit_zero (S := S8192x3712) hz _ x7,
    View.ld_unit_zero (S := S8192x232) hz _ x8, View.ld_unit_zero (S := S8192x232) hz _ x9]
  exact network_eq ..

theorem flushed_eq (c : Dev nD) (t : Fin cfg0.N) :
    (dats m 0 c).flushed 10 t = ((cfg0.win 10).blk t).view.read (Elt Ideal) (result m c) := by
  rw [Value.flushed10, out_eq, block0, block1, block2, block3, block4, block5, block6, block7, block8, block9]
  funext j
  show result m c j = result m c (((cfg0.win 10).blk t).view.emb j)
  rw [emb10]

theorem covered (x : S96x8192.Idx) : ∃ t : Fin cfg0.N, (cfg0.win 10).flush t = true ∧ x ∈ ((cfg0.win 10).blk t).view.set := by
  refine ⟨⟨0, by decide⟩, (by decide +kernel : ∀ t : Fin grid0.N, (cfg0.win 10).flush t = true) _, ?_⟩
  have h := ((cfg0.win 10).blk ⟨0, by decide⟩).view.emb_mem_set x
  rwa [emb10] at h

theorem final (c : Dev nD) : (dats m 0 c).arrAt 10 cfg0.N = result m c :=
  (dats m 0 c).arrAt_eq_of_cover 10 (result m c) (fun t _ => flushed_eq m c t) covered

end Cert.Reference

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Skeleton
public import proofs.«01_k».proof.Proof.Gen.ReferenceIdeal.Value
public import proofs.«01_k».proof.Proof.Gen.Kernel.Points
public import proofs.«01_k».proof.Proof.Gen.KernelIdeal.Points
public import proofs.«01_k».proof.Proof.RunKernel.Whole
public import proofs.«01_k».proof.Proof.RunKernelIdeal.Whole
public import proofs.«01_k».proof.Proof.Network
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The kernel's result array, and the reference's, are both the network of the arguments. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.Whole.result m c, ?_, ?_⟩
  · exact (θ_run _ _ _).mono (fun r h c =>
      ⟨(h.1 c _ (Cert.RunKernelIdeal.mem_uc Cert.KernelIdeal.main_v4 (by decide))).trans (Cert.Whole.final m g c),
       (h.1 c _ (Cert.RunKernelIdeal.mem_uc Cert.KernelIdeal.main_arg0 (by decide))).trans (Cert.RunKernelIdeal.W4_main_arg0 m g c),
       (h.1 c _ (Cert.RunKernelIdeal.mem_uc Cert.KernelIdeal.main_arg1 (by decide))).trans (Cert.RunKernelIdeal.W4_main_arg1 m g c),
       (h.1 c _ (Cert.RunKernelIdeal.mem_uc Cert.KernelIdeal.main_arg2 (by decide))).trans (Cert.RunKernelIdeal.W4_main_arg2 m g c),
       (h.1 c _ (Cert.RunKernelIdeal.mem_uc Cert.KernelIdeal.main_arg3 (by decide))).trans (Cert.RunKernelIdeal.W4_main_arg3 m g c),
       (h.1 c _ (Cert.RunKernelIdeal.mem_uc Cert.KernelIdeal.main_arg4 (by decide))).trans (Cert.RunKernelIdeal.W4_main_arg4 m g c),
       (h.1 c _ (Cert.RunKernelIdeal.mem_uc Cert.KernelIdeal.main_arg5 (by decide))).trans (Cert.RunKernelIdeal.W4_main_arg5 m g c),
       (h.1 c _ (Cert.RunKernelIdeal.mem_uc Cert.KernelIdeal.main_arg6 (by decide))).trans (Cert.RunKernelIdeal.W4_main_arg6 m g c),
       (h.1 c _ (Cert.RunKernelIdeal.mem_uc Cert.KernelIdeal.main_arg7 (by decide))).trans (Cert.RunKernelIdeal.W4_main_arg7 m g c),
       (h.1 c _ (Cert.RunKernelIdeal.mem_uc Cert.KernelIdeal.main_arg8 (by decide))).trans (Cert.RunKernelIdeal.W4_main_arg8 m g c),
       (h.1 c _ (Cert.RunKernelIdeal.mem_uc Cert.KernelIdeal.main_arg9 (by decide))).trans (Cert.RunKernelIdeal.W4_main_arg9 m g c)⟩)
      (Cert.RunKernelIdeal.run (F := Ideal) m g)
  · refine (θ_run _ _ _).mono (fun r h c => ⟨?_, (h c).2⟩) (Cert.ReferenceIdeal.Value.run_blocks (F := Ideal) m' g')
    obtain ⟨h0, h1, h2, h3, h4, h5, h6, h7, h8, h9⟩ := hagree c
    have e := congr (congr (congr (congr (congr (congr (congr (congr (congr (congrArg
      (fun x => Cert.Q4.network (shapeCast Cert.KernelIdeal.S96x8192 x Cert.KernelIdeal.Gen.shapeCasts_S96x1x8192_S96x8192))
      h0) h1) h2) h3) h4) h5) h6) h7) h8) h9
    exact (h c).1.trans ((Cert.Reference.final m' c).trans e)

theorem claim : Cert.Claim :=
  ⟨Cert.Kernel.Gen.facts, Cert.KernelIdeal.Gen.facts, Cert.ReferenceIdeal.Gen.facts,
    fun m ρ _ => Cert.RunKernel.frame m ρ, fun m ρ _ => Cert.RunKernelIdeal.frame m ρ,
    fun m ρ _ => Cert.ReferenceIdeal.Gen.frame m ρ, trivial, algebraic⟩

end Cert.Proof

end
